-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Operands (m : (ℓ : Loc Cert.Operands.nD Cert.Operands.τ Cert.Operands.sig) → Buf (Elt Bits) ℓ) : Prop :=
  True

def Pre_OperandsIdeal (m : (ℓ : Loc Cert.OperandsIdeal.nD Cert.OperandsIdeal.τ Cert.OperandsIdeal.sig) → Buf (Elt Ideal) ℓ) : Prop :=
  True

def Pre_OperandsReferenceIdeal (m : (ℓ : Loc Cert.OperandsReferenceIdeal.nD Cert.OperandsReferenceIdeal.τ Cert.OperandsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Operands [hOperands : Cert.Operands.Facts] : Prop :=
  ∀ (m : (ℓ : Loc Cert.Operands.nD Cert.Operands.τ Cert.Operands.sig) → Buf (Elt Bits) ℓ) (g : Dev Cert.Operands.nD → PrngReg), Pre_Operands m →
    θ_run (Cert.Operands.defs (F := Bits)) (onTc (τ := Cert.Operands.τ) (Cert.Operands.main (F := Bits))) ⟨m, fun _ => 0, g⟩ (fun r => (∀ c : Dev Cert.Operands.nD,
      r.2.mem ((c.tc : Thread Cert.Operands.nD Cert.Operands.τ).loc Cert.Operands.main_arg0) = m ((c.tc : Thread Cert.Operands.nD Cert.Operands.τ).loc Cert.Operands.main_arg0)
      ∧ r.2.mem ((c.tc : Thread Cert.Operands.nD Cert.Operands.τ).loc Cert.Operands.main_arg1) = m ((c.tc : Thread Cert.Operands.nD Cert.Operands.τ).loc Cert.Operands.main_arg1)
      ∧ r.2.mem ((c.tc : Thread Cert.Operands.nD Cert.Operands.τ).loc Cert.Operands.main_arg2) = m ((c.tc : Thread Cert.Operands.nD Cert.Operands.τ).loc Cert.Operands.main_arg2)
      ∧ r.2.mem ((c.tc : Thread Cert.Operands.nD Cert.Operands.τ).loc Cert.Operands.main_arg3) = m ((c.tc : Thread Cert.Operands.nD Cert.Operands.τ).loc Cert.Operands.main_arg3)
      ∧ r.2.mem ((c.tc : Thread Cert.Operands.nD Cert.Operands.τ).loc Cert.Operands.main_arg4) = m ((c.tc : Thread Cert.Operands.nD Cert.Operands.τ).loc Cert.Operands.main_arg4)
      ∧ r.2.mem ((c.tc : Thread Cert.Operands.nD Cert.Operands.τ).loc Cert.Operands.main_arg5) = m ((c.tc : Thread Cert.Operands.nD Cert.Operands.τ).loc Cert.Operands.main_arg5))
      ∧ r.2.sem = fun _ => 0)

def quiescent_OperandsIdeal [hOperandsIdeal : Cert.OperandsIdeal.Facts] : Prop :=
  ∀ (m : (ℓ : Loc Cert.OperandsIdeal.nD Cert.OperandsIdeal.τ Cert.OperandsIdeal.sig) → Buf (Elt Ideal) ℓ) (g : Dev Cert.OperandsIdeal.nD → PrngReg), Pre_OperandsIdeal m →
    θ_run (Cert.OperandsIdeal.defs (F := Ideal)) (onTc (τ := Cert.OperandsIdeal.τ) (Cert.OperandsIdeal.main (F := Ideal))) ⟨m, fun _ => 0, g⟩ (fun r => (∀ c : Dev Cert.OperandsIdeal.nD,
      r.2.mem ((c.tc : Thread Cert.OperandsIdeal.nD Cert.OperandsIdeal.τ).loc Cert.OperandsIdeal.main_arg0) = m ((c.tc : Thread Cert.OperandsIdeal.nD Cert.OperandsIdeal.τ).loc Cert.OperandsIdeal.main_arg0)
      ∧ r.2.mem ((c.tc : Thread Cert.OperandsIdeal.nD Cert.OperandsIdeal.τ).loc Cert.OperandsIdeal.main_arg1) = m ((c.tc : Thread Cert.OperandsIdeal.nD Cert.OperandsIdeal.τ).loc Cert.OperandsIdeal.main_arg1)
      ∧ r.2.mem ((c.tc : Thread Cert.OperandsIdeal.nD Cert.OperandsIdeal.τ).loc Cert.OperandsIdeal.main_arg2) = m ((c.tc : Thread Cert.OperandsIdeal.nD Cert.OperandsIdeal.τ).loc Cert.OperandsIdeal.main_arg2)
      ∧ r.2.mem ((c.tc : Thread Cert.OperandsIdeal.nD Cert.OperandsIdeal.τ).loc Cert.OperandsIdeal.main_arg3) = m ((c.tc : Thread Cert.OperandsIdeal.nD Cert.OperandsIdeal.τ).loc Cert.OperandsIdeal.main_arg3)
      ∧ r.2.mem ((c.tc : Thread Cert.OperandsIdeal.nD Cert.OperandsIdeal.τ).loc Cert.OperandsIdeal.main_arg4) = m ((c.tc : Thread Cert.OperandsIdeal.nD Cert.OperandsIdeal.τ).loc Cert.OperandsIdeal.main_arg4)
      ∧ r.2.mem ((c.tc : Thread Cert.OperandsIdeal.nD Cert.OperandsIdeal.τ).loc Cert.OperandsIdeal.main_arg5) = m ((c.tc : Thread Cert.OperandsIdeal.nD Cert.OperandsIdeal.τ).loc Cert.OperandsIdeal.main_arg5))
      ∧ r.2.sem = fun _ => 0)

def quiescent_OperandsReferenceIdeal [hOperandsReferenceIdeal : Cert.OperandsReferenceIdeal.Facts] : Prop :=
  ∀ (m : (ℓ : Loc Cert.OperandsReferenceIdeal.nD Cert.OperandsReferenceIdeal.τ Cert.OperandsReferenceIdeal.sig) → Buf (Elt Ideal) ℓ) (g : Dev Cert.OperandsReferenceIdeal.nD → PrngReg), Pre_OperandsReferenceIdeal m →
    θ_run (Cert.OperandsReferenceIdeal.defs (F := Ideal)) (onTc (τ := Cert.OperandsReferenceIdeal.τ) (Cert.OperandsReferenceIdeal.main (F := Ideal))) ⟨m, fun _ => 0, g⟩ (fun r => (∀ c : Dev Cert.OperandsReferenceIdeal.nD,
      r.2.mem ((c.tc : Thread Cert.OperandsReferenceIdeal.nD Cert.OperandsReferenceIdeal.τ).loc Cert.OperandsReferenceIdeal.main_arg0) = m ((c.tc : Thread Cert.OperandsReferenceIdeal.nD Cert.OperandsReferenceIdeal.τ).loc Cert.OperandsReferenceIdeal.main_arg0)
      ∧ r.2.mem ((c.tc : Thread Cert.OperandsReferenceIdeal.nD Cert.OperandsReferenceIdeal.τ).loc Cert.OperandsReferenceIdeal.main_arg1) = m ((c.tc : Thread Cert.OperandsReferenceIdeal.nD Cert.OperandsReferenceIdeal.τ).loc Cert.OperandsReferenceIdeal.main_arg1)
      ∧ r.2.mem ((c.tc : Thread Cert.OperandsReferenceIdeal.nD Cert.OperandsReferenceIdeal.τ).loc Cert.OperandsReferenceIdeal.main_arg2) = m ((c.tc : Thread Cert.OperandsReferenceIdeal.nD Cert.OperandsReferenceIdeal.τ).loc Cert.OperandsReferenceIdeal.main_arg2)
      ∧ r.2.mem ((c.tc : Thread Cert.OperandsReferenceIdeal.nD Cert.OperandsReferenceIdeal.τ).loc Cert.OperandsReferenceIdeal.main_arg3) = m ((c.tc : Thread Cert.OperandsReferenceIdeal.nD Cert.OperandsReferenceIdeal.τ).loc Cert.OperandsReferenceIdeal.main_arg3)
      ∧ r.2.mem ((c.tc : Thread Cert.OperandsReferenceIdeal.nD Cert.OperandsReferenceIdeal.τ).loc Cert.OperandsReferenceIdeal.main_arg4) = m ((c.tc : Thread Cert.OperandsReferenceIdeal.nD Cert.OperandsReferenceIdeal.τ).loc Cert.OperandsReferenceIdeal.main_arg4)
      ∧ r.2.mem ((c.tc : Thread Cert.OperandsReferenceIdeal.nD Cert.OperandsReferenceIdeal.τ).loc Cert.OperandsReferenceIdeal.main_arg5) = m ((c.tc : Thread Cert.OperandsReferenceIdeal.nD Cert.OperandsReferenceIdeal.τ).loc Cert.OperandsReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Operands_OperandsIdeal : Prop :=
  True

def algebraic_OperandsIdeal_OperandsReferenceIdeal [hOperandsIdeal : Cert.OperandsIdeal.Facts] [hOperandsReferenceIdeal : Cert.OperandsReferenceIdeal.Facts] : Prop :=
  ∀ (m : (ℓ : Loc Cert.OperandsIdeal.nD Cert.OperandsIdeal.τ Cert.OperandsIdeal.sig) → Buf (Elt Ideal) ℓ) (g : Dev Cert.OperandsIdeal.nD → PrngReg)
    (m' : (ℓ : Loc Cert.OperandsReferenceIdeal.nD Cert.OperandsReferenceIdeal.τ Cert.OperandsReferenceIdeal.sig) → Buf (Elt Ideal) ℓ) (g' : Dev Cert.OperandsReferenceIdeal.nD → PrngReg), Pre_OperandsIdeal m →
    (∀ c : Dev Cert.OperandsIdeal.nD,
      m' ((c.tc : Thread Cert.OperandsReferenceIdeal.nD Cert.OperandsReferenceIdeal.τ).loc Cert.OperandsReferenceIdeal.main_arg0) = m ((c.tc : Thread Cert.OperandsIdeal.nD Cert.OperandsIdeal.τ).loc Cert.OperandsIdeal.main_arg0)
      ∧ m' ((c.tc : Thread Cert.OperandsReferenceIdeal.nD Cert.OperandsReferenceIdeal.τ).loc Cert.OperandsReferenceIdeal.main_arg1) = m ((c.tc : Thread Cert.OperandsIdeal.nD Cert.OperandsIdeal.τ).loc Cert.OperandsIdeal.main_arg1)
      ∧ m' ((c.tc : Thread Cert.OperandsReferenceIdeal.nD Cert.OperandsReferenceIdeal.τ).loc Cert.OperandsReferenceIdeal.main_arg2) = m ((c.tc : Thread Cert.OperandsIdeal.nD Cert.OperandsIdeal.τ).loc Cert.OperandsIdeal.main_arg2)
      ∧ m' ((c.tc : Thread Cert.OperandsReferenceIdeal.nD Cert.OperandsReferenceIdeal.τ).loc Cert.OperandsReferenceIdeal.main_arg3) = m ((c.tc : Thread Cert.OperandsIdeal.nD Cert.OperandsIdeal.τ).loc Cert.OperandsIdeal.main_arg3)
      ∧ m' ((c.tc : Thread Cert.OperandsReferenceIdeal.nD Cert.OperandsReferenceIdeal.τ).loc Cert.OperandsReferenceIdeal.main_arg4) = m ((c.tc : Thread Cert.OperandsIdeal.nD Cert.OperandsIdeal.τ).loc Cert.OperandsIdeal.main_arg4)
      ∧ m' ((c.tc : Thread Cert.OperandsReferenceIdeal.nD Cert.OperandsReferenceIdeal.τ).loc Cert.OperandsReferenceIdeal.main_arg5) = m ((c.tc : Thread Cert.OperandsIdeal.nD Cert.OperandsIdeal.τ).loc Cert.OperandsIdeal.main_arg5)) →
    ∃ (v0 : (c : Dev Cert.OperandsIdeal.nD) → Buf (Elt Ideal) ((c.tc : Thread Cert.OperandsIdeal.nD Cert.OperandsIdeal.τ).loc Cert.OperandsIdeal.main_v18_0)) (v1 : (c : Dev Cert.OperandsIdeal.nD) → Buf (Elt Ideal) ((c.tc : Thread Cert.OperandsIdeal.nD Cert.OperandsIdeal.τ).loc Cert.OperandsIdeal.main_v18_1)) (v2 : (c : Dev Cert.OperandsIdeal.nD) → Buf (Elt Ideal) ((c.tc : Thread Cert.OperandsIdeal.nD Cert.OperandsIdeal.τ).loc Cert.OperandsIdeal.main_v18_2)) (v3 : (c : Dev Cert.OperandsIdeal.nD) → Buf (Elt Ideal) ((c.tc : Thread Cert.OperandsIdeal.nD Cert.OperandsIdeal.τ).loc Cert.OperandsIdeal.main_v18_3)) (v4 : (c : Dev Cert.OperandsIdeal.nD) → Buf (Elt Ideal) ((c.tc : Thread Cert.OperandsIdeal.nD Cert.OperandsIdeal.τ).loc Cert.OperandsIdeal.main_v18_4)) (v5 : (c : Dev Cert.OperandsIdeal.nD) → Buf (Elt Ideal) ((c.tc : Thread Cert.OperandsIdeal.nD Cert.OperandsIdeal.τ).loc Cert.OperandsIdeal.main_v18_5)) (v6 : (c : Dev Cert.OperandsIdeal.nD) → Buf (Elt Ideal) ((c.tc : Thread Cert.OperandsIdeal.nD Cert.OperandsIdeal.τ).loc Cert.OperandsIdeal.main_v18_6)) (v7 : (c : Dev Cert.OperandsIdeal.nD) → Buf (Elt Ideal) ((c.tc : Thread Cert.OperandsIdeal.nD Cert.OperandsIdeal.τ).loc Cert.OperandsIdeal.main_v18_7)),
      θ_run (Cert.OperandsIdeal.defs (F := Ideal)) (onTc (τ := Cert.OperandsIdeal.τ) (Cert.OperandsIdeal.main (F := Ideal))) ⟨m, fun _ => 0, g⟩ (fun r => ∀ c : Dev Cert.OperandsIdeal.nD,
          r.2.mem ((c.tc : Thread Cert.OperandsIdeal.nD Cert.OperandsIdeal.τ).loc Cert.OperandsIdeal.main_v18_0) = v0 c
          ∧ r.2.mem ((c.tc : Thread Cert.OperandsIdeal.nD Cert.OperandsIdeal.τ).loc Cert.OperandsIdeal.main_v18_1) = v1 c
          ∧ r.2.mem ((c.tc : Thread Cert.OperandsIdeal.nD Cert.OperandsIdeal.τ).loc Cert.OperandsIdeal.main_v18_2) = v2 c
          ∧ r.2.mem ((c.tc : Thread Cert.OperandsIdeal.nD Cert.OperandsIdeal.τ).loc Cert.OperandsIdeal.main_v18_3) = v3 c
          ∧ r.2.mem ((c.tc : Thread Cert.OperandsIdeal.nD Cert.OperandsIdeal.τ).loc Cert.OperandsIdeal.main_v18_4) = v4 c
          ∧ r.2.mem ((c.tc : Thread Cert.OperandsIdeal.nD Cert.OperandsIdeal.τ).loc Cert.OperandsIdeal.main_v18_5) = v5 c
          ∧ r.2.mem ((c.tc : Thread Cert.OperandsIdeal.nD Cert.OperandsIdeal.τ).loc Cert.OperandsIdeal.main_v18_6) = v6 c
          ∧ r.2.mem ((c.tc : Thread Cert.OperandsIdeal.nD Cert.OperandsIdeal.τ).loc Cert.OperandsIdeal.main_v18_7) = v7 c
          ∧ r.2.mem ((c.tc : Thread Cert.OperandsIdeal.nD Cert.OperandsIdeal.τ).loc Cert.OperandsIdeal.main_arg0) = m ((c.tc : Thread Cert.OperandsIdeal.nD Cert.OperandsIdeal.τ).loc Cert.OperandsIdeal.main_arg0)
          ∧ r.2.mem ((c.tc : Thread Cert.OperandsIdeal.nD Cert.OperandsIdeal.τ).loc Cert.OperandsIdeal.main_arg1) = m ((c.tc : Thread Cert.OperandsIdeal.nD Cert.OperandsIdeal.τ).loc Cert.OperandsIdeal.main_arg1)
          ∧ r.2.mem ((c.tc : Thread Cert.OperandsIdeal.nD Cert.OperandsIdeal.τ).loc Cert.OperandsIdeal.main_arg2) = m ((c.tc : Thread Cert.OperandsIdeal.nD Cert.OperandsIdeal.τ).loc Cert.OperandsIdeal.main_arg2)
          ∧ r.2.mem ((c.tc : Thread Cert.OperandsIdeal.nD Cert.OperandsIdeal.τ).loc Cert.OperandsIdeal.main_arg3) = m ((c.tc : Thread Cert.OperandsIdeal.nD Cert.OperandsIdeal.τ).loc Cert.OperandsIdeal.main_arg3)
          ∧ r.2.mem ((c.tc : Thread Cert.OperandsIdeal.nD Cert.OperandsIdeal.τ).loc Cert.OperandsIdeal.main_arg4) = m ((c.tc : Thread Cert.OperandsIdeal.nD Cert.OperandsIdeal.τ).loc Cert.OperandsIdeal.main_arg4)
          ∧ r.2.mem ((c.tc : Thread Cert.OperandsIdeal.nD Cert.OperandsIdeal.τ).loc Cert.OperandsIdeal.main_arg5) = m ((c.tc : Thread Cert.OperandsIdeal.nD Cert.OperandsIdeal.τ).loc Cert.OperandsIdeal.main_arg5))
      ∧ θ_run (Cert.OperandsReferenceIdeal.defs (F := Ideal)) (onTc (τ := Cert.OperandsReferenceIdeal.τ) (Cert.OperandsReferenceIdeal.main (F := Ideal))) ⟨m', fun _ => 0, g'⟩ (fun r => ∀ c : Dev Cert.OperandsReferenceIdeal.nD,
          r.2.mem ((c.tc : Thread Cert.OperandsReferenceIdeal.nD Cert.OperandsReferenceIdeal.τ).loc Cert.OperandsReferenceIdeal.main_v20_0) = v0 c
          ∧ r.2.mem ((c.tc : Thread Cert.OperandsReferenceIdeal.nD Cert.OperandsReferenceIdeal.τ).loc Cert.OperandsReferenceIdeal.main_v20_1) = v1 c
          ∧ r.2.mem ((c.tc : Thread Cert.OperandsReferenceIdeal.nD Cert.OperandsReferenceIdeal.τ).loc Cert.OperandsReferenceIdeal.main_v20_2) = v2 c
          ∧ r.2.mem ((c.tc : Thread Cert.OperandsReferenceIdeal.nD Cert.OperandsReferenceIdeal.τ).loc Cert.OperandsReferenceIdeal.main_v20_3) = v3 c
          ∧ r.2.mem ((c.tc : Thread Cert.OperandsReferenceIdeal.nD Cert.OperandsReferenceIdeal.τ).loc Cert.OperandsReferenceIdeal.main_v20_4) = v4 c
          ∧ r.2.mem ((c.tc : Thread Cert.OperandsReferenceIdeal.nD Cert.OperandsReferenceIdeal.τ).loc Cert.OperandsReferenceIdeal.main_v20_5) = v5 c
          ∧ r.2.mem ((c.tc : Thread Cert.OperandsReferenceIdeal.nD Cert.OperandsReferenceIdeal.τ).loc Cert.OperandsReferenceIdeal.main_v20_6) = v6 c
          ∧ r.2.mem ((c.tc : Thread Cert.OperandsReferenceIdeal.nD Cert.OperandsReferenceIdeal.τ).loc Cert.OperandsReferenceIdeal.main_v20_7) = v7 c
          ∧ r.2.mem ((c.tc : Thread Cert.OperandsReferenceIdeal.nD Cert.OperandsReferenceIdeal.τ).loc Cert.OperandsReferenceIdeal.main_arg0) = m' ((c.tc : Thread Cert.OperandsReferenceIdeal.nD Cert.OperandsReferenceIdeal.τ).loc Cert.OperandsReferenceIdeal.main_arg0)
          ∧ r.2.mem ((c.tc : Thread Cert.OperandsReferenceIdeal.nD Cert.OperandsReferenceIdeal.τ).loc Cert.OperandsReferenceIdeal.main_arg1) = m' ((c.tc : Thread Cert.OperandsReferenceIdeal.nD Cert.OperandsReferenceIdeal.τ).loc Cert.OperandsReferenceIdeal.main_arg1)
          ∧ r.2.mem ((c.tc : Thread Cert.OperandsReferenceIdeal.nD Cert.OperandsReferenceIdeal.τ).loc Cert.OperandsReferenceIdeal.main_arg2) = m' ((c.tc : Thread Cert.OperandsReferenceIdeal.nD Cert.OperandsReferenceIdeal.τ).loc Cert.OperandsReferenceIdeal.main_arg2)
          ∧ r.2.mem ((c.tc : Thread Cert.OperandsReferenceIdeal.nD Cert.OperandsReferenceIdeal.τ).loc Cert.OperandsReferenceIdeal.main_arg3) = m' ((c.tc : Thread Cert.OperandsReferenceIdeal.nD Cert.OperandsReferenceIdeal.τ).loc Cert.OperandsReferenceIdeal.main_arg3)
          ∧ r.2.mem ((c.tc : Thread Cert.OperandsReferenceIdeal.nD Cert.OperandsReferenceIdeal.τ).loc Cert.OperandsReferenceIdeal.main_arg4) = m' ((c.tc : Thread Cert.OperandsReferenceIdeal.nD Cert.OperandsReferenceIdeal.τ).loc Cert.OperandsReferenceIdeal.main_arg4)
          ∧ r.2.mem ((c.tc : Thread Cert.OperandsReferenceIdeal.nD Cert.OperandsReferenceIdeal.τ).loc Cert.OperandsReferenceIdeal.main_arg5) = m' ((c.tc : Thread Cert.OperandsReferenceIdeal.nD Cert.OperandsReferenceIdeal.τ).loc Cert.OperandsReferenceIdeal.main_arg5))

def Claim : Prop :=
  ∃ (hKernel : Cert.Kernel.Facts) (hKernelIdeal : Cert.KernelIdeal.Facts) (hReferenceIdeal : Cert.ReferenceIdeal.Facts) (hOperands : Cert.Operands.Facts) (hOperandsIdeal : Cert.OperandsIdeal.Facts) (hOperandsReferenceIdeal : Cert.OperandsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Operands (hOperands := hOperands)
    ∧ quiescent_OperandsIdeal (hOperandsIdeal := hOperandsIdeal)
    ∧ quiescent_OperandsReferenceIdeal (hOperandsReferenceIdeal := hOperandsReferenceIdeal)
    ∧ preserves_Kernel_KernelIdeal
    ∧ algebraic_KernelIdeal_ReferenceIdeal (hKernelIdeal := hKernelIdeal) (hReferenceIdeal := hReferenceIdeal)
    ∧ preserves_Operands_OperandsIdeal
    ∧ algebraic_OperandsIdeal_OperandsReferenceIdeal (hOperandsIdeal := hOperandsIdeal) (hOperandsReferenceIdeal := hOperandsReferenceIdeal)
-- ==== Kernel.lean ====
abbrev S2x384x384x128 : Shape := ⟨4, ![2, 384, 384, 128]⟩
abbrev S2x384x384 : Shape := ⟨3, ![2, 384, 384]⟩
abbrev S2x384x384x96 : Shape := ⟨4, ![2, 384, 384, 96]⟩
abbrev S128x512 : Shape := ⟨2, ![128, 512]⟩
abbrev S512 : Shape := ⟨1, ![512]⟩
abbrev S96x128 : Shape := ⟨2, ![96, 128]⟩
abbrev S128 : Shape := ⟨1, ![128]⟩
abbrev S128x128 : Shape := ⟨2, ![128, 128]⟩
abbrev S_ : Shape := ⟨0, ![]⟩
abbrev S512x128 : Shape := ⟨2, ![512, 128]⟩
abbrev S128x1 : Shape := ⟨2, ![128, 1]⟩
abbrev S128x96 : Shape := ⟨2, ![128, 96]⟩
abbrev S1x32x384x128 : Shape := ⟨4, ![1, 32, 384, 128]⟩
abbrev S1x32x384 : Shape := ⟨3, ![1, 32, 384]⟩
abbrev S1x32x384x96 : Shape := ⟨4, ![1, 32, 384, 96]⟩
abbrev S1x2x384x128 : Shape := ⟨4, ![1, 2, 384, 128]⟩
abbrev S2x384x128 : Shape := ⟨3, ![2, 384, 128]⟩
abbrev S768x128 : Shape := ⟨2, ![768, 128]⟩
abbrev S128x768 : Shape := ⟨2, ![128, 768]⟩
abbrev S1x2x384x96 : Shape := ⟨4, ![1, 2, 384, 96]⟩
abbrev S2x384x96 : Shape := ⟨3, ![2, 384, 96]⟩
abbrev S768x96 : Shape := ⟨2, ![768, 96]⟩
abbrev S128x384 : Shape := ⟨2, ![128, 384]⟩
abbrev S1x1x384 : Shape := ⟨3, ![1, 1, 384]⟩
abbrev S1x384 : Shape := ⟨2, ![1, 384]⟩
abbrev S384x128 : Shape := ⟨2, ![384, 128]⟩
abbrev S1x1x384x128 : Shape := ⟨4, ![1, 1, 384, 128]⟩

abbrev nBuf : Space → Nat
  | .hbm => 26
  | .vmem => 17
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384x128, .fp8e4m3⟩
  | .hbm, ⟨2, _⟩ => ⟨S2x384x384, .f32⟩
  | .hbm, ⟨3, _⟩ => ⟨S2x384x384x96, .fp8e4m3⟩
  | .hbm, ⟨4, _⟩ => ⟨S2x384x384, .f32⟩
  | .hbm, ⟨5, _⟩ => ⟨S128x512, .fp8e4m3⟩
  | .hbm, ⟨6, _⟩ => ⟨S512, .f32⟩
  | .hbm, ⟨7, _⟩ => ⟨S96x128, .fp8e4m3⟩
  | .hbm, ⟨8, _⟩ => ⟨S128, .f32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .f32⟩
  | .hbm, ⟨16, _⟩ => ⟨S512x128, .fp8e4m3⟩
  | .hbm, ⟨17, _⟩ => ⟨S128x128, .bf16⟩
  | .hbm, ⟨18, _⟩ => ⟨S128x128, .fp8e4m3⟩
  | .hbm, ⟨19, _⟩ => ⟨S128, .f32⟩
  | .hbm, ⟨20, _⟩ => ⟨S128x1, .f32⟩
  | .hbm, ⟨21, _⟩ => ⟨S128x128, .f32⟩
  | .hbm, ⟨22, _⟩ => ⟨S128x96, .fp8e4m3⟩
  | .hbm, ⟨23, _⟩ => ⟨S128x1, .f32⟩
  | .hbm, ⟨24, _⟩ => ⟨S128x128, .f32⟩
  | .hbm, ⟨25, _⟩ => ⟨S2x384x384x128, .bf16⟩
  | .local _ .vmem, ⟨0, _⟩ => ⟨S1x32x384x128, .bf16⟩
  | .local _ .vmem, ⟨1, _⟩ => ⟨S1x32x384x128, .bf16⟩
  | .local _ .vmem, ⟨2, _⟩ => ⟨S1x32x384x128, .fp8e4m3⟩
  | .local _ .vmem, ⟨3, _⟩ => ⟨S1x32x384x128, .fp8e4m3⟩
  | .local _ .vmem, ⟨4, _⟩ => ⟨S1x32x384, .f32⟩
  | .local _ .vmem, ⟨5, _⟩ => ⟨S1x32x384, .f32⟩
  | .local _ .vmem, ⟨6, _⟩ => ⟨S1x32x384x96, .fp8e4m3⟩
  | .local _ .vmem, ⟨7, _⟩ => ⟨S1x32x384x96, .fp8e4m3⟩
  | .local _ .vmem, ⟨8, _⟩ => ⟨S1x32x384, .f32⟩
  | .local _ .vmem, ⟨9, _⟩ => ⟨S1x32x384, .f32⟩
  | .local _ .vmem, ⟨10, _⟩ => ⟨S128x128, .bf16⟩
  | .local _ .vmem, ⟨11, _⟩ => ⟨S128x128, .fp8e4m3⟩
  | .local _ .vmem, ⟨12, _⟩ => ⟨S128x128, .f32⟩
  | .local _ .vmem, ⟨13, _⟩ => ⟨S128x96, .fp8e4m3⟩
  | .local _ .vmem, ⟨14, _⟩ => ⟨S128x128, .f32⟩
  | .local _ .vmem, ⟨15, _⟩ => ⟨S1x32x384x128, .bf16⟩
  | .local _ .vmem, ⟨16, _⟩ => ⟨S1x32x384x128, .bf16⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 12], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_2 : Index := 0#32
  let c0_i32 : BitVec 32 := 0#32
  let c1_i32 : BitVec 32 := 1#32
  let arg13 : BitVec 32 := Scf.iv c0_i32 c1_i32 k0_t1
  let c2_i32 : BitVec 32 := 2#32
  let v1 : BitVec 32 := Scalar.muli arg13 c2_i32
  let v4 : Index := Scalar.indexCast v1
  let c0_3 : Index := 0#32
  let c0_4 : Index := 0#32
  ![0, v4.toNat, 0, 0]
def k0_off2 (k0_t1 : Fin k0_t1_loop.trips) : Fin 4 → Nat :=
  let c0_13 : Index := 0#32
  let c0_i32 : BitVec 32 := 0#32
  let c1_i32 : BitVec 32 := 1#32
  let arg13 : BitVec 32 := Scf.iv c0_i32 c1_i32 k0_t1
  let c2_i32 : BitVec 32 := 2#32
  let v1 : BitVec 32 := Scalar.muli arg13 c2_i32
  let v18 : Index := Scalar.indexCast v1
  let c0_14 : Index := 0#32
  let c0_15 : Index := 0#32
  ![0, v18.toNat, 0, 0]
def k0_off3 (k0_t1 : Fin k0_t1_loop.trips) (c0_i32_21 : BitVec 32) : Fin 3 → Nat :=
  let c0_22 : Index := 0#32
  let c0_i32 : BitVec 32 := 0#32
  let c1_i32 : BitVec 32 := 1#32
  let arg13 : BitVec 32 := Scf.iv c0_i32 c1_i32 k0_t1
  let c2_i32 : BitVec 32 := 2#32
  let v1 : BitVec 32 := Scalar.muli arg13 c2_i32
  let v29 : BitVec 32 := Scalar.addi v1 c0_i32_21
  let v30 : Index := Scalar.indexCast v29
  let c0_23 : Index := 0#32
  ![0, v30.toNat, 0]
def k0_off4 (k0_t1 : Fin k0_t1_loop.trips) (c0_i32_27 : BitVec 32) : Fin 4 → Nat :=
  let c0_28 : Index := 0#32
  let c0_i32 : BitVec 32 := 0#32
  let c1_i32 : BitVec 32 := 1#32
  let arg13 : BitVec 32 := Scf.iv c0_i32 c1_i32 k0_t1
  let c2_i32 : BitVec 32 := 2#32
  let v1 : BitVec 32 := Scalar.muli arg13 c2_i32
  let v51 : BitVec 32 := Scalar.addi v1 c0_i32_27
  let v52 : Index := Scalar.indexCast v51
  let c0_29 : Index := 0#32
  let c0_30 : Index := 0#32
  ![0, v52.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x384x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x96 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x384x384x128 : Shape := ⟨4, ![2, 384, 384, 128]⟩
abbrev S2x384x384 : Shape := ⟨3, ![2, 384, 384]⟩
abbrev S2x384x384x96 : Shape := ⟨4, ![2, 384, 384, 96]⟩
abbrev S128x512 : Shape := ⟨2, ![128, 512]⟩
abbrev S512 : Shape := ⟨1, ![512]⟩
abbrev S96x128 : Shape := ⟨2, ![96, 128]⟩
abbrev S128 : Shape := ⟨1, ![128]⟩
abbrev S128x128 : Shape := ⟨2, ![128, 128]⟩
abbrev S294912x128 : Shape := ⟨2, ![294912, 128]⟩
abbrev S2x384x384x1 : Shape := ⟨4, ![2, 384, 384, 1]⟩
abbrev S1x1x1x128 : Shape := ⟨4, ![1, 1, 1, 128]⟩
abbrev S294912x96 : Shape := ⟨2, ![294912, 96]⟩

abbrev nBuf : Space → Nat
  | .hbm => 10
  | .vmem => 10
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384x128, .fp8e4m3⟩
  | .hbm, ⟨2, _⟩ => ⟨S2x384x384, .f32⟩
  | .hbm, ⟨3, _⟩ => ⟨S2x384x384x96, .fp8e4m3⟩
  | .hbm, ⟨4, _⟩ => ⟨S2x384x384, .f32⟩
  | .hbm, ⟨5, _⟩ => ⟨S128x512, .fp8e4m3⟩
  | .hbm, ⟨6, _⟩ => ⟨S512, .f32⟩
  | .hbm, ⟨7, _⟩ => ⟨S96x128, .fp8e4m3⟩
  | .hbm, ⟨8, _⟩ => ⟨S128, .f32⟩
  | .hbm, ⟨9, _⟩ => ⟨S2x384x384x128, .bf16⟩
  | .local _ .vmem, ⟨0, _⟩ => ⟨S2x384x384x128, .bf16⟩
  | .local _ .vmem, ⟨1, _⟩ => ⟨S2x384x384x128, .fp8e4m3⟩
  | .local _ .vmem, ⟨2, _⟩ => ⟨S2x384x384, .f32⟩
  | .local _ .vmem, ⟨3, _⟩ => ⟨S2x384x384x96, .fp8e4m3⟩
  | .local _ .vmem, ⟨4, _⟩ => ⟨S2x384x384, .f32⟩
  | .local _ .vmem, ⟨5, _⟩ => ⟨S128x512, .fp8e4m3⟩
  | .local _ .vmem, ⟨6, _⟩ => ⟨S512, .f32⟩
  | .local _ .vmem, ⟨7, _⟩ => ⟨S96x128, .fp8e4m3⟩
  | .local _ .vmem, ⟨8, _⟩ => ⟨S128, .f32⟩
  | .local _ .vmem, ⟨9, _⟩ => ⟨S2x384x384x128, .bf16⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x384x384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x384x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384x384x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384x384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Operands.lean ====
abbrev S2x384x384x128 : Shape := ⟨4, ![2, 384, 384, 128]⟩
abbrev S2x5 : Shape := ⟨2, ![2, 5]⟩
abbrev S128 : Shape := ⟨1, ![128]⟩
abbrev S128x512 : Shape := ⟨2, ![128, 512]⟩
abbrev S512 : Shape := ⟨1, ![512]⟩
abbrev S128x128 : Shape := ⟨2, ![128, 128]⟩
abbrev S_ : Shape := ⟨0, ![]⟩
abbrev S512x128 : Shape := ⟨2, ![512, 128]⟩
abbrev S384x128 : Shape := ⟨2, ![384, 128]⟩
abbrev S128x1 : Shape := ⟨2, ![128, 1]⟩
abbrev S384 : Shape := ⟨1, ![384]⟩
abbrev S384x1 : Shape := ⟨2, ![384, 1]⟩
abbrev S2x384x384 : Shape := ⟨3, ![2, 384, 384]⟩
abbrev S2x384x384x96 : Shape := ⟨4, ![2, 384, 384, 96]⟩
abbrev S2x384x96 : Shape := ⟨3, ![2, 384, 96]⟩
abbrev S2x96x384x384 : Shape := ⟨4, ![2, 96, 384, 384]⟩
abbrev S1x32x384x128 : Shape := ⟨4, ![1, 32, 384, 128]⟩
abbrev S1x32x384 : Shape := ⟨3, ![1, 32, 384]⟩
abbrev S1x32x384x96 : Shape := ⟨4, ![1, 32, 384, 96]⟩
abbrev S1x32x96 : Shape := ⟨3, ![1, 32, 96]⟩
abbrev S1x96x32x384 : Shape := ⟨4, ![1, 96, 32, 384]⟩
abbrev S3x3168x128 : Shape := ⟨3, ![3, 3168, 128]⟩
abbrev S96x128 : Shape := ⟨2, ![96, 128]⟩
abbrev S1x384 : Shape := ⟨2, ![1, 384]⟩
abbrev S1x1 : Shape := ⟨2, ![1, 1]⟩
abbrev S1x2x384x128 : Shape := ⟨4, ![1, 2, 384, 128]⟩
abbrev S2x384x128 : Shape := ⟨3, ![2, 384, 128]⟩
abbrev S768x128 : Shape := ⟨2, ![768, 128]⟩
abbrev S128x768 : Shape := ⟨2, ![128, 768]⟩
abbrev S768 : Shape := ⟨1, ![768]⟩
abbrev S1x768 : Shape := ⟨2, ![1, 768]⟩
abbrev S384x768 : Shape := ⟨2, ![384, 768]⟩
abbrev S128x384 : Shape := ⟨2, ![128, 384]⟩
abbrev S1x1x384x128 : Shape := ⟨4, ![1, 1, 384, 128]⟩
abbrev S1x1x384 : Shape := ⟨3, ![1, 1, 384]⟩
abbrev S96x384 : Shape := ⟨2, ![96, 384]⟩
abbrev S96 : Shape := ⟨1, ![96]⟩
abbrev S96x1 : Shape := ⟨2, ![96, 1]⟩
abbrev S384x96 : Shape := ⟨2, ![384, 96]⟩
abbrev S1x1x384x96 : Shape := ⟨4, ![1, 1, 384, 96]⟩
abbrev S1x96x128 : Shape := ⟨3, ![1, 96, 128]⟩
abbrev S128x96 : Shape := ⟨2, ![128, 96]⟩
abbrev S32x96 : Shape := ⟨2, ![32, 96]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 33
  | .vmem => 27
  | .smem => 1
  | _ => 0

abbrev bufTy : (tb : Table) → Fin (tcTables nBuf tb) → BufTy
  | .hbm, ⟨0, _⟩ => ⟨S2x384x384x128, .bf16⟩
  | .hbm, ⟨1, _⟩ => ⟨S128, .f32⟩
  | .hbm, ⟨2, _⟩ => ⟨S128, .f32⟩
  | .hbm, ⟨3, _⟩ => ⟨S128x512, .fp8e4m3⟩
  | .hbm, ⟨4, _⟩ => ⟨S512, .f32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S128x128, .bf16⟩
  | .hbm, ⟨16, _⟩ => ⟨S512x128, .fp8e4m3⟩
  | .hbm, ⟨17, _⟩ => ⟨S384x128, .fp8e4m3⟩
  | .hbm, ⟨18, _⟩ => ⟨S128x1, .f32⟩
  | .hbm, ⟨19, _⟩ => ⟨S128x128, .f32⟩
  | .hbm, ⟨20, _⟩ => ⟨S128x1, .f32⟩
  | .hbm, ⟨21, _⟩ => ⟨S128x128, .f32⟩
  | .hbm, ⟨22, _⟩ => ⟨S384, .f32⟩
  | .hbm, ⟨23, _⟩ => ⟨S384x1, .f32⟩
  | .hbm, ⟨24, _⟩ => ⟨S384x128, .f32⟩
  | .hbm, ⟨25, _⟩ => ⟨S2x384x384x128, .fp8e4m3⟩
  | .hbm, ⟨26, _⟩ => ⟨S2x384x384, .f32⟩
  | .hbm, ⟨27, _⟩ => ⟨S2x384x384x96, .fp8e4m3⟩
  | .hbm, ⟨28, _⟩ => ⟨S2x384x96, .f32⟩
  | .hbm, ⟨29, _⟩ => ⟨S2x384x384x96, .fp8e4m3⟩
  | .hbm, ⟨30, _⟩ => ⟨S2x384x96, .f32⟩
  | .hbm, ⟨31, _⟩ => ⟨S2x96x384x384, .fp8e4m3⟩
  | .hbm, ⟨32, _⟩ => ⟨S2x96x384x384, .fp8e4m3⟩
  | .local _ .vmem, ⟨0, _⟩ => ⟨S1x32x384x128, .bf16⟩
  | .local _ .vmem, ⟨1, _⟩ => ⟨S1x32x384x128, .bf16⟩
  | .local _ .vmem, ⟨2, _⟩ => ⟨S128x128, .bf16⟩
  | .local _ .vmem, ⟨3, _⟩ => ⟨S384x128, .fp8e4m3⟩
  | .local _ .vmem, ⟨4, _⟩ => ⟨S128x128, .f32⟩
  | .local _ .vmem, ⟨5, _⟩ => ⟨S128x128, .f32⟩
  | .local _ .vmem, ⟨6, _⟩ => ⟨S384x128, .f32⟩
  | .local _ .vmem, ⟨7, _⟩ => ⟨S1x32x384x128, .fp8e4m3⟩
  | .local _ .vmem, ⟨8, _⟩ => ⟨S1x32x384x128, .fp8e4m3⟩
  | .local _ .vmem, ⟨9, _⟩ => ⟨S1x32x384, .f32⟩
  | .local _ .vmem, ⟨10, _⟩ => ⟨S1x32x384, .f32⟩
  | .local _ .vmem, ⟨11, _⟩ => ⟨S1x32x384x96, .fp8e4m3⟩
  | .local _ .vmem, ⟨12, _⟩ => ⟨S1x32x384x96, .fp8e4m3⟩
  | .local _ .vmem, ⟨13, _⟩ => ⟨S1x32x96, .f32⟩
  | .local _ .vmem, ⟨14, _⟩ => ⟨S1x32x96, .f32⟩
  | .local _ .vmem, ⟨15, _⟩ => ⟨S1x32x384x96, .fp8e4m3⟩
  | .local _ .vmem, ⟨16, _⟩ => ⟨S1x32x384x96, .fp8e4m3⟩
  | .local _ .vmem, ⟨17, _⟩ => ⟨S1x32x96, .f32⟩
  | .local _ .vmem, ⟨18, _⟩ => ⟨S1x32x96, .f32⟩
  | .local _ .vmem, ⟨19, _⟩ => ⟨S1x96x32x384, .fp8e4m3⟩
  | .local _ .vmem, ⟨20, _⟩ => ⟨S1x96x32x384, .fp8e4m3⟩
  | .local _ .vmem, ⟨21, _⟩ => ⟨S1x96x32x384, .fp8e4m3⟩
  | .local _ .vmem, ⟨22, _⟩ => ⟨S1x96x32x384, .fp8e4m3⟩
  | .local _ .vmem, ⟨23, _⟩ => ⟨S3x3168x128, .f32⟩
  | .local _ .vmem, ⟨24, _⟩ => ⟨S3x3168x128, .f32⟩
  | .local _ .vmem, ⟨25, _⟩ => ⟨S96x128, .f32⟩
  | .local _ .vmem, ⟨26, _⟩ => ⟨S96x128, .f32⟩
  | .local _ .smem, ⟨0, _⟩ => ⟨S2x5, .i32⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 12], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let c1 : Index := 1#32
  ![v3.toNat, 1]
def k0_off2 (i : grid0.Coords) : Fin 2 → Nat :=
  let arg0 : BitVec 32 := BitVec.ofNat 32 (i 0).val
  let v9 : Index := Scalar.indexCast arg0
  let c2 : Index := 2#32
  ![v9.toNat, 2]
def k0_off3 (i : grid0.Coords) : Fin 2 → Nat :=
  let arg0 : BitVec 32 := BitVec.ofNat 32 (i 0).val
  let v15 : Index := Scalar.indexCast arg0
  let c3 : Index := 3#32
  ![v15.toNat, 3]
def k0_off4 (i : grid0.Coords) : Fin 2 → Nat :=
  let arg0 : BitVec 32 := BitVec.ofNat 32 (i 0).val
  let v21 : Index := Scalar.indexCast arg0
  let c4 : Index := 4#32
  ![v21.toNat, 4]
@[reducible] def k0_t1_loop : Scf.Loop 32 :=
  let c0_i32_0 : BitVec 32 := 0#32
  let c16_i32 : BitVec 32 := 16#32
  let v28 : BitVec 32 := Scalar.addi c0_i32_0 c16_i32
  let c1_i32 : BitVec 32 := 1#32
  ⟨c0_i32_0, v28, c1_i32⟩
def k0_off5 (k0_t1 : Fin k0_t1_loop.trips) : Fin 4 → Nat :=
  let c0_14 : Index := 0#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v43 : Index := Scalar.indexCast v42
  let c0_15 : Index := 0#32
  let c0_16 : Index := 0#32
  ![0, v43.toNat, 0, 0]
def k0_off6 (k0_t1 : Fin k0_t1_loop.trips) (c0_i32_36 : BitVec 32) : Fin 4 → Nat :=
  let c0_37 : Index := 0#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v92 : Index := Scalar.indexCast v89
  let c0_38 : Index := 0#32
  let c0_39 : Index := 0#32
  ![0, v92.toNat, 0, 0]
def k0_off7 (k0_t1 : Fin k0_t1_loop.trips) (c0_i32_36 : BitVec 32) : Fin 3 → Nat :=
  let c0_40 : Index := 0#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v97 : Index := Scalar.indexCast v89
  let c0_41 : Index := 0#32
  ![0, v97.toNat, 0]
def k0_off8 (i : grid0.Coords) : Fin 2 → Nat :=
  let arg0 : BitVec 32 := BitVec.ofNat 32 (i 0).val
  let v102 : Index := Scalar.indexCast arg0
  let c1_42 : Index := 1#32
  ![v102.toNat, 1]
def k0_off9 (i : grid0.Coords) : Fin 2 → Nat :=
  let arg0 : BitVec 32 := BitVec.ofNat 32 (i 0).val
  let v107 : Index := Scalar.indexCast arg0
  let c2_44 : Index := 2#32
  ![v107.toNat, 2]
def k0_off10 (i : grid0.Coords) : Fin 2 → Nat :=
  let arg0 : BitVec 32 := BitVec.ofNat 32 (i 0).val
  let v112 : Index := Scalar.indexCast arg0
  let c3_45 : Index := 3#32
  ![v112.toNat, 3]
def k0_off11 (i : grid0.Coords) : Fin 2 → Nat :=
  let arg0 : BitVec 32 := BitVec.ofNat 32 (i 0).val
  let v117 : Index := Scalar.indexCast arg0
  let c4_46 : Index := 4#32
  ![v117.toNat, 4]
def k0_off12 (k0_t1 : Fin k0_t1_loop.trips) (c0_i32_36 : BitVec 32) : Fin 4 → Nat :=
  let c0_57 : Index := 0#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v165 : Index := Scalar.indexCast v89
  let c0_58 : Index := 0#32
  let c0_59 : Index := 0#32
  ![0, v165.toNat, 0, 0]
def k0_off13 (k0_t1 : Fin k0_t1_loop.trips) (c0_i32_36 : BitVec 32) : Fin 3 → Nat :=
  let c0_60 : Index := 0#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v171 : Index := Scalar.indexCast v89
  let c0_61 : Index := 0#32
  ![0, v171.toNat, 0]
def k0_off14 (k0_t1 : Fin k0_t1_loop.trips) (c0_i32_36 : BitVec 32) : Fin 3 → Nat :=
  let c1_62 : Index := 1#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v177 : Index := Scalar.indexCast v89
  let c0_63 : Index := 0#32
  ![1, v177.toNat, 0]
def k0_off15 (k0_t1 : Fin k0_t1_loop.trips) (c0_i32_36 : BitVec 32) : Fin 3 → Nat :=
  let c2_64 : Index := 2#32
  let c0_i32_0 : BitVec 32 := 0#32
  let c1_i32 : BitVec 32 := 1#32
  let arg21 : BitVec 32 := Scf.iv c0_i32_0 c1_i32 k0_t1
  let c2_i32 : BitVec 32 := 2#32
  let v42 : BitVec 32 := Scalar.muli arg21 c2_i32
  let v89 : BitVec 32 := Scalar.addi v42 c0_i32_36
  let v183 : Index := Scalar.indexCast v89
  let c0_65 : Index := 0#32
  ![2, v183.toNat, 0]
@[reducible] def k0_t2_loop : Scf.Loop 32 :=
  let c0_i32_11 : BitVec 32 := 0#32
  let c24_i32 : BitVec 32 := 24#32
  let v41 : BitVec 32 := Scalar.addi c0_i32_11 c24_i32
  let c1_i32_12 : BitVec 32 := 1#32
  ⟨c0_i32_11, v41, c1_i32_12⟩
def k0_off16 (k0_t2 : Fin k0_t2_loop.trips) (c0_i32_14 : BitVec 32) : Fin 3 → Nat :=
  let c0_15 : Index := 0#32
  let c0_i32_11 : BitVec 32 := 0#32
  let c1_i32_12 : BitVec 32 := 1#32
  let arg21 : BitVec 32 := Scf.iv c0_i32_11 c1_i32_12 k0_t2
  let c4_i32 : BitVec 32 := 4#32
  let v42 : BitVec 32 := Scalar.muli arg21 c4_i32
  let v43 : BitVec 32 := Scalar.addi v42 c0_i32_14
  let c33_i32 : BitVec 32 := 33#32
  let v44 : BitVec 32 := Scalar.muli v43 c33_i32
  let v45 : Index := Scalar.indexCast v44
  let c0_16 : Index := 0#32
  ![0, v45.toNat, 0]
def k0_off17 (k0_t2 : Fin k0_t2_loop.trips) (c0_i32_18 : BitVec 32) : Fin 4 → Nat :=
  let c0_19 : Index := 0#32
  let c0_i32_11 : BitVec 32 := 0#32
  let c1_i32_12 : BitVec 32 := 1#32
  let arg21 : BitVec 32 := Scf.iv c0_i32_11 c1_i32_12 k0_t2
  let c4_i32_17 : BitVec 32 := 4#32
  let v49 : BitVec 32 := Scalar.muli arg21 c4_i32_17
  let v50 : BitVec 32 := Scalar.addi v49 c0_i32_18
  let v51 : Index := Scalar.indexCast v50
  let c0_20 : Index := 0#32
  let c0_21 : Index := 0#32
  ![0, v51.toNat, 0, 0]
def k0_off18 (k0_t2 : Fin k0_t2_loop.trips) (c0_i32_51 : BitVec 32) : Fin 3 → Nat :=
  let c1_53 : Index := 1#32
  let c0_i32_11 : BitVec 32 := 0#32
  let c1_i32_12 : BitVec 32 := 1#32
  let arg21 : BitVec 32 := Scf.iv c0_i32_11 c1_i32_12 k0_t2
  let c4_i32_50 : BitVec 32 := 4#32
  let v94 : BitVec 32 := Scalar.muli arg21 c4_i32_50
  let v95 : BitVec 32 := Scalar.addi v94 c0_i32_51
  let c33_i32_52 : BitVec 32 := 33#32
  let v96 : BitVec 32 := Scalar.muli v95 c33_i32_52
  let v97 : Index := Scalar.indexCast v96
  let c0_54 : Index := 0#32
  ![1, v97.toNat, 0]
def k0_off19 (k0_t2 : Fin k0_t2_loop.trips) (c0_i32_56 : BitVec 32) : Fin 4 → Nat :=
  let c0_57 : Index := 0#32
  let c0_i32_11 : BitVec 32 := 0#32
  let c1_i32_12 : BitVec 32 := 1#32
  let arg21 : BitVec 32 := Scf.iv c0_i32_11 c1_i32_12 k0_t2
  let c4_i32_55 : BitVec 32 := 4#32
  let v101 : BitVec 32 := Scalar.muli arg21 c4_i32_55
  let v102 : BitVec 32 := Scalar.addi v101 c0_i32_56
  let v103 : Index := Scalar.indexCast v102
  let c0_58 : Index := 0#32
  let c128 : Index := 128#32
  ![0, v103.toNat, 0, 128]
def k0_off20 (k0_t2 : Fin k0_t2_loop.trips) (c0_i32_90 : BitVec 32) : Fin 3 → Nat :=
  let c2_92 : Index := 2#32
  let c0_i32_11 : BitVec 32 := 0#32
  let c1_i32_12 : BitVec 32 := 1#32
  let arg21 : BitVec 32 := Scf.iv c0_i32_11 c1_i32_12 k0_t2
  let c4_i32_89 : BitVec 32 := 4#32
  let v146 : BitVec 32 := Scalar.muli arg21 c4_i32_89
  let v147 : BitVec 32 := Scalar.addi v146 c0_i32_90
  let c33_i32_91 : BitVec 32 := 33#32
  let v148 : BitVec 32 := Scalar.muli v147 c33_i32_91
  let v149 : Index := Scalar.indexCast v148
  let c0_93 : Index := 0#32
  ![2, v149.toNat, 0]
def k0_off21 (k0_t2 : Fin k0_t2_loop.trips) (c0_i32_95 : BitVec 32) : Fin 4 → Nat :=
  let c0_96 : Index := 0#32
  let c0_i32_11 : BitVec 32 := 0#32
  let c1_i32_12 : BitVec 32 := 1#32
  let arg21 : BitVec 32 := Scf.iv c0_i32_11 c1_i32_12 k0_t2
  let c4_i32_94 : BitVec 32 := 4#32
  let v153 : BitVec 32 := Scalar.muli arg21 c4_i32_94
  let v154 : BitVec 32 := Scalar.addi v153 c0_i32_95
  let v155 : Index := Scalar.indexCast v154
  let c0_97 : Index := 0#32
  let c256 : Index := 256#32
  ![0, v155.toNat, 0, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x384x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x384x96 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x384x96 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x96x32x384 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x96x32x384 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OperandsReferenceIdeal.lean ====
abbrev S2x384x384x128 : Shape := ⟨4, ![2, 384, 384, 128]⟩
abbrev S2x5 : Shape := ⟨2, ![2, 5]⟩
abbrev S128 : Shape := ⟨1, ![128]⟩
abbrev S128x512 : Shape := ⟨2, ![128, 512]⟩
abbrev S512 : Shape := ⟨1, ![512]⟩
abbrev S384 : Shape := ⟨1, ![384]⟩
abbrev S1x384x1 : Shape := ⟨3, ![1, 384, 1]⟩
abbrev S2x4 : Shape := ⟨2, ![2, 4]⟩
abbrev S2x1x4 : Shape := ⟨3, ![2, 1, 4]⟩
abbrev S2x384x4 : Shape := ⟨3, ![2, 384, 4]⟩
abbrev S_ : Shape := ⟨0, ![]⟩
abbrev S2x384 : Shape := ⟨2, ![2, 384]⟩
abbrev S2x384x1 : Shape := ⟨3, ![2, 384, 1]⟩
abbrev S2x1x384 : Shape := ⟨3, ![2, 1, 384]⟩
abbrev S2x384x384 : Shape := ⟨3, ![2, 384, 384]⟩
abbrev S2x384x384x96 : Shape := ⟨4, ![2, 384, 384, 96]⟩
abbrev S2x384x96 : Shape := ⟨3, ![2, 384, 96]⟩
abbrev S2x96x384x384 : Shape := ⟨4, ![2, 96, 384, 384]⟩
abbrev S2x384x384x1 : Shape := ⟨4, ![2, 384, 384, 1]⟩
abbrev S1x1x1x128 : Shape := ⟨4, ![1, 1, 1, 128]⟩
abbrev S128x96 : Shape := ⟨2, ![128, 96]⟩
abbrev S96 : Shape := ⟨1, ![96]⟩
abbrev S294912x128 : Shape := ⟨2, ![294912, 128]⟩
abbrev S294912x96 : Shape := ⟨2, ![294912, 96]⟩
abbrev S1x1x1x96 : Shape := ⟨4, ![1, 1, 1, 96]⟩
abbrev S2x384x1x96 : Shape := ⟨4, ![2, 384, 1, 96]⟩

abbrev nBuf : Space → Nat
  | .hbm => 36
  | .vmem => 14
  | .smem => 0
  | _ => 0

abbrev bufTy : (tb : Table) → Fin (tcTables nBuf tb) → BufTy
  | .hbm, ⟨0, _⟩ => ⟨S2x384x384x128, .bf16⟩
  | .hbm, ⟨1, _⟩ => ⟨S2x5, .i32⟩
  | .hbm, ⟨2, _⟩ => ⟨S128, .f32⟩
  | .hbm, ⟨3, _⟩ => ⟨S128, .f32⟩
  | .hbm, ⟨4, _⟩ => ⟨S128x512, .fp8e4m3⟩
  | .hbm, ⟨5, _⟩ => ⟨S512, .f32⟩
  | .hbm, ⟨6, _⟩ => ⟨S384, .i32⟩
  | .hbm, ⟨7, _⟩ => ⟨S1x384x1, .i32⟩
  | .hbm, ⟨8, _⟩ => ⟨S2x4, .i32⟩
  | .hbm, ⟨9, _⟩ => ⟨S2x1x4, .i32⟩
  | .hbm, ⟨10, _⟩ => ⟨S2x384x4, .i32⟩
  | .hbm, ⟨11, _⟩ => ⟨S2x384x4, .i32⟩
  | .hbm, ⟨12, _⟩ => ⟨S2x384x4, .i1⟩
  | .hbm, ⟨13, _⟩ => ⟨S2x384x4, .i32⟩
  | .hbm, ⟨14, _⟩ => ⟨S_, .i32⟩
  | .hbm, ⟨15, _⟩ => ⟨S2x384, .i32⟩
  | .hbm, ⟨16, _⟩ => ⟨S2x384x1, .i32⟩
  | .hbm, ⟨17, _⟩ => ⟨S2x1x384, .i32⟩
  | .hbm, ⟨18, _⟩ => ⟨S2x384x384, .i32⟩
  | .hbm, ⟨19, _⟩ => ⟨S2x384x384, .i32⟩
  | .hbm, ⟨20, _⟩ => ⟨S2x384x384, .i1⟩
  | .hbm, ⟨21, _⟩ => ⟨S2x384x1, .i32⟩
  | .hbm, ⟨22, _⟩ => ⟨S_, .i32⟩
  | .hbm, ⟨23, _⟩ => ⟨S2x384x1, .i32⟩
  | .hbm, ⟨24, _⟩ => ⟨S2x384x1, .i1⟩
  | .hbm, ⟨25, _⟩ => ⟨S2x384x384, .i1⟩
  | .hbm, ⟨26, _⟩ => ⟨S2x384x384, .i1⟩
  | .hbm, ⟨27, _⟩ => ⟨S2x384x384, .f32⟩
  | .hbm, ⟨28, _⟩ => ⟨S2x384x384x128, .fp8e4m3⟩
  | .hbm, ⟨29, _⟩ => ⟨S2x384x384, .f32⟩
  | .hbm, ⟨30, _⟩ => ⟨S2x384x384x96, .fp8e4m3⟩
  | .hbm, ⟨31, _⟩ => ⟨S2x384x96, .f32⟩
  | .hbm, ⟨32, _⟩ => ⟨S2x384x384x96, .fp8e4m3⟩
  | .hbm, ⟨33, _⟩ => ⟨S2x384x96, .f32⟩
  | .hbm, ⟨34, _⟩ => ⟨S2x96x384x384, .fp8e4m3⟩
  | .hbm, ⟨35, _⟩ => ⟨S2x96x384x384, .fp8e4m3⟩
  | .local _ .vmem, ⟨0, _⟩ => ⟨S2x384x384x128, .bf16⟩
  | .local _ .vmem, ⟨1, _⟩ => ⟨S2x384x384, .f32⟩
  | .local _ .vmem, ⟨2, _⟩ => ⟨S128, .f32⟩
  | .local _ .vmem, ⟨3, _⟩ => ⟨S128, .f32⟩
  | .local _ .vmem, ⟨4, _⟩ => ⟨S128x512, .fp8e4m3⟩
  | .local _ .vmem, ⟨5, _⟩ => ⟨S512, .f32⟩
  | .local _ .vmem, ⟨6, _⟩ => ⟨S2x384x384x128, .fp8e4m3⟩
  | .local _ .vmem, ⟨7, _⟩ => ⟨S2x384x384, .f32⟩
  | .local _ .vmem, ⟨8, _⟩ => ⟨S2x384x384x96, .fp8e4m3⟩
  | .local _ .vmem, ⟨9, _⟩ => ⟨S2x384x96, .f32⟩
  | .local _ .vmem, ⟨10, _⟩ => ⟨S2x384x384x96, .fp8e4m3⟩
  | .local _ .vmem, ⟨11, _⟩ => ⟨S2x384x96, .f32⟩
  | .local _ .vmem, ⟨12, _⟩ => ⟨S2x96x384x384, .fp8e4m3⟩
  | .local _ .vmem, ⟨13, _⟩ => ⟨S2x96x384x384, .fp8e4m3⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev main_v20_7 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x384x384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384x384x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384x384x96 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x384x384x96 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x384x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x96x384x384 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x96x384x384 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.OutputBody.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.OutVal

open Cert.KernelIdeal Cert.KernelIdeal.Gen
open Idealize.ShloMosaic Idealize.ShloMosaic.TcCoe Idealize.SL.Sem

/-- What the output kernel computes at row `r`, column `k`, channel `d` of a block: the residual through the selector matrix, plus
    the gate times the projection. -/
def cell (x0 : FVec Ideal S1x32x384x128 .bf16) (x1 : FVec Ideal S1x32x384x128 .fp8e4m3) (x2 : FVec Ideal S1x32x384 .f32)
    (x3 : FVec Ideal S1x32x384x96 .fp8e4m3) (x4 : FVec Ideal S1x32x384 .f32) (x5 : FVec Ideal S128x128 .bf16)
    (x6 : FVec Ideal S128x128 .fp8e4m3) (x7 : FVec Ideal S128x128 .f32) (x8 : FVec Ideal S128x96 .fp8e4m3)
    (x9 : FVec Ideal S128x128 .f32) (r : Fin 32) (k : Fin 384) (d : Fin 128) : EReal :=
  (∑ e : Fin 128, x5 (ix2 d e) * x0 (ix4 0 r k e))
    + Ideal.logistic ((∑ e : Fin 128, x6 (ix2 d e) * x1 (ix4 0 r k e)) * x2 (ix3 0 r k) * x7 (ix2 d ⟨k.val % 128, by omega⟩))
      * ((∑ e : Fin 96, x8 (ix2 d e) * x3 (ix4 0 r k e)) * x4 (ix3 0 r k) * x9 (ix2 d ⟨k.val % 128, by omega⟩))

/-- The same as one block. -/
def blockF (x0 : FVec Ideal S1x32x384x128 .bf16) (x1 : FVec Ideal S1x32x384x128 .fp8e4m3) (x2 : FVec Ideal S1x32x384 .f32)
    (x3 : FVec Ideal S1x32x384x96 .fp8e4m3) (x4 : FVec Ideal S1x32x384 .f32) (x5 : FVec Ideal S128x128 .bf16)
    (x6 : FVec Ideal S128x128 .fp8e4m3) (x7 : FVec Ideal S128x128 .f32) (x8 : FVec Ideal S128x96 .fp8e4m3)
    (x9 : FVec Ideal S128x128 .f32) : Vec Ideal S1x32x384x128 .bf16 :=
  fun y => cell x0 x1 x2 x3 x4 x5 x6 x7 x8 x9 (y 1) (y 2) (y 3)

/-- The first row of scales, repeated along the columns, at a column. -/
theorem pay5_at (v : FVec Ideal S128x128 .f32) (d : Fin 128) (k : Fin 384) :
    k0_pay5 (F := Ideal) v (ix2 d k) = v (ix2 d ⟨k.val % 128, by omega⟩) := by
  pointwise [k0_pay5]
  by_cases h : k.val < 128
  · rw [dif_pos h]; exact congrArg v (by idx_ext)
  · rw [dif_neg h]
    by_cases h2 : k.val - 128 < 128
    · rw [dif_pos h2]; exact congrArg v (by idx_ext)
    · rw [dif_neg h2]; exact congrArg v (by idx_ext)

/-- The second row of scales, repeated along the columns, at a column. -/
theorem pay6_at (v : FVec Ideal S128x128 .f32) (d : Fin 128) (k : Fin 384) :
    k0_pay6 (F := Ideal) v (ix2 d k) = v (ix2 d ⟨k.val % 128, by omega⟩) := pay5_at v d k

/-- The word of the first of trip `k`'s two rows. -/
theorem row0 (k : Fin k0_t1_loop.trips) : BitVec.toNat (Scalar.indexCast (Scalar.addi (Scalar.muli (Scf.iv 0#32 1#32 k.val) 2#32) 0#32)) = 2 * k.val :=
  (by decide +kernel : ∀ k : Fin k0_t1_loop.trips, BitVec.toNat (Scalar.indexCast (Scalar.addi (Scalar.muli (Scf.iv 0#32 1#32 k.val) 2#32) 0#32)) = 2 * k.val) k

/-- The word of the second of trip `k`'s two rows. -/
theorem row1 (k : Fin k0_t1_loop.trips) : BitVec.toNat (Scalar.indexCast (Scalar.addi (Scalar.muli (Scf.iv 0#32 1#32 k.val) 2#32) 1#32)) = 2 * k.val + 1 :=
  (by decide +kernel : ∀ k : Fin k0_t1_loop.trips, BitVec.toNat (Scalar.indexCast (Scalar.addi (Scalar.muli (Scf.iv 0#32 1#32 k.val) 2#32) 1#32)) = 2 * k.val + 1) k

/-- The word of the first row of trip `k`'s pair of rows. -/
theorem rows (k : Fin k0_t1_loop.trips) : BitVec.toNat (Scalar.indexCast (Scalar.muli (Scf.iv 0#32 1#32 k.val) 2#32)) = 2 * k.val :=
  (by decide +kernel : ∀ k : Fin k0_t1_loop.trips, BitVec.toNat (Scalar.indexCast (Scalar.muli (Scf.iv 0#32 1#32 k.val) 2#32)) = 2 * k.val) k

variable (𝒱 : Variants) (c : Dev nD) (bd : Option 𝒱.V)

theorem trip_read (i : grid0.Coords) (arg2 : Memref sig .tc .vmem S1x32x384x128 .bf16) (harg2 : arg2.IsWhole) (arg3 : Memref sig .tc .vmem S1x32x384x128 .fp8e4m3) (harg3 : arg3.IsWhole) (arg4 : Memref sig .tc .vmem S1x32x384 .f32) (harg4 : arg4.IsWhole) (arg5 : Memref sig .tc .vmem S1x32x384x96 .fp8e4m3) (harg5 : arg5.IsWhole) (arg6 : Memref sig .tc .vmem S1x32x384 .f32) (harg6 : arg6.IsWhole) (arg7 : Memref sig .tc .vmem S128x128 .bf16) (harg7 : arg7.IsWhole) (arg8 : Memref sig .tc .vmem S128x128 .fp8e4m3) (harg8 : arg8.IsWhole) (arg9 : Memref sig .tc .vmem S128x128 .f32) (harg9 : arg9.IsWhole) (arg10 : Memref sig .tc .vmem S128x96 .fp8e4m3) (harg10 : arg10.IsWhole) (arg11 : Memref sig .tc .vmem S128x128 .f32) (harg11 : arg11.IsWhole) (arg12 : Memref sig .tc .vmem S1x32x384x128 .bf16) (harg12 : arg12.IsWhole)
    (x0 : Vec Ideal S1x32x384x128 .bf16) (x1 : Vec Ideal S1x32x384x128 .fp8e4m3) (x2 : Vec Ideal S1x32x384 .f32)
    (x3 : Vec Ideal S1x32x384x96 .fp8e4m3) (x4 : Vec Ideal S1x32x384 .f32) (x5 : Vec Ideal S128x128 .bf16)
    (x6 : Vec Ideal S128x128 .fp8e4m3) (x7 : Vec Ideal S128x128 .f32) (x8 : Vec Ideal S128x96 .fp8e4m3)
    (x9 : Vec Ideal S128x128 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5) (harg8.unread x6) (harg9.unread x7) (harg10.unread x8) (harg11.unread x9) k,
      ∀ x : p.1.shape.Idx, p.2 x = blockF x0 x1 x2 x3 x4 x5 x6 x7 x8 x9 (p.1.emb x) := by
  unfold tripL_k0_t1 trip_k0_t1
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  intro p hp x
  have hk : k.val < 16 := Nat.lt_of_lt_of_le k.isLt k0_t1_abs.2.1
  rcases List.mem_cons.1 hp with rfl | hp
  · clear hp
    revert x; show ∀ x : S1x1x384x128.Idx, _
    intro x
    refine Eq.trans (b := cell x0 x1 x2 x3 x4 x5 x6 x7 x8 x9 ⟨2 * k.val + 1, by omega⟩ (x 2) (x 3)) ?_ ?_
    · idx_vars x
      pointwise [k0_pay1, k0_pay9, k0_pay8, k0_pay2, k0_pay3, k0_pay4, pay5_at, pay6_at, k0_pay7, cell, row0, row1, rows]
      blk_point
    · have h1 : BitVec.toNat (Scalar.indexCast (Scalar.addi (Scalar.muli (Scf.iv 0#32 1#32 k.val) 2#32) 1#32)) + 1 * (x 1).val = 2 * k.val + 1 := by
        have hx : (x 1).val < 1 := (x 1).isLt
        rw [row1]; omega
      show _ = cell _ _ _ _ _ _ _ _ _ _ _ _ _
      congr 1
      · exact Fin.ext h1.symm
      · exact Fin.ext (by show (x 2).val = 0 + 1 * (x 2).val; omega)
      · exact Fin.ext (by show (x 3).val = 0 + 1 * (x 3).val; omega)
  · obtain rfl := List.mem_singleton.1 hp
    clear hp
    revert x; show ∀ x : S1x1x384x128.Idx, _
    intro x
    refine Eq.trans (b := cell x0 x1 x2 x3 x4 x5 x6 x7 x8 x9 ⟨2 * k.val, by omega⟩ (x 2) (x 3)) ?_ ?_
    · idx_vars x
      pointwise [k0_pay1, k0_pay9, k0_pay8, k0_pay2, k0_pay3, k0_pay4, pay5_at, pay6_at, k0_pay7, cell, row0, row1, rows]
      blk_point
    · have h1 : BitVec.toNat (Scalar.indexCast (Scalar.addi (Scalar.muli (Scf.iv 0#32 1#32 k.val) 2#32) 0#32)) + 1 * (x 1).val = 2 * k.val := by
        have hx : (x 1).val < 1 := (x 1).isLt
        rw [row0]; omega
      show _ = cell _ _ _ _ _ _ _ _ _ _ _ _ _
      congr 1
      · exact Fin.ext h1.symm
      · exact Fin.ext (by show (x 2).val = 0 + 1 * (x 2).val; omega)
      · exact Fin.ext (by show (x 3).val = 0 + 1 * (x 3).val; omega)

/-- Every piece of the trips before `n` restricts the one function `cell`. -/
theorem pb_read (i : grid0.Coords) (arg2 : Memref sig .tc .vmem S1x32x384x128 .bf16) (harg2 : arg2.IsWhole) (arg3 : Memref sig .tc .vmem S1x32x384x128 .fp8e4m3) (harg3 : arg3.IsWhole) (arg4 : Memref sig .tc .vmem S1x32x384 .f32) (harg4 : arg4.IsWhole) (arg5 : Memref sig .tc .vmem S1x32x384x96 .fp8e4m3) (harg5 : arg5.IsWhole) (arg6 : Memref sig .tc .vmem S1x32x384 .f32) (harg6 : arg6.IsWhole) (arg7 : Memref sig .tc .vmem S128x128 .bf16) (harg7 : arg7.IsWhole) (arg8 : Memref sig .tc .vmem S128x128 .fp8e4m3) (harg8 : arg8.IsWhole) (arg9 : Memref sig .tc .vmem S128x128 .f32) (harg9 : arg9.IsWhole) (arg10 : Memref sig .tc .vmem S128x96 .fp8e4m3) (harg10 : arg10.IsWhole) (arg11 : Memref sig .tc .vmem S128x128 .f32) (harg11 : arg11.IsWhole) (arg12 : Memref sig .tc .vmem S1x32x384x128 .bf16) (harg12 : arg12.IsWhole)
    (x0 : Vec Ideal S1x32x384x128 .bf16) (x1 : Vec Ideal S1x32x384x128 .fp8e4m3) (x2 : Vec Ideal S1x32x384 .f32)
    (x3 : Vec Ideal S1x32x384x96 .fp8e4m3) (x4 : Vec Ideal S1x32x384 .f32) (x5 : Vec Ideal S128x128 .bf16)
    (x6 : Vec Ideal S128x128 .fp8e4m3) (x7 : Vec Ideal S128x128 .f32) (x8 : Vec Ideal S128x96 .fp8e4m3)
    (x9 : Vec Ideal S128x128 .f32) :
    ∀ n : Nat, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5) (harg8.unread x6) (harg9.unread x7) (harg10.unread x8) (harg11.unread x9) n,
      ∀ x : p.1.shape.Idx, p.2 x = blockF x0 x1 x2 x3 x4 x5 x6 x7 x8 x9 (p.1.emb x)
  | 0, _ => fun p hp => absurd hp (by rw [pb_k0_t1.eq_1]; exact List.not_mem_nil)
  | n + 1, hn => fun p hp => by
    rw [pb_k0_t1_succ (F := Ideal) 𝒱 c bd i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) (harg11.unread x9) ⟨n, hn⟩] at hp
    rcases List.mem_append.1 hp with h | h
    · exact trip_read 𝒱 c bd i arg2 harg2 arg3 harg3 arg4 harg4 arg5 harg5 arg6 harg6 arg7 harg7 arg8 harg8 arg9 harg9 arg10 harg10 arg11 harg11 arg12 harg12 x0 x1 x2 x3 x4 x5 x6 x7 x8 x9 ⟨n, hn⟩ p h
    · exact pb_read i arg2 harg2 arg3 harg3 arg4 harg4 arg5 harg5 arg6 harg6 arg7 harg7 arg8 harg8 arg9 harg9 arg10 harg10 arg11 harg11 arg12 harg12 x0 x1 x2 x3 x4 x5 x6 x7 x8 x9 n (Nat.le_of_succ_le hn) p h

/-- What the body leaves in the output block: `cell` at every index. -/
theorem out_read (i : grid0.Coords) (arg2 : Memref sig .tc .vmem S1x32x384x128 .bf16) (harg2 : arg2.IsWhole) (arg3 : Memref sig .tc .vmem S1x32x384x128 .fp8e4m3) (harg3 : arg3.IsWhole) (arg4 : Memref sig .tc .vmem S1x32x384 .f32) (harg4 : arg4.IsWhole) (arg5 : Memref sig .tc .vmem S1x32x384x96 .fp8e4m3) (harg5 : arg5.IsWhole) (arg6 : Memref sig .tc .vmem S1x32x384 .f32) (harg6 : arg6.IsWhole) (arg7 : Memref sig .tc .vmem S128x128 .bf16) (harg7 : arg7.IsWhole) (arg8 : Memref sig .tc .vmem S128x128 .fp8e4m3) (harg8 : arg8.IsWhole) (arg9 : Memref sig .tc .vmem S128x128 .f32) (harg9 : arg9.IsWhole) (arg10 : Memref sig .tc .vmem S128x96 .fp8e4m3) (harg10 : arg10.IsWhole) (arg11 : Memref sig .tc .vmem S128x128 .f32) (harg11 : arg11.IsWhole) (arg12 : Memref sig .tc .vmem S1x32x384x128 .bf16) (harg12 : arg12.IsWhole)
    (x0 : Vec Ideal S1x32x384x128 .bf16) (x1 : Vec Ideal S1x32x384x128 .fp8e4m3) (x2 : Vec Ideal S1x32x384 .f32)
    (x3 : Vec Ideal S1x32x384x96 .fp8e4m3) (x4 : Vec Ideal S1x32x384 .f32) (x5 : Vec Ideal S128x128 .bf16)
    (x6 : Vec Ideal S128x128 .fp8e4m3) (x7 : Vec Ideal S128x128 .f32) (x8 : Vec Ideal S128x96 .fp8e4m3)
    (x9 : Vec Ideal S128x128 .f32) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9
      = blockF x0 x1 x2 x3 x4 x5 x6 x7 x8 x9 := by
  funext y
  have hc := cover0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9
  unfold out0_A_10
  rw [View.read_writes_eq_canon _ _ _ hc]
  refine View.canon_apply_of_pieces (blockF x0 x1 x2 x3 x4 x5 x6 x7 x8 x9) _ ?_ y ?_
  · unfold kernelRun0_A
    dsimp only
    exact pb_read Variants.none c none i arg2 harg2 arg3 harg3 arg4 harg4 arg5 harg5 arg6 harg6 arg7 harg7 arg8 harg8 arg9 harg9 arg10 harg10 arg11 harg11 arg12 harg12 x0 x1 x2 x3 x4 x5 x6 x7 x8 x9 _ le_rfl
  · exact hc y

end Cert.KernelIdeal.OutVal

end
-- ==== Proof.OutputValue.lean ====
module

public import proofs.«01_k».proof.Proof.OutputBody
public import proofs.«01_k».proof.Proof.Gen.KernelIdeal.Value
public import proofs.«01_k».proof.Proof.Gen.ReferenceIdeal.Value
public import Idealize.ShloMosaic.Lib.Claim

@[expose] public section

set_option maxRecDepth 16384

noncomputable section

namespace Cert.KernelIdeal.OutVal

open Cert.KernelIdeal Cert.KernelIdeal.Gen
open Idealize.ShloMosaic Idealize.ShloMosaic.TcCoe Idealize.SL.Sem

variable (m : (ℓ : Loc nD τ sig) → Buf (Elt Ideal) ℓ)

/-- The block index of every window at every grid point. -/
theorem idx : ∀ t : Fin cfg0.N, win0_0.index t = ![t.val / 12, t.val % 12, 0, 0] ∧ win0_1.index t = ![t.val / 12, t.val % 12, 0, 0]
    ∧ win0_2.index t = ![t.val / 12, t.val % 12, 0] ∧ win0_3.index t = ![t.val / 12, t.val % 12, 0, 0] ∧ win0_4.index t = ![t.val / 12, t.val % 12, 0]
    ∧ win0_5.index t = ![0, 0] ∧ win0_6.index t = ![0, 0] ∧ win0_7.index t = ![0, 0] ∧ win0_8.index t = ![0, 0] ∧ win0_9.index t = ![0, 0]
    ∧ win0_10.index t = ![t.val / 12, t.val % 12, 0, 0] ∧ t.val / 12 < 2 :=
  (by decide +kernel : ∀ t : Fin grid0.N, _)

/-- The selector matrix the host builds, as loaded: one on the diagonal, zero off it. -/
theorem eye_at (c : Dev nD) (d e : Fin 128) : (V m c main_v7 : FVec Ideal S128x128 .bf16) (ix2 d e) = if d = e then (1 : EReal) else 0 := by
  entry_read
  pointwise
  by_cases h : d = e
  · subst h
    rw [if_pos rfl]
    have h1 : IntOp.cmpi CmpIPredicate.eq (IntOp.addi (BitVec.ofNat 32 d.val) 0#32) (BitVec.ofNat 32 d.val) = 1#1 := by
      simp [IntOp.cmpi, IntOp.addi]
    rw [h1]
    show ((((1#1 : BitVec 1).toNat : ℕ) : ℝ) : EReal) = 1
    simp
  · rw [if_neg h]
    have h1 : IntOp.cmpi CmpIPredicate.eq (IntOp.addi (BitVec.ofNat 32 d.val) 0#32) (BitVec.ofNat 32 e.val) = 0#1 := by
      have hne : BitVec.ofNat 32 d.val ≠ BitVec.ofNat 32 e.val := fun h' => h (Fin.ext (by
        have := congrArg BitVec.toNat h'
        rw [BitVec.toNat_ofNat, BitVec.toNat_ofNat] at this; omega))
      simp [IntOp.cmpi, IntOp.addi, beq_eq_false_iff_ne.2 hne]
    rw [h1]
    show ((((0#1 : BitVec 1).toNat : ℕ) : ℝ) : EReal) = 0
    simp

theorem wg_at (c : Dev nD) (d e : Fin 128) : (V m c main_v8 : FVec Ideal S128x128 .fp8e4m3) (ix2 d e)
    = (m ((c : Thread nD τ).loc main_arg5) : FVec Ideal S128x512 .fp8e4m3) (ix2 e ⟨384 + d.val, by omega⟩) := by
  entry_read
  pointwise

theorem sg_at (c : Dev nD) (d e : Fin 128) : (V m c main_v11 : FVec Ideal S128x128 .f32) (ix2 d e)
    = (m ((c : Thread nD τ).loc main_arg6) : FVec Ideal S512 .f32) (ix1 ⟨384 + d.val, by omega⟩) := by
  entry_read
  pointwise

theorem wo_at (c : Dev nD) (d : Fin 128) (e : Fin 96) : (V m c main_v12 : FVec Ideal S128x96 .fp8e4m3) (ix2 d e)
    = (m ((c : Thread nD τ).loc main_arg7) : FVec Ideal S96x128 .fp8e4m3) (ix2 e d) := by
  entry_read
  pointwise

theorem so_at (c : Dev nD) (d e : Fin 128) : (V m c main_v14 : FVec Ideal S128x128 .f32) (ix2 d e)
    = (m ((c : Thread nD τ).loc main_arg8) : FVec Ideal S128 .f32) (ix1 d) := by
  entry_read
  pointwise

/-- The reference at an index. -/
theorem ref_at (a0 : FVec Ideal S2x384x384x128 .bf16) (a1 : FVec Ideal S2x384x384x128 .fp8e4m3) (a2 : FVec Ideal S2x384x384 .f32)
    (a3 : FVec Ideal S2x384x384x96 .fp8e4m3) (a4 : FVec Ideal S2x384x384 .f32) (a5 : FVec Ideal S128x512 .fp8e4m3) (a6 : FVec Ideal S512 .f32)
    (a7 : FVec Ideal S96x128 .fp8e4m3) (a8 : FVec Ideal S128 .f32) (b : Fin 2) (i j : Fin 384) (d : Fin 128) :
    Cert.ReferenceIdeal.Value.G9 (F := Ideal) a0 a1 a2 a3 a4 a5 a6 a7 a8 (ix4 b i j d)
      = a0 (ix4 b i j d) + Ideal.logistic ((∑ e : Fin 128, a1 (ix4 b i j e) * a5 (ix2 e ⟨384 + d.val, by omega⟩)) * a2 (ix3 b i j) * a6 (ix1 ⟨384 + d.val, by omega⟩))
        * ((∑ e : Fin 96, a3 (ix4 b i j e) * a7 (ix2 e d)) * a4 (ix3 b i j) * a8 (ix1 d)) := by
  pointwise [Cert.ReferenceIdeal.Value.G9, Cert.ReferenceIdeal.Gen.k0_pay1]

/-- The selector matrix picks the channel it names. -/
theorem eye_sum (c : Dev nD) (d : Fin 128) (f : Fin 128 → EReal) :
    (∑ e : Fin 128, (show EReal from (V m c main_v7 : FVec Ideal S128x128 .bf16) (ix2 d e)) * f e) = f d := by
  refine (Finset.sum_eq_single d ?_ ?_).trans ?_
  · intro e _ h
    show (show EReal from (V m c main_v7 : FVec Ideal S128x128 .bf16) (ix2 d e)) * f e = 0
    rw [show (show EReal from (V m c main_v7 : FVec Ideal S128x128 .bf16) (ix2 d e)) = 0 from (eye_at m c d e).trans (if_neg (Ne.symm h)), zero_mul]
  · intro h; exact absurd (Finset.mem_univ d) h
  · rw [show (show EReal from (V m c main_v7 : FVec Ideal S128x128 .bf16) (ix2 d d)) = 1 from (eye_at m c d d).trans (if_pos rfl), one_mul]

/-! The input blocks of a grid point, read in their arrays. -/

theorem blk0 (c : Dev nD) (t : Fin cfg0.N) (r : Fin 32) (k : Fin 384) (e : Fin 128) (h : t.val / 12 < 2) :
    (iblk m c 0 t : FVec Ideal S1x32x384x128 .bf16) (ix4 0 r k e)
      = (m ((c : Thread nD τ).loc main_arg0) : FVec Ideal S2x384x384x128 .bf16) (ix4 ⟨t.val / 12, h⟩ ⟨t.val % 12 * 32 + r.val, by omega⟩ k e) := by
  blk_ext [iblk, V, idx t]

theorem blk1 (c : Dev nD) (t : Fin cfg0.N) (r : Fin 32) (k : Fin 384) (e : Fin 128) (h : t.val / 12 < 2) :
    (iblk m c 1 t : FVec Ideal S1x32x384x128 .fp8e4m3) (ix4 0 r k e)
      = (m ((c : Thread nD τ).loc main_arg1) : FVec Ideal S2x384x384x128 .fp8e4m3) (ix4 ⟨t.val / 12, h⟩ ⟨t.val % 12 * 32 + r.val, by omega⟩ k e) := by
  blk_ext [iblk, V, idx t]

theorem blk2 (c : Dev nD) (t : Fin cfg0.N) (r : Fin 32) (k : Fin 384) (h : t.val / 12 < 2) :
    (iblk m c 2 t : FVec Ideal S1x32x384 .f32) (ix3 0 r k)
      = (m ((c : Thread nD τ).loc main_arg2) : FVec Ideal S2x384x384 .f32) (ix3 ⟨t.val / 12, h⟩ ⟨t.val % 12 * 32 + r.val, by omega⟩ k) := by
  blk_ext [iblk, V, idx t]

theorem blk3 (c : Dev nD) (t : Fin cfg0.N) (r : Fin 32) (k : Fin 384) (e : Fin 96) (h : t.val / 12 < 2) :
    (iblk m c 3 t : FVec Ideal S1x32x384x96 .fp8e4m3) (ix4 0 r k e)
      = (m ((c : Thread nD τ).loc main_arg3) : FVec Ideal S2x384x384x96 .fp8e4m3) (ix4 ⟨t.val / 12, h⟩ ⟨t.val % 12 * 32 + r.val, by omega⟩ k e) := by
  blk_ext [iblk, V, idx t]

theorem blk4 (c : Dev nD) (t : Fin cfg0.N) (r : Fin 32) (k : Fin 384) (h : t.val / 12 < 2) :
    (iblk m c 4 t : FVec Ideal S1x32x384 .f32) (ix3 0 r k)
      = (m ((c : Thread nD τ).loc main_arg4) : FVec Ideal S2x384x384 .f32) (ix3 ⟨t.val / 12, h⟩ ⟨t.val % 12 * 32 + r.val, by omega⟩ k) := by
  blk_ext [iblk, V, idx t]

theorem blk5 (c : Dev nD) (t : Fin cfg0.N) : iblk m c 5 t = V m c main_v7 := by
  blk_ext! [iblk, idx t]

theorem blk6 (c : Dev nD) (t : Fin cfg0.N) : iblk m c 6 t = V m c main_v8 := by
  blk_ext! [iblk, idx t]

theorem blk7 (c : Dev nD) (t : Fin cfg0.N) : iblk m c 7 t = V m c main_v11 := by
  blk_ext! [iblk, idx t]

theorem blk8 (c : Dev nD) (t : Fin cfg0.N) : iblk m c 8 t = V m c main_v12 := by
  blk_ext! [iblk, idx t]

theorem blk9 (c : Dev nD) (t : Fin cfg0.N) : iblk m c 9 t = V m c main_v14 := by
  blk_ext! [iblk, idx t]

/-- What the body computes at a grid point is the reference's term at the place of the block. -/
theorem point (c : Dev nD) (t : Fin cfg0.N) (r : Fin 32) (k : Fin 384) (d : Fin 128) (h : t.val / 12 < 2) :
    cell (iblk m c 0 t) (iblk m c 1 t) (iblk m c 2 t) (iblk m c 3 t) (iblk m c 4 t) (iblk m c 5 t) (iblk m c 6 t) (iblk m c 7 t) (iblk m c 8 t) (iblk m c 9 t) r k d
    = Cert.ReferenceIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (ix4 ⟨t.val / 12, h⟩ ⟨t.val % 12 * 32 + r.val, by omega⟩ k d) := by
  rw [ref_at, blk5, blk6, blk7, blk8, blk9]
  unfold cell
  refine congrArg₂ (fun a b : EReal => a + b) ((eye_sum m c d _).trans (blk0 m c t r k d h)) (congrArg₂ (fun a b : EReal => Ideal.logistic a * b) ?_ ?_)
  · refine congrArg₂ (fun a b : EReal => a * b) (congrArg₂ (fun a b : EReal => a * b) (Finset.sum_congr rfl fun e _ => ?_) (blk2 m c t r k h)) (sg_at m c d _)
    exact (congrArg₂ (fun a b : EReal => a * b) (wg_at m c d e) (blk1 m c t r k e h)).trans (mul_comm _ _)
  · refine congrArg₂ (fun a b : EReal => a * b) (congrArg₂ (fun a b : EReal => a * b) (Finset.sum_congr rfl fun e _ => ?_) (blk4 m c t r k h)) (so_at m c d _)
    exact (congrArg₂ (fun a b : EReal => a * b) (wo_at m c d e) (blk3 m c t r k e h)).trans (mul_comm _ _)

/-- The result array after the run is the reference's term of the arguments. -/
theorem final (c : Dev nD) : (dats m 0 c).arrAt 10 (cfgs 0).N
    = Cert.ReferenceIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  unfold outsAt0
  rw [out_read]
  obtain ⟨-, -, -, -, -, -, -, -, -, -, e10, h⟩ := idx t
  refine (point m c t (y 1) (y 2) (y 3) h).trans (congrArg _ ?_)
  funext a
  apply Fin.ext
  match a with
  | ⟨0, _⟩ => blk_simp [e10]
  | ⟨1, _⟩ => blk_simp [e10]; rfl
  | ⟨2, _⟩ => blk_simp [e10]; rfl
  | ⟨3, _⟩ => blk_simp [e10]; rfl

end Cert.KernelIdeal.OutVal

end
-- ==== Proof.OperandsPoints.lean ====
/- The grid points of `Operands`: which block each window stages and when it is fetched. -/
module

public import proofs.«01_k».proof.Proof.Gen.Operands
public import Idealize.ShloMosaic.Lib.Pipeline.Kit

@[expose] public section

noncomputable section

namespace Cert.Operands.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%8)) is fetched at the first point only, at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_const cc0_transform_1 (fun _ _ => rfl) (n := 24) (by decide) t : ∀ t : Fin grid0.N, Pipeline.Window.fetchOf grid0 false cc0_transform_1 t = true ↔ t.val % 24 = 0)
/-- Window 2 (operand 3 (%10)) is fetched at the first point only, at any contents of the tables (its index map reads none). -/
theorem fetch0_2 (a : (pcfg0 (F := F)).Adm) : ∀ t : Fin (cfg0 a).N, ((cfg0 a).win 2).fetch t = true ↔ t.val % 24 = 0 :=
  (fun t => Pipeline.Window.fetchOf_const cc0_transform_2 (fun _ _ => rfl) (n := 24) (by decide) t : ∀ t : Fin grid0.N, Pipeline.Window.fetchOf grid0 false cc0_transform_2 t = true ↔ t.val % 24 = 0)
/-- Window 3 (operand 4 (%12)) is fetched at the first point only, at any contents of the tables (its index map reads none). -/
theorem fetch0_3 (a : (pcfg0 (F := F)).Adm) : ∀ t : Fin (cfg0 a).N, ((cfg0 a).win 3).fetch t = true ↔ t.val % 24 = 0 :=
  (fun t => Pipeline.Window.fetchOf_const cc0_transform_3 (fun _ _ => rfl) (n := 24) (by decide) t : ∀ t : Fin grid0.N, Pipeline.Window.fetchOf grid0 false cc0_transform_3 t = true ↔ t.val % 24 = 0)
/-- Window 4 (operand 5 (%14)) is fetched at the first point only, at any contents of the tables (its index map reads none). -/
theorem fetch0_4 (a : (pcfg0 (F := F)).Adm) : ∀ t : Fin (cfg0 a).N, ((cfg0 a).win 4).fetch t = true ↔ t.val % 24 = 0 :=
  (fun t => Pipeline.Window.fetchOf_const cc0_transform_4 (fun _ _ => rfl) (n := 24) (by decide) t : ∀ t : Fin grid0.N, Pipeline.Window.fetchOf grid0 false cc0_transform_4 t = true ↔ t.val % 24 = 0)
/-- Window 5 (operand 6 (%17)) is fetched at the first point only, at any contents of the tables (its index map reads none). -/
theorem fetch0_5 (a : (pcfg0 (F := F)).Adm) : ∀ t : Fin (cfg0 a).N, ((cfg0 a).win 5).fetch t = true ↔ t.val % 24 = 0 :=
  (fun t => Pipeline.Window.fetchOf_const cc0_transform_5 (fun _ _ => rfl) (n := 24) (by decide) t : ∀ t : Fin grid0.N, Pipeline.Window.fetchOf grid0 false cc0_transform_5 t = true ↔ t.val % 24 = 0)
/-- Window 6 (result 0 (%18#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 1 (%18#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 (%18#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 3 (%18#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 4 (%18#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 1 (fun _ => rfl) (by decide)) (P := 1) (m := 0) (by decide) rfl t).mpr (Nat.mod_one _) : ∀ t : Fin grid0.N, Pipeline.Window.flushOf grid0 true cc0_transform_10 t = true)
/-- Window 11 (result 5 (%18#5)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)
/-- Window 12 (result 6 (%18#6)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 2 (fun _ => rfl) (by decide)) (P := 1) (m := 0) (by decide) rfl t).mpr (Nat.mod_one _) : ∀ t : Fin grid0.N, Pipeline.Window.flushOf grid0 true cc0_transform_12 t = true)
/-- Window 13 (result 7 (%18#7)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_operands (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Operands.Gen

end
-- ==== Proof.OperandsRuns.lean ====
/- What the certificate of `Operands` is stated over: the contents of the buffers when the grid
   starts, the windows' blocks, the staging buffers and the scratch. -/
module

public import proofs.«01_k».proof.Proof.Gen.Operands.Launch
public import proofs.«01_k».proof.Proof.Gen.Operands.Skeleton
public import proofs.«01_k».proof.Proof.OperandsPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Operands.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x5 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Operands`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x384x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S384x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x32x384x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x32x384 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x32x384x96 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x32x96 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x32x384x96 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x32x96 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x96x32x384 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x96x32x384 .fp8e4m3 := spec0_13.stage ((cfgM m hO).slots t 13)
abbrev hs0_13 (hO : Ok m) (t : Fin (cfgM m hO).N) : (ms0_13 m hO t).IsWhole := hstage0_13 (((cfgM m hO).slots t 13).cast nbuf0_13)
/-- The scratch operands: whole scoped buffers of the kernel's own, passed beside the windows. -/
abbrev scM0_0 : Memref sig .tc .vmem S3x3168x128 .f32 := Memref.whole cc0_scratch0
abbrev scM0_1 : Memref sig .tc .vmem S3x3168x128 .f32 := Memref.whole cc0_scratch1
abbrev scM0_2 : Memref sig .tc .vmem S96x128 .f32 := Memref.whole cc0_scratch2
abbrev scM0_3 : Memref sig .tc .vmem S96x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Operands.Gen

end
-- ==== Proof.OperandsLoops.lean ====
/- The first counted loop of `Operands`: what one trip over two rows of the block writes, and the
   loop invariant that lists the pieces the trips before `k` have written. -/
module

public import proofs.«01_k».proof.Proof.Gen.Operands.Loops

@[expose] public section

set_option maxRecDepth 8192
set_option maxHeartbeats 4000000

noncomputable section

namespace Cert.Operands.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_operands` -/
/-- One trip's resources: what the region reads (arg2, arg3, arg4, arg5, arg6, arg7, arg8) at its
   contents, what it writes (arg9, arg10, arg11, arg13, arg17, arg18, arg19, arg20) at any. -/
abbrev Trip_k0_t1 (c : Dev nD) (arg2 : Memref sig .tc .smem S2x5 .i32) (arg3 : Memref sig .tc .vmem S1x32x384x128 .bf16) (arg4 : Memref sig .tc .vmem S128x128 .bf16) (arg5 : Memref sig .tc .vmem S384x128 .fp8e4m3) (arg6 : Memref sig .tc .vmem S128x128 .f32) (arg7 : Memref sig .tc .vmem S128x128 .f32) (arg8 : Memref sig .tc .vmem S384x128 .f32) (arg9 : Memref sig .tc .vmem S1x32x384x128 .fp8e4m3) (arg10 : Memref sig .tc .vmem S1x32x384 .f32) (arg11 : Memref sig .tc .vmem S1x32x384x96 .fp8e4m3) (arg13 : Memref sig .tc .vmem S1x32x384x96 .fp8e4m3) (arg17 : Memref sig .tc .vmem S3x3168x128 .f32) (arg18 : Memref sig .tc .vmem S3x3168x128 .f32) (arg19 : Memref sig .tc .vmem S96x128 .f32) (arg20 : Memref sig .tc .vmem S96x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg13.view.loc (c : Thread nD τ) ↦[arg13.view.set]{fullShare} f_arg13) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20))

/-- ONE TRIP of `k0_t1_loop` at a symbolic `k`, run by `sl_exec` (its rectangles' offsets closed
   forms of `k`, their geometry linear arithmetic): the pieces it writes into arg9, arg10, arg11,
   arg13, arg17, arg18, arg19, arg20 are the run's own finds — the witnesses `sl_close` assigns
   handing the buffers to the continuation, as functions of the contents the trip finds in the
   memrefs it writes (the region loads some of them back). `@[irreducible]`: cited, never unfolded. -/
@[irreducible] def trip_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) :
    Σ' (L_arg9 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x128 .fp8e4m3))) (L_arg10 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384 .f32))) (L_arg11 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x96 .fp8e4m3))) (L_arg13 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x96 .fp8e4m3))) (L_arg17 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S3x3168x128 .f32))) (L_arg18 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S3x3168x128 .f32))) (L_arg19 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S96x128 .f32))) , { L_arg20 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S96x128 .f32)) // ∀ (E : Set ℕ) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty),
      Trip_k0_t1 (F := F) c arg2 arg3 arg4 arg5 arg6 arg7 arg8 arg9 arg10 arg11 arg13 arg17 arg18 arg19 arg20 X_arg2 X_arg3 X_arg4 X_arg5 X_arg6 X_arg7 X_arg8 f_arg9 f_arg10 f_arg11 f_arg13 f_arg17 f_arg18 f_arg19 f_arg20
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 k PUnit.unit)
          (fun _ => Trip_k0_t1 (F := F) c arg2 arg3 arg4 arg5 arg6 arg7 arg8 arg9 arg10 arg11 arg13 arg17 arg18 arg19 arg20 X_arg2 X_arg3 X_arg4 X_arg5 X_arg6 X_arg7 X_arg8 (arg9.view.writes (Elt F) f_arg9 (L_arg9 f_arg9 f_arg10 f_arg11 f_arg13 f_arg17 f_arg18 f_arg19 f_arg20)) (arg10.view.writes (Elt F) f_arg10 (L_arg10 f_arg9 f_arg10 f_arg11 f_arg13 f_arg17 f_arg18 f_arg19 f_arg20)) (arg11.view.writes (Elt F) f_arg11 (L_arg11 f_arg9 f_arg10 f_arg11 f_arg13 f_arg17 f_arg18 f_arg19 f_arg20)) (arg13.view.writes (Elt F) f_arg13 (L_arg13 f_arg9 f_arg10 f_arg11 f_arg13 f_arg17 f_arg18 f_arg19 f_arg20)) (arg17.view.writes (Elt F) f_arg17 (L_arg17 f_arg9 f_arg10 f_arg11 f_arg13 f_arg17 f_arg18 f_arg19 f_arg20)) (arg18.view.writes (Elt F) f_arg18 (L_arg18 f_arg9 f_arg10 f_arg11 f_arg13 f_arg17 f_arg18 f_arg19 f_arg20)) (arg19.view.writes (Elt F) f_arg19 (L_arg19 f_arg9 f_arg10 f_arg11 f_arg13 f_arg17 f_arg18 f_arg19 f_arg20)) (arg20.view.writes (Elt F) f_arg20 (L_arg20 f_arg9 f_arg10 f_arg11 f_arg13 f_arg17 f_arg18 f_arg19 f_arg20))) } := by
  have hk : k.val < 16 := Nat.lt_of_lt_of_le k.isLt k0_t1_abs.2.1
  refine ⟨?_, ?_, ?_, ?_, ?_, ?_, ?_, ?_, fun E f_arg9 f_arg10 f_arg11 f_arg13 f_arg17 f_arg18 f_arg19 f_arg20 => ?run⟩
  case run =>
    unfold k0_t1_body
    iintro ⟨HR_arg2, HR_arg3, HR_arg4, HR_arg5, HR_arg6, HR_arg7, HR_arg8, HW_arg9, HW_arg10, HW_arg11, HW_arg13, HW_arg17, HW_arg18, HW_arg19, HW_arg20⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.2.1 f_arg9 f_arg10 f_arg11 f_arg13 f_arg17 f_arg18 f_arg19 f_arg20)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) (prev : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32)) : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.2.2 ++ prev.2.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) : ℕ → List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32)
  | 0 => ([], [], [], [], [], [], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k)

theorem pb_k0_t1_succ (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2) := by
  rw [pb_k0_t1.eq_2]; unfold pb_k0_t1Step; exact dif_pos k.isLt

/-- THE INVARIANT before trip `k`: arg2, arg3, arg4, arg5, arg6, arg7, arg8 read at `X_·`; arg9,
   arg10, arg11, arg13, arg17, arg18, arg19, arg20 holding the pieces of the trips before `k`
   written over the contents at loop entry `G_·` (stated `∃ f, … ∗ ⌜f = …⌝`, so that a hypothesis of
   any contents matches and the equation is what is proved). -/
abbrev inv_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.1⌝) ∗ (∃ f, (arg13.view.loc (c : Thread nD τ) ↦[arg13.view.set]{fullShare} f) ∗ ⌜f = arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.1⌝) ∗ (∃ f, (arg17.view.loc (c : Thread nD τ) ↦[arg17.view.set]{fullShare} f) ∗ ⌜f = arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.1⌝) ∗ (∃ f, (arg18.view.loc (c : Thread nD τ) ↦[arg18.view.set]{fullShare} f) ∗ ⌜f = arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.1⌝) ∗ (∃ f, (arg19.view.loc (c : Thread nD τ) ↦[arg19.view.set]{fullShare} f) ∗ ⌜f = arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.2.1⌝) ∗ (∃ f, (arg20.view.loc (c : Thread nD τ) ↦[arg20.view.set]{fullShare} f) ∗ ⌜f = arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20
  step k acc := by
    iintro ⟨HR_arg2, HR_arg3, HR_arg4, HR_arg5, HR_arg6, HR_arg7, HR_arg8, ⟨%f_arg9, HW_arg9, %h_arg9⟩, ⟨%f_arg10, HW_arg10, %h_arg10⟩, ⟨%f_arg11, HW_arg11, %h_arg11⟩, ⟨%f_arg13, HW_arg13, %h_arg13⟩, ⟨%f_arg17, HW_arg17, %h_arg17⟩, ⟨%f_arg18, HW_arg18, %h_arg18⟩, ⟨%f_arg19, HW_arg19, %h_arg19⟩, ⟨%f_arg20, HW_arg20, %h_arg20⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HW_arg9 HW_arg10 HW_arg11 HW_arg13 HW_arg17 HW_arg18 HW_arg19 HW_arg20]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.2.2 E f_arg9 f_arg10 f_arg11 f_arg13 f_arg17 f_arg18 f_arg19 f_arg20)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HW_arg9]; · iexact HW_arg9
      isplitl [HW_arg10]; · iexact HW_arg10
      isplitl [HW_arg11]; · iexact HW_arg11
      isplitl [HW_arg13]; · iexact HW_arg13
      isplitl [HW_arg17]; · iexact HW_arg17
      isplitl [HW_arg18]; · iexact HW_arg18
      isplitl [HW_arg19]; · iexact HW_arg19
      iexact HW_arg20
    · iintro %_ ⟨HR_arg2, HR_arg3, HR_arg4, HR_arg5, HR_arg6, HR_arg7, HR_arg8, HW_arg9, HW_arg10, HW_arg11, HW_arg13, HW_arg17, HW_arg18, HW_arg19, HW_arg20⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      rw [pb_k0_t1_succ]
      isplitl [HW_arg9]
      · iexists _; isplitl [HW_arg9]; · iexact HW_arg9
        ipureintro; rw [h_arg9, h_arg10, h_arg11, h_arg13, h_arg17, h_arg18, h_arg19, h_arg20, ← View.writes_append]
      isplitl [HW_arg10]
      · iexists _; isplitl [HW_arg10]; · iexact HW_arg10
        ipureintro; rw [h_arg9, h_arg10, h_arg11, h_arg13, h_arg17, h_arg18, h_arg19, h_arg20, ← View.writes_append]
      isplitl [HW_arg11]
      · iexists _; isplitl [HW_arg11]; · iexact HW_arg11
        ipureintro; rw [h_arg9, h_arg10, h_arg11, h_arg13, h_arg17, h_arg18, h_arg19, h_arg20, ← View.writes_append]
      isplitl [HW_arg13]
      · iexists _; isplitl [HW_arg13]; · iexact HW_arg13
        ipureintro; rw [h_arg9, h_arg10, h_arg11, h_arg13, h_arg17, h_arg18, h_arg19, h_arg20, ← View.writes_append]
      isplitl [HW_arg17]
      · iexists _; isplitl [HW_arg17]; · iexact HW_arg17
        ipureintro; rw [h_arg9, h_arg10, h_arg11, h_arg13, h_arg17, h_arg18, h_arg19, h_arg20, ← View.writes_append]
      isplitl [HW_arg18]
      · iexists _; isplitl [HW_arg18]; · iexact HW_arg18
        ipureintro; rw [h_arg9, h_arg10, h_arg11, h_arg13, h_arg17, h_arg18, h_arg19, h_arg20, ← View.writes_append]
      isplitl [HW_arg19]
      · iexists _; isplitl [HW_arg19]; · iexact HW_arg19
        ipureintro; rw [h_arg9, h_arg10, h_arg11, h_arg13, h_arg17, h_arg18, h_arg19, h_arg20, ← View.writes_append]
      iexists _; isplitl [HW_arg20]; · iexact HW_arg20
      ipureintro; rw [h_arg9, h_arg10, h_arg11, h_arg13, h_arg17, h_arg18, h_arg19, h_arg20, ← View.writes_append]

end Cert.Operands.Gen

end
-- ==== Proof.OperandsBody.lean ====
/- The run of the body of `Operands` on any staging buffers. -/
module

public import proofs.«01_k».proof.Proof.OperandsRuns
public import proofs.«01_k».proof.Proof.OperandsLoops

@[expose] public section

set_option maxRecDepth 16384

noncomputable section

namespace Cert.Operands.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7, 8, 9, 10, 11, 12, 13) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole)
    (x0 : Vec F S1x32x384x128 .bf16) (x1 : Vec F S128x128 .bf16) (x2 : Vec F S384x128 .fp8e4m3) (x3 : Vec F S128x128 .f32) (x4 : Vec F S128x128 .f32) (x5 : Vec F S384x128 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
          ⊢ wp frame (wpE (defs₀ (F := F)) Variants.none c none) E (cc0_operands i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_operands_eq_skeleton]; unfold cc0_operands_skel
    simp only [k0_part19_eq_skeleton]
    have hT : (tbPt0 c tbM0_0 xt0 : sProp 𝕄) = (tbM0_0.view.loc (c : Thread nD τ) ↦[tbM0_0.view.set]{fullShare.right} xt0) := by
      rw [htbM0_0.set_eq_univ]
    rw [hT]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Operands.Gen

end
-- ==== Proof.OperandsFrame.lean ====
/- The frame of `Operands`. -/
module

public import proofs.«01_k».proof.Proof.OperandsBody
public import Idealize.ShloMosaic.Lib.Claim

@[expose] public section

set_option maxRecDepth 16384

noncomputable section

namespace Cert.Operands.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10, 11, 12, 13): nothing reads what the kernel leaves in them, so nothing
    of it is named (Lib/Pipeline/Dat.lean `Dat.toRForget`). -/
def forgets0 : Fin 14 → Bool := fun w => w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, H12, H13, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11, 12, 13) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- THE FRAME: `Cert.quiescent_Operands`'s statement (Defs.lean) at any `F` — Proof.lean cites it at `Bits`:
    `theorem Cert.Proof.claim : Cert.Claim := ⟨Cert.Operands.Gen.facts, fun m ρ _ => Cert.Operands.Gen.frame m ρ⟩`; here for every contents of the PREFETCHED TABLES, UNDER `Gen.Ok m` (the pipeline's side condition of
    them), which Proof.lean proves from the precondition: `⟨…, fun m ρ h => Cert.Operands.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Operands.Gen

end
-- ==== Proof.OperandsIdealPoints.lean ====
/- The grid points of `OperandsIdeal`: which block each window stages and when it is fetched. -/
module

public import proofs.«01_k».proof.Proof.Gen.OperandsIdeal
public import Idealize.ShloMosaic.Lib.Pipeline.Kit

@[expose] public section

noncomputable section

namespace Cert.OperandsIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%8)) is fetched at the first point only, at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_const cc0_transform_1 (fun _ _ => rfl) (n := 24) (by decide) t : ∀ t : Fin grid0.N, Pipeline.Window.fetchOf grid0 false cc0_transform_1 t = true ↔ t.val % 24 = 0)
/-- Window 2 (operand 3 (%10)) is fetched at the first point only, at any contents of the tables (its index map reads none). -/
theorem fetch0_2 (a : (pcfg0 (F := F)).Adm) : ∀ t : Fin (cfg0 a).N, ((cfg0 a).win 2).fetch t = true ↔ t.val % 24 = 0 :=
  (fun t => Pipeline.Window.fetchOf_const cc0_transform_2 (fun _ _ => rfl) (n := 24) (by decide) t : ∀ t : Fin grid0.N, Pipeline.Window.fetchOf grid0 false cc0_transform_2 t = true ↔ t.val % 24 = 0)
/-- Window 3 (operand 4 (%12)) is fetched at the first point only, at any contents of the tables (its index map reads none). -/
theorem fetch0_3 (a : (pcfg0 (F := F)).Adm) : ∀ t : Fin (cfg0 a).N, ((cfg0 a).win 3).fetch t = true ↔ t.val % 24 = 0 :=
  (fun t => Pipeline.Window.fetchOf_const cc0_transform_3 (fun _ _ => rfl) (n := 24) (by decide) t : ∀ t : Fin grid0.N, Pipeline.Window.fetchOf grid0 false cc0_transform_3 t = true ↔ t.val % 24 = 0)
/-- Window 4 (operand 5 (%14)) is fetched at the first point only, at any contents of the tables (its index map reads none). -/
theorem fetch0_4 (a : (pcfg0 (F := F)).Adm) : ∀ t : Fin (cfg0 a).N, ((cfg0 a).win 4).fetch t = true ↔ t.val % 24 = 0 :=
  (fun t => Pipeline.Window.fetchOf_const cc0_transform_4 (fun _ _ => rfl) (n := 24) (by decide) t : ∀ t : Fin grid0.N, Pipeline.Window.fetchOf grid0 false cc0_transform_4 t = true ↔ t.val % 24 = 0)
/-- Window 5 (operand 6 (%17)) is fetched at the first point only, at any contents of the tables (its index map reads none). -/
theorem fetch0_5 (a : (pcfg0 (F := F)).Adm) : ∀ t : Fin (cfg0 a).N, ((cfg0 a).win 5).fetch t = true ↔ t.val % 24 = 0 :=
  (fun t => Pipeline.Window.fetchOf_const cc0_transform_5 (fun _ _ => rfl) (n := 24) (by decide) t : ∀ t : Fin grid0.N, Pipeline.Window.fetchOf grid0 false cc0_transform_5 t = true ↔ t.val % 24 = 0)
/-- Window 6 (result 0 (%18#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 1 (%18#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 (%18#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 3 (%18#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 4 (%18#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 1 (fun _ => rfl) (by decide)) (P := 1) (m := 0) (by decide) rfl t).mpr (Nat.mod_one _) : ∀ t : Fin grid0.N, Pipeline.Window.flushOf grid0 true cc0_transform_10 t = true)
/-- Window 11 (result 5 (%18#5)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)
/-- Window 12 (result 6 (%18#6)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 2 (fun _ => rfl) (by decide)) (P := 1) (m := 0) (by decide) rfl t).mpr (Nat.mod_one _) : ∀ t : Fin grid0.N, Pipeline.Window.flushOf grid0 true cc0_transform_12 t = true)
/-- Window 13 (result 7 (%18#7)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_operands (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.OperandsIdeal.Gen

end
-- ==== Proof.OperandsIdealRuns.lean ====
/- What the certificate of `OperandsIdeal` is stated over: the contents of the buffers when the grid
   starts, the windows' blocks, the staging buffers and the scratch. -/
module

public import proofs.«01_k».proof.Proof.Gen.OperandsIdeal.Launch
public import proofs.«01_k».proof.Proof.Gen.OperandsIdeal.Skeleton
public import proofs.«01_k».proof.Proof.OperandsIdealPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.OperandsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x5 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_OperandsIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x384x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S384x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x32x384x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x32x384 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x32x384x96 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x32x96 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x32x384x96 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x32x96 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x96x32x384 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x96x32x384 .fp8e4m3 := spec0_13.stage ((cfgM m hO).slots t 13)
abbrev hs0_13 (hO : Ok m) (t : Fin (cfgM m hO).N) : (ms0_13 m hO t).IsWhole := hstage0_13 (((cfgM m hO).slots t 13).cast nbuf0_13)
/-- The scratch operands: whole scoped buffers of the kernel's own, passed beside the windows. -/
abbrev scM0_0 : Memref sig .tc .vmem S3x3168x128 .f32 := Memref.whole cc0_scratch0
abbrev scM0_1 : Memref sig .tc .vmem S3x3168x128 .f32 := Memref.whole cc0_scratch1
abbrev scM0_2 : Memref sig .tc .vmem S96x128 .f32 := Memref.whole cc0_scratch2
abbrev scM0_3 : Memref sig .tc .vmem S96x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.OperandsIdeal.Gen

end
-- ==== Proof.OperandsIdealLoops.lean ====
/- The first counted loop of `OperandsIdeal`: what one trip over two rows of the block writes, and the
   loop invariant that lists the pieces the trips before `k` have written. -/
module

public import proofs.«01_k».proof.Proof.Gen.OperandsIdeal.Loops

@[expose] public section

set_option maxRecDepth 8192
set_option maxHeartbeats 4000000

noncomputable section

namespace Cert.OperandsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_operands` -/
/-- One trip's resources: what the region reads (arg2, arg3, arg4, arg5, arg6, arg7, arg8) at its
   contents, what it writes (arg9, arg10, arg11, arg13, arg17, arg18, arg19, arg20) at any. -/
abbrev Trip_k0_t1 (c : Dev nD) (arg2 : Memref sig .tc .smem S2x5 .i32) (arg3 : Memref sig .tc .vmem S1x32x384x128 .bf16) (arg4 : Memref sig .tc .vmem S128x128 .bf16) (arg5 : Memref sig .tc .vmem S384x128 .fp8e4m3) (arg6 : Memref sig .tc .vmem S128x128 .f32) (arg7 : Memref sig .tc .vmem S128x128 .f32) (arg8 : Memref sig .tc .vmem S384x128 .f32) (arg9 : Memref sig .tc .vmem S1x32x384x128 .fp8e4m3) (arg10 : Memref sig .tc .vmem S1x32x384 .f32) (arg11 : Memref sig .tc .vmem S1x32x384x96 .fp8e4m3) (arg13 : Memref sig .tc .vmem S1x32x384x96 .fp8e4m3) (arg17 : Memref sig .tc .vmem S3x3168x128 .f32) (arg18 : Memref sig .tc .vmem S3x3168x128 .f32) (arg19 : Memref sig .tc .vmem S96x128 .f32) (arg20 : Memref sig .tc .vmem S96x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg13.view.loc (c : Thread nD τ) ↦[arg13.view.set]{fullShare} f_arg13) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20))

/-- ONE TRIP of `k0_t1_loop` at a symbolic `k`, run by `sl_exec` (its rectangles' offsets closed
   forms of `k`, their geometry linear arithmetic): the pieces it writes into arg9, arg10, arg11,
   arg13, arg17, arg18, arg19, arg20 are the run's own finds — the witnesses `sl_close` assigns
   handing the buffers to the continuation, as functions of the contents the trip finds in the
   memrefs it writes (the region loads some of them back). `@[irreducible]`: cited, never unfolded. -/
@[irreducible] def trip_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) :
    Σ' (L_arg9 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x128 .fp8e4m3))) (L_arg10 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384 .f32))) (L_arg11 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x96 .fp8e4m3))) (L_arg13 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S1x32x384x96 .fp8e4m3))) (L_arg17 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S3x3168x128 .f32))) (L_arg18 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S3x3168x128 .f32))) (L_arg19 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S96x128 .f32))) , { L_arg20 : (BufTy.Contents (Elt F) arg9.view.ty → BufTy.Contents (Elt F) arg10.view.ty → BufTy.Contents (Elt F) arg11.view.ty → BufTy.Contents (Elt F) arg13.view.ty → BufTy.Contents (Elt F) arg17.view.ty → BufTy.Contents (Elt F) arg18.view.ty → BufTy.Contents (Elt F) arg19.view.ty → BufTy.Contents (Elt F) arg20.view.ty → List (View.Piece (Elt F) S96x128 .f32)) // ∀ (E : Set ℕ) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty),
      Trip_k0_t1 (F := F) c arg2 arg3 arg4 arg5 arg6 arg7 arg8 arg9 arg10 arg11 arg13 arg17 arg18 arg19 arg20 X_arg2 X_arg3 X_arg4 X_arg5 X_arg6 X_arg7 X_arg8 f_arg9 f_arg10 f_arg11 f_arg13 f_arg17 f_arg18 f_arg19 f_arg20
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 k PUnit.unit)
          (fun _ => Trip_k0_t1 (F := F) c arg2 arg3 arg4 arg5 arg6 arg7 arg8 arg9 arg10 arg11 arg13 arg17 arg18 arg19 arg20 X_arg2 X_arg3 X_arg4 X_arg5 X_arg6 X_arg7 X_arg8 (arg9.view.writes (Elt F) f_arg9 (L_arg9 f_arg9 f_arg10 f_arg11 f_arg13 f_arg17 f_arg18 f_arg19 f_arg20)) (arg10.view.writes (Elt F) f_arg10 (L_arg10 f_arg9 f_arg10 f_arg11 f_arg13 f_arg17 f_arg18 f_arg19 f_arg20)) (arg11.view.writes (Elt F) f_arg11 (L_arg11 f_arg9 f_arg10 f_arg11 f_arg13 f_arg17 f_arg18 f_arg19 f_arg20)) (arg13.view.writes (Elt F) f_arg13 (L_arg13 f_arg9 f_arg10 f_arg11 f_arg13 f_arg17 f_arg18 f_arg19 f_arg20)) (arg17.view.writes (Elt F) f_arg17 (L_arg17 f_arg9 f_arg10 f_arg11 f_arg13 f_arg17 f_arg18 f_arg19 f_arg20)) (arg18.view.writes (Elt F) f_arg18 (L_arg18 f_arg9 f_arg10 f_arg11 f_arg13 f_arg17 f_arg18 f_arg19 f_arg20)) (arg19.view.writes (Elt F) f_arg19 (L_arg19 f_arg9 f_arg10 f_arg11 f_arg13 f_arg17 f_arg18 f_arg19 f_arg20)) (arg20.view.writes (Elt F) f_arg20 (L_arg20 f_arg9 f_arg10 f_arg11 f_arg13 f_arg17 f_arg18 f_arg19 f_arg20))) } := by
  have hk : k.val < 16 := Nat.lt_of_lt_of_le k.isLt k0_t1_abs.2.1
  refine ⟨?_, ?_, ?_, ?_, ?_, ?_, ?_, ?_, fun E f_arg9 f_arg10 f_arg11 f_arg13 f_arg17 f_arg18 f_arg19 f_arg20 => ?run⟩
  case run =>
    unfold k0_t1_body
    iintro ⟨HR_arg2, HR_arg3, HR_arg4, HR_arg5, HR_arg6, HR_arg7, HR_arg8, HW_arg9, HW_arg10, HW_arg11, HW_arg13, HW_arg17, HW_arg18, HW_arg19, HW_arg20⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.1 f_arg9 f_arg10 f_arg11 f_arg13 f_arg17 f_arg18 f_arg19 f_arg20, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.2.1 f_arg9 f_arg10 f_arg11 f_arg13 f_arg17 f_arg18 f_arg19 f_arg20)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) (prev : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32)) : List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨k, h⟩ (arg9.view.writes (Elt F) G_arg9 prev.1) (arg10.view.writes (Elt F) G_arg10 prev.2.1) (arg11.view.writes (Elt F) G_arg11 prev.2.2.1) (arg13.view.writes (Elt F) G_arg13 prev.2.2.2.1) (arg17.view.writes (Elt F) G_arg17 prev.2.2.2.2.1) (arg18.view.writes (Elt F) G_arg18 prev.2.2.2.2.2.1) (arg19.view.writes (Elt F) G_arg19 prev.2.2.2.2.2.2.1) (arg20.view.writes (Elt F) G_arg20 prev.2.2.2.2.2.2.2)).2.2.2.2.2.2.2 ++ prev.2.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) : ℕ → List (View.Piece (Elt F) S1x32x384x128 .fp8e4m3) × List (View.Piece (Elt F) S1x32x384 .f32) × List (View.Piece (Elt F) S1x32x384x96 .fp8e4m3) × List (View.Piece (Elt F) S1x32x384x96 .fp8e4m3) × List (View.Piece (Elt F) S3x3168x128 .f32) × List (View.Piece (Elt F) S3x3168x128 .f32) × List (View.Piece (Elt F) S96x128 .f32) × List (View.Piece (Elt F) S96x128 .f32)
  | 0 => ([], [], [], [], [], [], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k)

theorem pb_k0_t1_succ (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.1) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.1) (arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.1) (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2)).2.2.2.2.2.2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k.val).2.2.2.2.2.2.2) := by
  rw [pb_k0_t1.eq_2]; unfold pb_k0_t1Step; exact dif_pos k.isLt

/-- THE INVARIANT before trip `k`: arg2, arg3, arg4, arg5, arg6, arg7, arg8 read at `X_·`; arg9,
   arg10, arg11, arg13, arg17, arg18, arg19, arg20 holding the pieces of the trips before `k`
   written over the contents at loop entry `G_·` (stated `∃ f, … ∗ ⌜f = …⌝`, so that a hypothesis of
   any contents matches and the equation is what is proved). -/
abbrev inv_k0_t1 (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.1⌝) ∗ (∃ f, (arg13.view.loc (c : Thread nD τ) ↦[arg13.view.set]{fullShare} f) ∗ ⌜f = arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.1⌝) ∗ (∃ f, (arg17.view.loc (c : Thread nD τ) ↦[arg17.view.set]{fullShare} f) ∗ ⌜f = arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.1⌝) ∗ (∃ f, (arg18.view.loc (c : Thread nD τ) ↦[arg18.view.set]{fullShare} f) ∗ ⌜f = arg18.view.writes (Elt F) G_arg18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.1⌝) ∗ (∃ f, (arg19.view.loc (c : Thread nD τ) ↦[arg19.view.set]{fullShare} f) ∗ ⌜f = arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.2.1⌝) ∗ (∃ f, (arg20.view.loc (c : Thread nD τ) ↦[arg20.view.set]{fullShare} f) ∗ ⌜f = arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 k).2.2.2.2.2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt F .i32) (v10 : Elt F .i32) (v16 : Elt F .i32) (v22 : Elt F .i32) (v27 : IVec S96x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20
  step k acc := by
    iintro ⟨HR_arg2, HR_arg3, HR_arg4, HR_arg5, HR_arg6, HR_arg7, HR_arg8, ⟨%f_arg9, HW_arg9, %h_arg9⟩, ⟨%f_arg10, HW_arg10, %h_arg10⟩, ⟨%f_arg11, HW_arg11, %h_arg11⟩, ⟨%f_arg13, HW_arg13, %h_arg13⟩, ⟨%f_arg17, HW_arg17, %h_arg17⟩, ⟨%f_arg18, HW_arg18, %h_arg18⟩, ⟨%f_arg19, HW_arg19, %h_arg19⟩, ⟨%f_arg20, HW_arg20, %h_arg20⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HW_arg9 HW_arg10 HW_arg11 HW_arg13 HW_arg17 HW_arg18 HW_arg19 HW_arg20]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k).2.2.2.2.2.2.2.2 E f_arg9 f_arg10 f_arg11 f_arg13 f_arg17 f_arg18 f_arg19 f_arg20)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HW_arg9]; · iexact HW_arg9
      isplitl [HW_arg10]; · iexact HW_arg10
      isplitl [HW_arg11]; · iexact HW_arg11
      isplitl [HW_arg13]; · iexact HW_arg13
      isplitl [HW_arg17]; · iexact HW_arg17
      isplitl [HW_arg18]; · iexact HW_arg18
      isplitl [HW_arg19]; · iexact HW_arg19
      iexact HW_arg20
    · iintro %_ ⟨HR_arg2, HR_arg3, HR_arg4, HR_arg5, HR_arg6, HR_arg7, HR_arg8, HW_arg9, HW_arg10, HW_arg11, HW_arg13, HW_arg17, HW_arg18, HW_arg19, HW_arg20⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      rw [pb_k0_t1_succ]
      isplitl [HW_arg9]
      · iexists _; isplitl [HW_arg9]; · iexact HW_arg9
        ipureintro; rw [h_arg9, h_arg10, h_arg11, h_arg13, h_arg17, h_arg18, h_arg19, h_arg20, ← View.writes_append]
      isplitl [HW_arg10]
      · iexists _; isplitl [HW_arg10]; · iexact HW_arg10
        ipureintro; rw [h_arg9, h_arg10, h_arg11, h_arg13, h_arg17, h_arg18, h_arg19, h_arg20, ← View.writes_append]
      isplitl [HW_arg11]
      · iexists _; isplitl [HW_arg11]; · iexact HW_arg11
        ipureintro; rw [h_arg9, h_arg10, h_arg11, h_arg13, h_arg17, h_arg18, h_arg19, h_arg20, ← View.writes_append]
      isplitl [HW_arg13]
      · iexists _; isplitl [HW_arg13]; · iexact HW_arg13
        ipureintro; rw [h_arg9, h_arg10, h_arg11, h_arg13, h_arg17, h_arg18, h_arg19, h_arg20, ← View.writes_append]
      isplitl [HW_arg17]
      · iexists _; isplitl [HW_arg17]; · iexact HW_arg17
        ipureintro; rw [h_arg9, h_arg10, h_arg11, h_arg13, h_arg17, h_arg18, h_arg19, h_arg20, ← View.writes_append]
      isplitl [HW_arg18]
      · iexists _; isplitl [HW_arg18]; · iexact HW_arg18
        ipureintro; rw [h_arg9, h_arg10, h_arg11, h_arg13, h_arg17, h_arg18, h_arg19, h_arg20, ← View.writes_append]
      isplitl [HW_arg19]
      · iexists _; isplitl [HW_arg19]; · iexact HW_arg19
        ipureintro; rw [h_arg9, h_arg10, h_arg11, h_arg13, h_arg17, h_arg18, h_arg19, h_arg20, ← View.writes_append]
      iexists _; isplitl [HW_arg20]; · iexact HW_arg20
      ipureintro; rw [h_arg9, h_arg10, h_arg11, h_arg13, h_arg17, h_arg18, h_arg19, h_arg20, ← View.writes_append]

end Cert.OperandsIdeal.Gen

end
-- ==== Proof.OperandsPay.lean ====
/- The payloads of the operand kernel read entry by entry: what each vector the body computes holds
   at one index, in terms of the vectors it is computed from. -/
module

public import proofs.«01_k».proof.Proof.Gen.OperandsIdeal.Skeleton
public import Idealize.ShloMosaic.Lib.Pipeline.ValueKit
public import Idealize.ShloMosaic.Lib.Pointwise

@[expose] public section

set_option maxRecDepth 16384

noncomputable section

namespace Cert.OperandsIdeal.OpVal

open Cert.OperandsIdeal Cert.OperandsIdeal.Gen
open Idealize.ShloMosaic Idealize.ShloMosaic.TcCoe Idealize.SL.Sem

/-- The scale of a group whose largest absolute value is `a`: `a / 448`, or one for an empty group. -/
def scl (a : EReal) : EReal := if a = 0 then 1 else Ideal.div a (Ideal.ofBits FTy.f32 1138753536#32)

/-- A number clipped to the range of the eight-bit format. -/
def clip (x : EReal) : EReal := min (Ideal.ofBits FTy.f32 1138753536#32) (max (Ideal.ofBits FTy.f32 3286237184#32) x)

/-- The largest absolute value of a family. -/
def top {n : Nat} (f : Fin n → EReal) : EReal :=
  Finset.fold max (Ideal.ofBits FTy.f32 4286578688#32) (fun x => FloatOps.absf (F := Ideal) (φ := .f32) (f x)) Finset.univ

/-- The row `z` through the matrix `C`, at channel `d`. -/
def lin (z : Fin 128 → EReal) (C : Fin 128 → Fin 128 → EReal) (d : Fin 128) : EReal := ∑ e, C d e * z e

/-- The row `z` centred by `C`, divided by its deviation, scaled by `g` and shifted by `b`. -/
def nrm (z : Fin 128 → EReal) (C : Fin 128 → Fin 128 → EReal) (d : Fin 128) (g b : EReal) : EReal :=
  lin z C d * Ideal.div 1 (Ideal.sqrt ((∑ x, lin z C x * lin z C x) * Ideal.ofBits FTy.f32 1006632960#32 + Ideal.ofBits FTy.f32 925353388#32)) * g + b

/-- A projection times its gate. -/
def gate (p g m w : EReal) : EReal := p * m * Ideal.logistic (g * m * w)

/-- Which segment the position `x` lies in: how many of the four bounds it has reached. -/
def seg (x t0 t1 t2 t3 : BitVec 32) : BitVec 32 :=
  IntOp.addi (IntOp.addi (IntOp.addi (IntOp.addi (0#32) (BitVec.setWidth 32 (IntOp.cmpi CmpIPredicate.sge x t0)))
    (BitVec.setWidth 32 (IntOp.cmpi CmpIPredicate.sge x t1)))
    (BitVec.setWidth 32 (IntOp.cmpi CmpIPredicate.sge x t2)))
    (BitVec.setWidth 32 (IntOp.cmpi CmpIPredicate.sge x t3))

/-- A value kept where the two segments agree and are inside a sequence, zero elsewhere. -/
def msk (si sj : BitVec 32) (s : EReal) : EReal :=
  Scalar.select (IntOp.andi (IntOp.cmpi CmpIPredicate.eq sj si) (Scalar.cmpi CmpIPredicate.slt si 4#32)) s 0

theorem cat3 (f : Fin 128 → EReal) (j : Fin 384) :
    (if h : j.val < 128 then f ⟨j.val, h⟩ else if h2 : j.val - 128 < 128 then f ⟨j.val - 128, h2⟩ else f ⟨j.val - 128 - 128, by omega⟩)
      = f ⟨j.val % 128, by omega⟩ := by
  split
  · exact congrArg f (Fin.ext (by simp only; omega))
  · split
    · exact congrArg f (Fin.ext (by simp only; omega))
    · exact congrArg f (Fin.ext (by simp only; omega))

theorem cat6 (f : Fin 128 → EReal) (j : Fin 768) :
    (if h : j.val < 128 then f ⟨j.val, h⟩ else if h : j.val - 128 < 128 then f ⟨j.val - 128, h⟩ else
      if h : j.val - 128 - 128 < 128 then f ⟨j.val - 128 - 128, h⟩ else
      if h : j.val - 128 - 128 - 128 < 128 then f ⟨j.val - 128 - 128 - 128, h⟩ else
      if h : j.val - 128 - 128 - 128 - 128 < 128 then f ⟨j.val - 128 - 128 - 128 - 128, h⟩ else
        f ⟨j.val - 128 - 128 - 128 - 128 - 128, by omega⟩)
      = f ⟨j.val % 128, by omega⟩ := by
  repeat' split
  all_goals exact congrArg f (Fin.ext (by simp only; omega))

/-- The normalised rows. -/
theorem pay4_at (v44 : Vec Ideal S1x2x384x128 .bf16) (v47 : Vec Ideal S128x128 .bf16) (v60 v63 : Vec Ideal S128x128 .f32) (d : Fin 128) (j : Fin 768) :
    k0_pay4 (F := Ideal) v44 v47 v60 v63 (ix2 d j)
      = nrm (fun e => v44 (ix4 0 ⟨j.val / 384, by omega⟩ ⟨j.val % 384, by omega⟩ e)) (fun d e => v47 (ix2 d e)) d
          (v60 (ix2 d ⟨j.val % 128, by omega⟩)) (v63 (ix2 d ⟨j.val % 128, by omega⟩)) := by
  pointwise [k0_pay4]
  refine congrArg₂ (· + ·) (congrArg₂ (· * ·) ?_ (cat6 (fun t => v60 (ix2 d t)) j)) (cat6 (fun t => v63 (ix2 d t)) j)
  rfl

/-- The scales of the normalised rows. -/
theorem pay5_at (v44 : Vec Ideal S1x2x384x128 .bf16) (v47 : Vec Ideal S128x128 .bf16) (v60 v63 : Vec Ideal S128x128 .f32) (j : Fin 768) :
    k0_pay5 (F := Ideal) v44 v47 v60 v63 (ix2 0 j) = scl (top (fun d => k0_pay4 (F := Ideal) v44 v47 v60 v63 (ix2 d j))) := by
  unfold k0_pay5
  generalize k0_pay4 v44 v47 v60 v63 = Y
  pointwise []
  rfl

/-- The normalised rows over their scales. -/
theorem pay6_at (v44 : Vec Ideal S1x2x384x128 .bf16) (v47 : Vec Ideal S128x128 .bf16) (v60 v63 : Vec Ideal S128x128 .f32) (d : Fin 128) (j : Fin 768) :
    k0_pay6 (F := Ideal) v44 v47 v60 v63 (ix2 d j)
      = Ideal.div (k0_pay4 (F := Ideal) v44 v47 v60 v63 (ix2 d j)) (k0_pay5 (F := Ideal) v44 v47 v60 v63 (ix2 0 j)) := by
  unfold k0_pay6
  generalize k0_pay4 v44 v47 v60 v63 = Y
  generalize k0_pay5 v44 v47 v60 v63 = Z
  pointwise []

/-- Their quantised values. -/
theorem pay7_at (v80 : FVec Ideal S128x768 .f32) (d : Fin 128) (j : Fin 768) :
    k0_pay7 (F := Ideal) v80 (FloatOps.ofBits FTy.f32 3286237184#32) (ix2 d j) = clip (v80 (ix2 d j)) := by
  pointwise [k0_pay7]
  rfl

/-- The projections of the quantised rows. -/
theorem pay8_at (v80 : FVec Ideal S128x768 .f32) (cst : Ideal .f32) (v86 : Vec Ideal S384x128 .fp8e4m3) (m : Fin 384) (j : Fin 768) :
    k0_pay8 (F := Ideal) v80 cst v86 (ix2 m j) = ∑ d, v86 (ix2 m d) * k0_pay7 (F := Ideal) v80 cst (ix2 d j) := by
  unfold k0_pay8
  generalize k0_pay7 v80 cst = Y
  pointwise []

theorem pay9_at (v80 : FVec Ideal S128x768 .f32) (cst : Ideal .f32) (j : Fin 384) (d : Fin 128) :
    k0_pay9 (F := Ideal) v80 cst (ix4 0 0 j d) = k0_pay7 (F := Ideal) v80 cst (ix2 d ⟨j.val, by omega⟩) := by
  unfold k0_pay9
  generalize k0_pay7 v80 cst = Y
  pointwise []

theorem pay33_at (v : FVec Ideal S128x768 .fp8e4m3) (j : Fin 384) (d : Fin 128) :
    k0_pay33 (F := Ideal) v (ix4 0 0 j d) = v (ix2 d ⟨384 + j.val, by omega⟩) := by
  pointwise [k0_pay33]

theorem pay10_at (v : FVec Ideal S1x768 .f32) (j : Fin 384) : k0_pay10 (F := Ideal) v (ix2 0 j) = v (ix2 0 ⟨j.val, by omega⟩) := by
  pointwise [k0_pay10]

theorem pay11_at (v : FVec Ideal S1x768 .f32) (j : Fin 384) : k0_pay11 (F := Ideal) v (ix3 0 0 j) = v (ix2 0 ⟨j.val, by omega⟩) := by
  pointwise [k0_pay11, k0_pay10]

theorem pay34_at (v : FVec Ideal S1x768 .f32) (j : Fin 384) : k0_pay34 (F := Ideal) v (ix2 0 j) = v (ix2 0 ⟨384 + j.val, by omega⟩) := by
  pointwise [k0_pay34]

theorem pay35_at (v : FVec Ideal S1x768 .f32) (j : Fin 384) : k0_pay35 (F := Ideal) v (ix3 0 0 j) = v (ix2 0 ⟨384 + j.val, by omega⟩) := by
  pointwise [k0_pay35, k0_pay34]

theorem pay84_at (a b c d : BitVec 32) (j : Fin 384) : k0_pay84 (F := Ideal) a b c d (ix2 0 j) = seg (BitVec.ofNat 32 j.val) a b c d := by
  pointwise [k0_pay84]
  rfl

theorem pay12_at (v0 : BitVec 32) (v26 : IVec S1x384 32) (v42 a b c d : BitVec 32) (j : Fin 384) :
    k0_pay12 (F := Ideal) v0 v26 v42 a b c d (ix2 0 j)
      = IntOp.cmpi CmpIPredicate.eq (v26 (ix2 0 j)) (seg (Scalar.addi v0 (Scalar.addi v42 0#32)) a b c d) := by
  pointwise [k0_pay12]
  rfl

theorem pay13_at (v96 : FVec Ideal S1x384 .f32) (v121 : BitVec 32) (v123 : IVec S1x384 1) (sj : BitVec 32) (j : Fin 384)
    (h : v123 (ix2 0 j) = IntOp.cmpi CmpIPredicate.eq sj v121) :
    k0_pay13 (F := Ideal) v96 v121 v123 (ix2 0 j) = msk v121 sj (v96 (ix2 0 j)) := by
  pointwise [k0_pay13]
  rw [h]; rfl

theorem pay37_at (v26 : IVec S1x384 32) (v266 : FVec Ideal S1x384 .f32) (v291 : BitVec 32) (v292 : IVec S1x384 32) (j : Fin 384)
    (h : v292 (ix2 0 j) = v291) :
    k0_pay37 (F := Ideal) v26 v266 v291 v292 (ix2 0 j) = msk v291 (v26 (ix2 0 j)) (v266 (ix2 0 j)) := by
  pointwise [k0_pay37]
  rw [h]; rfl

theorem k0_pay15_at (v88 : FVec Ideal S384x768 .f32) (v96 : FVec Ideal S1x384 .f32) (v121 : BitVec 32) (v123 : IVec S1x384 1) (v133 : Vec Ideal S96x128 .f32) (ch : Fin 96) (j : Fin 384) :
    k0_pay15 (F := Ideal) v88 v96 v121 v123 v133 (ix2 ch j)
      = gate (v88 (ix2 ⟨0 + ch.val, by omega⟩ ⟨0 + j.val, by omega⟩)) (v88 (ix2 ⟨96 + ch.val, by omega⟩ ⟨0 + j.val, by omega⟩))
          (k0_pay13 (F := Ideal) v96 v121 v123 (ix2 0 j)) (v133 (ix2 ch ⟨j.val % 128, by omega⟩)) := by
  unfold k0_pay15
  generalize k0_pay13 v96 v121 v123 = M
  pointwise []
  refine congrArg₂ (· * ·) ?_ (congrArg Ideal.logistic (congrArg₂ (· * ·) ?_ (cat3 (fun t => v133 (ix2 ch t)) j)))
  · refine congrArg₂ (· * ·) (congrArg v88 ?_) rfl
    idx_ext
  · refine congrArg₂ (· * ·) (congrArg v88 ?_) rfl
    idx_ext

theorem k0_pay24_at (v88 : FVec Ideal S384x768 .f32) (v128 : FVec Ideal S1x384 .f32) (v198 : Vec Ideal S96x128 .f32) (ch : Fin 96) (j : Fin 384) :
    k0_pay24 (F := Ideal) v88 v128 v198 (ix2 ch j)
      = gate (v88 (ix2 ⟨192 + ch.val, by omega⟩ ⟨0 + j.val, by omega⟩)) (v88 (ix2 ⟨288 + ch.val, by omega⟩ ⟨0 + j.val, by omega⟩))
          (v128 (ix2 0 j)) (v198 (ix2 ch ⟨j.val % 128, by omega⟩)) := by
  unfold k0_pay24
  pointwise []
  refine congrArg₂ (· * ·) ?_ (congrArg Ideal.logistic (congrArg₂ (· * ·) ?_ (cat3 (fun t => v198 (ix2 ch t)) j)))
  · refine congrArg₂ (· * ·) (congrArg v88 ?_) rfl
    idx_ext
  · refine congrArg₂ (· * ·) (congrArg v88 ?_) rfl
    idx_ext

theorem k0_pay39_at (v26 : IVec S1x384 32) (v88 : FVec Ideal S384x768 .f32) (v266 : FVec Ideal S1x384 .f32) (v291 : BitVec 32) (v292 : IVec S1x384 32) (v303 : Vec Ideal S96x128 .f32) (ch : Fin 96) (j : Fin 384) :
    k0_pay39 (F := Ideal) v26 v88 v266 v291 v292 v303 (ix2 ch j)
      = gate (v88 (ix2 ⟨0 + ch.val, by omega⟩ ⟨384 + j.val, by omega⟩)) (v88 (ix2 ⟨96 + ch.val, by omega⟩ ⟨384 + j.val, by omega⟩))
          (k0_pay37 (F := Ideal) v26 v266 v291 v292 (ix2 0 j)) (v303 (ix2 ch ⟨j.val % 128, by omega⟩)) := by
  unfold k0_pay39
  generalize k0_pay37 v26 v266 v291 v292 = M
  pointwise []
  refine congrArg₂ (· * ·) ?_ (congrArg Ideal.logistic (congrArg₂ (· * ·) ?_ (cat3 (fun t => v303 (ix2 ch t)) j)))
  · refine congrArg₂ (· * ·) (congrArg v88 ?_) rfl
    idx_ext
  · refine congrArg₂ (· * ·) (congrArg v88 ?_) rfl
    idx_ext

theorem k0_pay49_at (v88 : FVec Ideal S384x768 .f32) (v298 : FVec Ideal S1x384 .f32) (v368 : Vec Ideal S96x128 .f32) (ch : Fin 96) (j : Fin 384) :
    k0_pay49 (F := Ideal) v88 v298 v368 (ix2 ch j)
      = gate (v88 (ix2 ⟨192 + ch.val, by omega⟩ ⟨384 + j.val, by omega⟩)) (v88 (ix2 ⟨288 + ch.val, by omega⟩ ⟨384 + j.val, by omega⟩))
          (v298 (ix2 0 j)) (v368 (ix2 ch ⟨j.val % 128, by omega⟩)) := by
  unfold k0_pay49
  pointwise []
  refine congrArg₂ (· * ·) ?_ (congrArg Ideal.logistic (congrArg₂ (· * ·) ?_ (cat3 (fun t => v368 (ix2 ch t)) j)))
  · refine congrArg₂ (· * ·) (congrArg v88 ?_) rfl
    idx_ext
  · refine congrArg₂ (· * ·) (congrArg v88 ?_) rfl
    idx_ext

theorem k0_pay16_at (v88 : FVec Ideal S384x768 .f32) (v96 : FVec Ideal S1x384 .f32) (v121 : BitVec 32) (v123 : IVec S1x384 1) (v131 v133 : Vec Ideal S96x128 .f32) (ch : Fin 96) (l : Fin 128) :
    k0_pay16 (F := Ideal) v88 v96 v121 v123 v131 v133 (ix2 ch l) = scl (top (fun j => k0_pay15 (F := Ideal) v88 v96 v121 v123 v133 (ix2 ch j)) * FloatOps.absf (F := Ideal) (φ := .f32) (v131 (ix2 ch l))) := by
  unfold k0_pay16
  generalize k0_pay15 v88 v96 v121 v123 v133 = U
  pointwise [k0_pay14]
  rfl

theorem k0_pay40_at (v26 : IVec S1x384 32) (v88 : FVec Ideal S384x768 .f32) (v266 : FVec Ideal S1x384 .f32) (v291 : BitVec 32) (v292 : IVec S1x384 32) (v301 v303 : Vec Ideal S96x128 .f32) (ch : Fin 96) (l : Fin 128) :
    k0_pay40 (F := Ideal) v26 v88 v266 v291 v292 v301 v303 (ix2 ch l) = scl (top (fun j => k0_pay39 (F := Ideal) v26 v88 v266 v291 v292 v303 (ix2 ch j)) * FloatOps.absf (F := Ideal) (φ := .f32) (v301 (ix2 ch l))) := by
  unfold k0_pay40
  generalize k0_pay39 v26 v88 v266 v291 v292 v303 = U
  pointwise [k0_pay38]
  rfl

theorem k0_pay26_at (w : FVec Ideal S96x128 .f32) (v88 : FVec Ideal S384x768 .f32) (m : FVec Ideal S1x384 .f32) (g : Vec Ideal S96x128 .f32) (ch : Fin 96) (l : Fin 128) :
    k0_pay26 (F := Ideal) w (k0_pay25 v88 m g) (ix2 ch l) = scl (top (fun j => k0_pay24 (F := Ideal) v88 m g (ix2 ch j)) * FloatOps.absf (F := Ideal) (φ := .f32) (w (ix2 ch l))) := by
  unfold k0_pay26 k0_pay25
  generalize k0_pay24 v88 m g = U
  pointwise []
  rfl

theorem k0_pay51_at (w : FVec Ideal S96x128 .f32) (v88 : FVec Ideal S384x768 .f32) (m : FVec Ideal S1x384 .f32) (g : Vec Ideal S96x128 .f32) (ch : Fin 96) (l : Fin 128) :
    k0_pay51 (F := Ideal) w (k0_pay50 v88 m g) (ix2 ch l) = scl (top (fun j => k0_pay49 (F := Ideal) v88 m g (ix2 ch j)) * FloatOps.absf (F := Ideal) (φ := .f32) (w (ix2 ch l))) := by
  unfold k0_pay51 k0_pay50
  generalize k0_pay49 v88 m g = U
  pointwise []
  rfl

theorem k0_pay17_at (v88 : FVec Ideal S384x768 .f32) (v96 : FVec Ideal S1x384 .f32) (v121 : BitVec 32) (v123 : IVec S1x384 1) (v131 v133 : Vec Ideal S96x128 .f32) (ch : Fin 96) (j : Fin 384) :
    k0_pay17 (F := Ideal) v88 v96 v121 v123 v131 v133 (ix2 ch j)
      = clip (k0_pay15 (F := Ideal) v88 v96 v121 v123 v133 (ix2 ch j) * Ideal.div (v131 (ix2 ch ⟨j.val % 128, by omega⟩)) (k0_pay16 (F := Ideal) v88 v96 v121 v123 v131 v133 (ix2 ch ⟨j.val % 128, by omega⟩))) := by
  unfold k0_pay17
  generalize k0_pay16 v88 v96 v121 v123 v131 v133 = S
  generalize k0_pay15 v88 v96 v121 v123 v133 = U
  pointwise [k0_pay14]
  refine congrArg clip (congrArg₂ (· * ·) rfl ?_)
  exact cat3 (fun t => Ideal.div (v131 (ix2 ch t)) (S (ix2 ch t))) j

theorem k0_pay41_at (v26 : IVec S1x384 32) (v88 : FVec Ideal S384x768 .f32) (v266 : FVec Ideal S1x384 .f32) (v291 : BitVec 32) (v292 : IVec S1x384 32) (v301 v303 : Vec Ideal S96x128 .f32) (ch : Fin 96) (j : Fin 384) :
    k0_pay41 (F := Ideal) v26 v88 v266 v291 v292 v301 v303 (ix2 ch j)
      = clip (k0_pay39 (F := Ideal) v26 v88 v266 v291 v292 v303 (ix2 ch j) * Ideal.div (v301 (ix2 ch ⟨j.val % 128, by omega⟩)) (k0_pay40 (F := Ideal) v26 v88 v266 v291 v292 v301 v303 (ix2 ch ⟨j.val % 128, by omega⟩))) := by
  unfold k0_pay41
  generalize k0_pay40 v26 v88 v266 v291 v292 v301 v303 = S
  generalize k0_pay39 v26 v88 v266 v291 v292 v303 = U
  pointwise [k0_pay38]
  refine congrArg clip (congrArg₂ (· * ·) rfl ?_)
  exact cat3 (fun t => Ideal.div (v301 (ix2 ch t)) (S (ix2 ch t))) j

theorem k0_pay27_at (w : FVec Ideal S96x128 .f32) (U V : FVec Ideal S96x384 .f32) (ch : Fin 96) (j : Fin 384) :
    k0_pay27 (F := Ideal) w U V (ix2 ch j)
      = clip (U (ix2 ch j) * Ideal.div (w (ix2 ch ⟨j.val % 128, by omega⟩)) (k0_pay26 (F := Ideal) w V (ix2 ch ⟨j.val % 128, by omega⟩))) := by
  unfold k0_pay27
  generalize k0_pay26 w V = S
  pointwise []
  refine congrArg clip (congrArg₂ (· * ·) rfl ?_)
  exact cat3 (fun t => Ideal.div (w (ix2 ch t)) (S (ix2 ch t))) j

theorem k0_pay52_at (w : FVec Ideal S96x128 .f32) (U V : FVec Ideal S96x384 .f32) (ch : Fin 96) (j : Fin 384) :
    k0_pay52 (F := Ideal) w U V (ix2 ch j)
      = clip (U (ix2 ch j) * Ideal.div (w (ix2 ch ⟨j.val % 128, by omega⟩)) (k0_pay51 (F := Ideal) w V (ix2 ch ⟨j.val % 128, by omega⟩))) := by
  unfold k0_pay52
  generalize k0_pay51 w V = S
  pointwise []
  refine congrArg clip (congrArg₂ (· * ·) rfl ?_)
  exact cat3 (fun t => Ideal.div (w (ix2 ch t)) (S (ix2 ch t))) j

theorem k0_pay18_at (v88 : FVec Ideal S384x768 .f32) (v96 : FVec Ideal S1x384 .f32) (v121 : BitVec 32) (v123 : IVec S1x384 1) (v131 v133 : Vec Ideal S96x128 .f32) (j : Fin 384) (ch : Fin 96) : k0_pay18 (F := Ideal) v88 v96 v121 v123 v131 v133 (ix4 0 0 j ch) = k0_pay17 (F := Ideal) v88 v96 v121 v123 v131 v133 (ix2 ch j) := by
  unfold k0_pay18
  generalize k0_pay17 v88 v96 v121 v123 v131 v133 = Q
  pointwise []

theorem k0_pay43_at (v26 : IVec S1x384 32) (v88 : FVec Ideal S384x768 .f32) (v266 : FVec Ideal S1x384 .f32) (v291 : BitVec 32) (v292 : IVec S1x384 32) (v301 v303 : Vec Ideal S96x128 .f32) (j : Fin 384) (ch : Fin 96) : k0_pay43 (F := Ideal) (k0_pay42 v26 v88 v266 v291 v292 v301 v303) (ix4 0 0 j ch) = k0_pay41 (F := Ideal) v26 v88 v266 v291 v292 v301 v303 (ix2 ch j) := by
  unfold k0_pay43 k0_pay42
  generalize k0_pay41 v26 v88 v266 v291 v292 v301 v303 = Q
  pointwise []

theorem k0_pay28_at (w : FVec Ideal S96x128 .f32) (U V : FVec Ideal S96x384 .f32) (j : Fin 384) (ch : Fin 96) : k0_pay28 (F := Ideal) w U V (ix4 0 0 j ch) = k0_pay27 (F := Ideal) w U V (ix2 ch j) := by
  unfold k0_pay28
  generalize k0_pay27 w U V = Q
  pointwise []

theorem k0_pay53_at (w : FVec Ideal S96x128 .f32) (U V : FVec Ideal S96x384 .f32) (j : Fin 384) (ch : Fin 96) : k0_pay53 (F := Ideal) w U V (ix4 0 0 j ch) = k0_pay52 (F := Ideal) w U V (ix2 ch j) := by
  unfold k0_pay53
  generalize k0_pay52 w U V = Q
  pointwise []

theorem k0_pay19_at (Q : FVec Ideal S96x384 .fp8e4m3) (ch : Fin 96) (l : Fin 128) : k0_pay19 (F := Ideal) Q (ix3 0 ch l) = Q (ix2 ch ⟨0 + l.val, by omega⟩) := by
  unfold k0_pay19
  pointwise []

theorem k0_pay20_at (Q : FVec Ideal S96x384 .fp8e4m3) (ch : Fin 96) (l : Fin 128) : k0_pay20 (F := Ideal) Q (ix3 0 ch l) = Q (ix2 ch ⟨128 + l.val, by omega⟩) := by
  unfold k0_pay20
  pointwise []

theorem k0_pay21_at (Q : FVec Ideal S96x384 .fp8e4m3) (ch : Fin 96) (l : Fin 128) : k0_pay21 (F := Ideal) Q (ix3 0 ch l) = Q (ix2 ch ⟨256 + l.val, by omega⟩) := by
  unfold k0_pay21
  pointwise []

theorem k0_pay44_at (Q : FVec Ideal S96x384 .fp8e4m3) (ch : Fin 96) (l : Fin 128) : k0_pay44 (F := Ideal) Q (ix3 0 ch l) = Q (ix2 ch ⟨0 + l.val, by omega⟩) := by
  unfold k0_pay44
  pointwise []

theorem k0_pay45_at (Q : FVec Ideal S96x384 .fp8e4m3) (ch : Fin 96) (l : Fin 128) : k0_pay45 (F := Ideal) Q (ix3 0 ch l) = Q (ix2 ch ⟨128 + l.val, by omega⟩) := by
  unfold k0_pay45
  pointwise []

theorem k0_pay46_at (Q : FVec Ideal S96x384 .fp8e4m3) (ch : Fin 96) (l : Fin 128) : k0_pay46 (F := Ideal) Q (ix3 0 ch l) = Q (ix2 ch ⟨256 + l.val, by omega⟩) := by
  unfold k0_pay46
  pointwise []

theorem k0_pay29_at (w : FVec Ideal S96x128 .f32) (U V : FVec Ideal S96x384 .f32) (ch : Fin 96) (l : Fin 128) : k0_pay29 (F := Ideal) w U V (ix3 0 ch l) = k0_pay27 (F := Ideal) w U V (ix2 ch ⟨0 + l.val, by omega⟩) := by
  unfold k0_pay29
  generalize k0_pay27 w U V = Q
  pointwise []

theorem k0_pay30_at (w : FVec Ideal S96x128 .f32) (U V : FVec Ideal S96x384 .f32) (ch : Fin 96) (l : Fin 128) : k0_pay30 (F := Ideal) w U V (ix3 0 ch l) = k0_pay27 (F := Ideal) w U V (ix2 ch ⟨128 + l.val, by omega⟩) := by
  unfold k0_pay30
  generalize k0_pay27 w U V = Q
  pointwise []

theorem k0_pay31_at (w : FVec Ideal S96x128 .f32) (U V : FVec Ideal S96x384 .f32) (ch : Fin 96) (l : Fin 128) : k0_pay31 (F := Ideal) w U V (ix3 0 ch l) = k0_pay27 (F := Ideal) w U V (ix2 ch ⟨256 + l.val, by omega⟩) := by
  unfold k0_pay31
  generalize k0_pay27 w U V = Q
  pointwise []

theorem k0_pay54_at (w : FVec Ideal S96x128 .f32) (U V : FVec Ideal S96x384 .f32) (ch : Fin 96) (l : Fin 128) : k0_pay54 (F := Ideal) w U V (ix3 0 ch l) = k0_pay52 (F := Ideal) w U V (ix2 ch ⟨0 + l.val, by omega⟩) := by
  unfold k0_pay54
  generalize k0_pay52 w U V = Q
  pointwise []

theorem k0_pay55_at (w : FVec Ideal S96x128 .f32) (U V : FVec Ideal S96x384 .f32) (ch : Fin 96) (l : Fin 128) : k0_pay55 (F := Ideal) w U V (ix3 0 ch l) = k0_pay52 (F := Ideal) w U V (ix2 ch ⟨128 + l.val, by omega⟩) := by
  unfold k0_pay55
  generalize k0_pay52 w U V = Q
  pointwise []

theorem k0_pay85_at (w : FVec Ideal S96x128 .f32) (U V : FVec Ideal S96x384 .f32) (ch : Fin 96) (l : Fin 128) : k0_pay85 (F := Ideal) (k0_pay56 w U V) (ix3 0 ch l) = k0_pay52 (F := Ideal) w U V (ix2 ch ⟨256 + l.val, by omega⟩) := by
  unfold k0_pay85 k0_pay56
  generalize k0_pay52 w U V = Q
  pointwise []

theorem k0_pay22_at (v27 : IVec S96x128 32) (x : BitVec 32) (s o : FVec Ideal S96x128 .f32) (ch : Fin 96) (l : Fin 128) :
    k0_pay22 (F := Ideal) v27 x s o (ix2 ch l) = Scalar.select (IntOp.cmpi CmpIPredicate.eq (v27 (ix2 ch l)) x) (s (ix2 ch l)) (o (ix2 ch l)) := by
  pointwise [k0_pay22]

theorem k0_pay32_at (v27 : IVec S96x128 32) (x : BitVec 32) (s o : FVec Ideal S96x128 .f32) (ch : Fin 96) (l : Fin 128) :
    k0_pay32 (F := Ideal) v27 x s o (ix2 ch l) = Scalar.select (IntOp.cmpi CmpIPredicate.eq (v27 (ix2 ch l)) x) (s (ix2 ch l)) (o (ix2 ch l)) := by
  pointwise [k0_pay32]

theorem k0_pay47_at (v27 : IVec S96x128 32) (x : BitVec 32) (s o : FVec Ideal S96x128 .f32) (ch : Fin 96) (l : Fin 128) :
    k0_pay47 (F := Ideal) v27 x s o (ix2 ch l) = Scalar.select (IntOp.cmpi CmpIPredicate.eq (v27 (ix2 ch l)) x) (s (ix2 ch l)) (o (ix2 ch l)) := by
  pointwise [k0_pay47]

theorem k0_pay86_at (x : BitVec 32) (s o : FVec Ideal S96x128 .f32) (ch : Fin 96) (l : Fin 128) :
    k0_pay86 (F := Ideal) x s o (ix2 ch l) = Scalar.select (IntOp.cmpi CmpIPredicate.eq (BitVec.ofNat 32 l.val) x) (s (ix2 ch l)) (o (ix2 ch l)) := by
  pointwise [k0_pay86]

theorem k0_pay87_at (v : Vec Ideal S96x128 .f32) (r : Fin 32) (ch : Fin 96) :
    k0_pay87 (F := Ideal) v (ix3 0 r ch) = v (ix2 ch ⟨r.val, by omega⟩) := by
  pointwise [k0_pay87]

theorem k0_pay88_at (v : Vec Ideal S96x128 .f32) (r : Fin 32) (ch : Fin 96) :
    k0_pay1 (F := Ideal) (k0_pay88 v) (ix3 0 r ch) = v (ix2 ch ⟨r.val, by omega⟩) := by
  pointwise [k0_pay1, k0_pay88]

end Cert.OperandsIdeal.OpVal

end
-- ==== Proof.OperandsCells.lean ====
/- What the operand kernel computes for a row of a block: plain functions of the block's rows, the
   small matrices and the sequence bounds, and the vectors of one trip as these functions. -/
module

public import proofs.«01_k».proof.Proof.OperandsPay

@[expose] public section

set_option maxRecDepth 16384

noncomputable section

namespace Cert.OperandsIdeal.OpVal

open Cert.OperandsIdeal Cert.OperandsIdeal.Gen
open Idealize.ShloMosaic Idealize.ShloMosaic.TcCoe Idealize.SL.Sem

variable (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32)

/-- The normalised row. -/
def yK (r : Fin 32) (j : Fin 384) (d : Fin 128) : EReal :=
  nrm (fun e => x0 (ix4 0 r j e)) (fun d e => x1 (ix2 d e)) d (x3 (ix2 d ⟨j.val % 128, by omega⟩)) (x4 (ix2 d ⟨j.val % 128, by omega⟩))

/-- Its scale. -/
def s1K (r : Fin 32) (j : Fin 384) : EReal := scl (top (fun d => yK x0 x1 x3 x4 r j d))

/-- Its quantised values. -/
def q1K (r : Fin 32) (j : Fin 384) (d : Fin 128) : EReal := clip (Ideal.div (yK x0 x1 x3 x4 r j d) (s1K x0 x1 x3 x4 r j))

/-- Its projections. -/
def accK (r : Fin 32) (j : Fin 384) (m : Fin 384) : EReal := ∑ d, x2 (ix2 m d) * q1K x0 x1 x3 x4 r j d

/-- Its scale where row and column lie in one sequence, zero elsewhere. -/
def mK (r : Fin 32) (j : Fin 384) : EReal :=
  msk (seg (Scalar.addi v0 (BitVec.ofNat 32 r.val)) (tI 0) (tI 1) (tI 2) (tI 3))
    (seg (BitVec.ofNat 32 j.val) (tJ 0) (tJ 1) (tJ 2) (tJ 3)) (s1K x0 x1 x3 x4 r j)

/-- The gated projection of operand `o` before its weight scale. -/
def uK (o : Fin 2) (r : Fin 32) (j : Fin 384) (ch : Fin 96) : EReal :=
  gate (accK x0 x1 x2 x3 x4 r j ⟨192 * o.val + ch.val, by omega⟩) (accK x0 x1 x2 x3 x4 r j ⟨192 * o.val + 96 + ch.val, by omega⟩)
    (mK x0 x1 x3 x4 v0 tI tJ r j) (x5 (ix2 ⟨192 * o.val + 96 + ch.val, by omega⟩ ⟨j.val % 128, by omega⟩))

/-- The scale of operand `o` in row `r`, channel `ch`, with the weight scale read at column `l`. -/
def scK (o : Fin 2) (r : Fin 32) (ch : Fin 96) (l : Fin 128) : EReal :=
  scl (top (fun j => uK x0 x1 x2 x3 x4 x5 v0 tI tJ o r j ch)
    * FloatOps.absf (F := Ideal) (φ := .f32) (x5 (ix2 ⟨192 * o.val + ch.val, by omega⟩ l)))

/-- The quantised values of operand `o`. -/
def qK (o : Fin 2) (r : Fin 32) (j : Fin 384) (ch : Fin 96) : EReal :=
  clip (uK x0 x1 x2 x3 x4 x5 v0 tI tJ o r j ch
    * Ideal.div (x5 (ix2 ⟨192 * o.val + ch.val, by omega⟩ ⟨j.val % 128, by omega⟩)) (scK x0 x1 x2 x3 x4 x5 v0 tI tJ o r ch ⟨j.val % 128, by omega⟩))

section Trip

variable (z : Vec Ideal S1x2x384x128 .bf16) (ρ : Fin 2 → Fin 32) (hz : ∀ r j e, z (ix4 0 r j e) = x0 (ix4 0 (ρ r) j e))
include hz

theorem yA (d : Fin 128) (j : Fin 768) :
    k0_pay4 (F := Ideal) z x1 x3 x4 (ix2 d j) = yK x0 x1 x3 x4 (ρ ⟨j.val / 384, by omega⟩) ⟨j.val % 384, by omega⟩ d := by
  rw [pay4_at]
  unfold yK
  congr 1
  · funext e; exact hz _ _ _
  · exact congrArg (fun t => x3 (ix2 d t)) (Fin.ext (by simp only; omega))
  · exact congrArg (fun t => x4 (ix2 d t)) (Fin.ext (by simp only; omega))

theorem s1A (j : Fin 768) :
    k0_pay5 (F := Ideal) z x1 x3 x4 (ix2 0 j) = s1K x0 x1 x3 x4 (ρ ⟨j.val / 384, by omega⟩) ⟨j.val % 384, by omega⟩ := by
  rw [pay5_at]
  simp only [yA x0 x1 x3 x4 z ρ hz]
  rfl

theorem q1A (d : Fin 128) (j : Fin 768) :
    k0_pay7 (F := Ideal) (k0_pay6 z x1 x3 x4) (FloatOps.ofBits FTy.f32 3286237184#32) (ix2 d j)
      = q1K x0 x1 x3 x4 (ρ ⟨j.val / 384, by omega⟩) ⟨j.val % 384, by omega⟩ d := by
  rw [pay7_at, pay6_at, yA x0 x1 x3 x4 z ρ hz, s1A x0 x1 x3 x4 z ρ hz]
  rfl

theorem accA (m : Fin 384) (j : Fin 768) :
    k0_pay8 (F := Ideal) (k0_pay6 z x1 x3 x4) (FloatOps.ofBits FTy.f32 3286237184#32) x2 (ix2 m j)
      = accK x0 x1 x2 x3 x4 (ρ ⟨j.val / 384, by omega⟩) ⟨j.val % 384, by omega⟩ m := by
  rw [pay8_at]
  simp only [q1A x0 x1 x3 x4 z ρ hz]
  rfl

theorem s1A0 (j : Fin 384) : k0_pay5 (F := Ideal) z x1 x3 x4 (ix2 0 ⟨0 + j.val, by omega⟩) = s1K x0 x1 x3 x4 (ρ 0) j := by
  rw [s1A x0 x1 x3 x4 z ρ hz]
  exact congrArg₂ (fun a b => s1K x0 x1 x3 x4 (ρ a) b) (Fin.ext (by simp only [Fin.val_zero, Fin.val_one]; omega)) (Fin.ext (by simp only; omega))

theorem q1A0 (d : Fin 128) (j : Fin 384) :
    k0_pay7 (F := Ideal) (k0_pay6 z x1 x3 x4) (FloatOps.ofBits FTy.f32 3286237184#32) (ix2 d ⟨0 + j.val, by omega⟩) = q1K x0 x1 x3 x4 (ρ 0) j d := by
  rw [q1A x0 x1 x3 x4 z ρ hz]
  exact congrArg₂ (fun a b => q1K x0 x1 x3 x4 (ρ a) b d) (Fin.ext (by simp only [Fin.val_zero, Fin.val_one]; omega)) (Fin.ext (by simp only; omega))

theorem accA0 (m : Fin 384) (j : Fin 384) :
    k0_pay8 (F := Ideal) (k0_pay6 z x1 x3 x4) (FloatOps.ofBits FTy.f32 3286237184#32) x2 (ix2 m ⟨0 + j.val, by omega⟩) = accK x0 x1 x2 x3 x4 (ρ 0) j m := by
  rw [accA x0 x1 x2 x3 x4 z ρ hz]
  exact congrArg₂ (fun a b => accK x0 x1 x2 x3 x4 (ρ a) b m) (Fin.ext (by simp only [Fin.val_zero, Fin.val_one]; omega)) (Fin.ext (by simp only; omega))

theorem s1A1 (j : Fin 384) : k0_pay5 (F := Ideal) z x1 x3 x4 (ix2 0 ⟨384 + j.val, by omega⟩) = s1K x0 x1 x3 x4 (ρ 1) j := by
  rw [s1A x0 x1 x3 x4 z ρ hz]
  exact congrArg₂ (fun a b => s1K x0 x1 x3 x4 (ρ a) b) (Fin.ext (by simp only [Fin.val_zero, Fin.val_one]; omega)) (Fin.ext (by simp only; omega))

theorem q1A1 (d : Fin 128) (j : Fin 384) :
    k0_pay7 (F := Ideal) (k0_pay6 z x1 x3 x4) (FloatOps.ofBits FTy.f32 3286237184#32) (ix2 d ⟨384 + j.val, by omega⟩) = q1K x0 x1 x3 x4 (ρ 1) j d := by
  rw [q1A x0 x1 x3 x4 z ρ hz]
  exact congrArg₂ (fun a b => q1K x0 x1 x3 x4 (ρ a) b d) (Fin.ext (by simp only [Fin.val_zero, Fin.val_one]; omega)) (Fin.ext (by simp only; omega))

theorem accA1 (m : Fin 384) (j : Fin 384) :
    k0_pay8 (F := Ideal) (k0_pay6 z x1 x3 x4) (FloatOps.ofBits FTy.f32 3286237184#32) x2 (ix2 m ⟨384 + j.val, by omega⟩) = accK x0 x1 x2 x3 x4 (ρ 1) j m := by
  rw [accA x0 x1 x2 x3 x4 z ρ hz]
  exact congrArg₂ (fun a b => accK x0 x1 x2 x3 x4 (ρ a) b m) (Fin.ext (by simp only [Fin.val_zero, Fin.val_one]; omega)) (Fin.ext (by simp only; omega))

end Trip

theorem U0a (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (j : Fin 384) :
    k0_pay15 (F := Ideal) v88 v96 v121 v123 g (ix2 ch j) = uK x0 x1 x2 x3 x4 x5 v0 tI tJ 0 ρ j ch := by
  rw [k0_pay15_at, hacc, hacc, hm, hg]
  rfl

theorem S0a (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay16 (F := Ideal) v88 v96 v121 v123 w g (ix2 ch l) = scK x0 x1 x2 x3 x4 x5 v0 tI tJ 0 ρ ch l := by
  rw [k0_pay16_at, hw]
  simp only [U0a x0 x1 x2 x3 x4 x5 v0 tI tJ ρ v88 v96 v121 v123 w g hacc hm hw hg]
  unfold scK
  refine congrArg scl (congrArg₂ (· * ·) rfl (congrArg _ (congrArg x5 ?_)))
  idx_ext

theorem Q0a (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (j : Fin 384) :
    k0_pay17 (F := Ideal) v88 v96 v121 v123 w g (ix2 ch j) = qK x0 x1 x2 x3 x4 x5 v0 tI tJ 0 ρ j ch := by
  have hS := S0a x0 x1 x2 x3 x4 x5 v0 tI tJ ρ v88 v96 v121 v123 w g hacc hm hw hg ch
  have hU := U0a x0 x1 x2 x3 x4 x5 v0 tI tJ ρ v88 v96 v121 v123 w g hacc hm hw hg ch j
  rw [k0_pay17_at, hU, hS, hw]
  rfl

theorem R0a (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (j : Fin 384) (ch : Fin 96) :
    k0_pay18 (F := Ideal) v88 v96 v121 v123 w g (ix4 0 0 j ch) = qK x0 x1 x2 x3 x4 x5 v0 tI tJ 0 ρ j ch := by
  rw [k0_pay18_at]
  exact Q0a x0 x1 x2 x3 x4 x5 v0 tI tJ ρ v88 v96 v121 v123 w g hacc hm hw hg ch j

theorem C0a0 (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay19 (F := Ideal) (k0_pay17 (F := Ideal) v88 v96 v121 v123 w g) (ix3 0 ch l) = qK x0 x1 x2 x3 x4 x5 v0 tI tJ 0 ρ ⟨0 + l.val, by omega⟩ ch := by
  rw [k0_pay19_at]
  exact Q0a x0 x1 x2 x3 x4 x5 v0 tI tJ ρ v88 v96 v121 v123 w g hacc hm hw hg ch _

theorem C0a1 (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay20 (F := Ideal) (k0_pay17 (F := Ideal) v88 v96 v121 v123 w g) (ix3 0 ch l) = qK x0 x1 x2 x3 x4 x5 v0 tI tJ 0 ρ ⟨128 + l.val, by omega⟩ ch := by
  rw [k0_pay20_at]
  exact Q0a x0 x1 x2 x3 x4 x5 v0 tI tJ ρ v88 v96 v121 v123 w g hacc hm hw hg ch _

theorem C0a2 (ρ : Fin 32) (v88 : FVec Ideal S384x768 .f32) (v96 : FVec Ideal S1x384 .f32) (v121 : BitVec 32) (v123 : IVec S1x384 1) (w g : Vec Ideal S96x128 .f32) (hacc : ∀ (m : Fin 384) (j : Fin 384), v88 (ix2 m ⟨0 + j.val, by omega⟩) = accK x0 x1 x2 x3 x4 ρ j m)
    (hm : ∀ j : Fin 384, k0_pay13 (F := Ideal) v96 v121 v123 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay21 (F := Ideal) (k0_pay17 (F := Ideal) v88 v96 v121 v123 w g) (ix3 0 ch l) = qK x0 x1 x2 x3 x4 x5 v0 tI tJ 0 ρ ⟨256 + l.val, by omega⟩ ch := by
  rw [k0_pay21_at]
  exact Q0a x0 x1 x2 x3 x4 x5 v0 tI tJ ρ v88 v96 v121 v123 w g hacc hm hw hg ch _

theorem U0b (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (j : Fin 384) :
    k0_pay24 (F := Ideal) v88 mv g (ix2 ch j) = uK x0 x1 x2 x3 x4 x5 v0 tI tJ 1 ρ j ch := by
  rw [k0_pay24_at, hacc, hacc, hm, hg]
  rfl

theorem S0b (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay26 (F := Ideal) (k0_pay23 (F := Ideal) w) (k0_pay25 v88 mv g) (ix2 ch l) = scK x0 x1 x2 x3 x4 x5 v0 tI tJ 1 ρ ch l := by
  have ew : k0_pay23 (F := Ideal) w = w := by
    funext p; idx_vars p; pointwise [k0_pay23]
  rw [ew]
  rw [k0_pay26_at, hw]
  simp only [U0b x0 x1 x2 x3 x4 x5 v0 tI tJ ρ v88 mv w g hacc hm hw hg]
  unfold scK
  refine congrArg scl (congrArg₂ (· * ·) rfl (congrArg _ (congrArg x5 ?_)))
  idx_ext

theorem Q0b (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (j : Fin 384) :
    k0_pay27 (F := Ideal) (k0_pay23 (F := Ideal) w) (k0_pay24 v88 mv g) (k0_pay25 v88 mv g) (ix2 ch j) = qK x0 x1 x2 x3 x4 x5 v0 tI tJ 1 ρ j ch := by
  have hS := S0b x0 x1 x2 x3 x4 x5 v0 tI tJ ρ v88 mv w g hacc hm hw hg ch
  have hU := U0b x0 x1 x2 x3 x4 x5 v0 tI tJ ρ v88 mv w g hacc hm hw hg ch j
  have ew : k0_pay23 (F := Ideal) w = w := by
    funext p; idx_vars p; pointwise [k0_pay23]
  rw [ew] at hS ⊢
  rw [k0_pay27_at, hU, hS, hw]
  rfl

theorem R0b (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (j : Fin 384) (ch : Fin 96) :
    k0_pay28 (F := Ideal) (k0_pay23 (F := Ideal) w) (k0_pay24 v88 mv g) (k0_pay25 v88 mv g) (ix4 0 0 j ch) = qK x0 x1 x2 x3 x4 x5 v0 tI tJ 1 ρ j ch := by
  rw [k0_pay28_at]
  exact Q0b x0 x1 x2 x3 x4 x5 v0 tI tJ ρ v88 mv w g hacc hm hw hg ch j

theorem C0b0 (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay29 (F := Ideal) (k0_pay23 (F := Ideal) w) (k0_pay24 v88 mv g) (k0_pay25 v88 mv g) (ix3 0 ch l) = qK x0 x1 x2 x3 x4 x5 v0 tI tJ 1 ρ ⟨0 + l.val, by omega⟩ ch := by
  rw [k0_pay29_at]
  exact Q0b x0 x1 x2 x3 x4 x5 v0 tI tJ ρ v88 mv w g hacc hm hw hg ch _

theorem C0b1 (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay30 (F := Ideal) (k0_pay23 (F := Ideal) w) (k0_pay24 v88 mv g) (k0_pay25 v88 mv g) (ix3 0 ch l) = qK x0 x1 x2 x3 x4 x5 v0 tI tJ 1 ρ ⟨128 + l.val, by omega⟩ ch := by
  rw [k0_pay30_at]
  exact Q0b x0 x1 x2 x3 x4 x5 v0 tI tJ ρ v88 mv w g hacc hm hw hg ch _

theorem C0b2 (ρ : Fin 32) (v88 : FVec Ideal S384x768 .f32) (mv : FVec Ideal S1x384 .f32) (w g : Vec Ideal S96x128 .f32) (hacc : ∀ (m : Fin 384) (j : Fin 384), v88 (ix2 m ⟨0 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay31 (F := Ideal) (k0_pay23 (F := Ideal) w) (k0_pay24 v88 mv g) (k0_pay25 v88 mv g) (ix3 0 ch l) = qK x0 x1 x2 x3 x4 x5 v0 tI tJ 1 ρ ⟨256 + l.val, by omega⟩ ch := by
  rw [k0_pay31_at]
  exact Q0b x0 x1 x2 x3 x4 x5 v0 tI tJ ρ v88 mv w g hacc hm hw hg ch _

theorem U1a (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (j : Fin 384) :
    k0_pay39 (F := Ideal) v26 v88 v266 v291 v292 g (ix2 ch j) = uK x0 x1 x2 x3 x4 x5 v0 tI tJ 0 ρ j ch := by
  rw [k0_pay39_at, hacc, hacc, hm, hg]
  rfl

theorem S1a (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay40 (F := Ideal) v26 v88 v266 v291 v292 w g (ix2 ch l) = scK x0 x1 x2 x3 x4 x5 v0 tI tJ 0 ρ ch l := by
  rw [k0_pay40_at, hw]
  simp only [U1a x0 x1 x2 x3 x4 x5 v0 tI tJ ρ v88 v26 v266 v291 v292 w g hacc hm hw hg]
  unfold scK
  refine congrArg scl (congrArg₂ (· * ·) rfl (congrArg _ (congrArg x5 ?_)))
  idx_ext

theorem Q1a (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (j : Fin 384) :
    k0_pay41 (F := Ideal) v26 v88 v266 v291 v292 w g (ix2 ch j) = qK x0 x1 x2 x3 x4 x5 v0 tI tJ 0 ρ j ch := by
  have hS := S1a x0 x1 x2 x3 x4 x5 v0 tI tJ ρ v88 v26 v266 v291 v292 w g hacc hm hw hg ch
  have hU := U1a x0 x1 x2 x3 x4 x5 v0 tI tJ ρ v88 v26 v266 v291 v292 w g hacc hm hw hg ch j
  rw [k0_pay41_at, hU, hS, hw]
  rfl

theorem R1a (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (j : Fin 384) (ch : Fin 96) :
    k0_pay43 (F := Ideal) (k0_pay42 v26 v88 v266 v291 v292 w g) (ix4 0 0 j ch) = qK x0 x1 x2 x3 x4 x5 v0 tI tJ 0 ρ j ch := by
  rw [k0_pay43_at]
  exact Q1a x0 x1 x2 x3 x4 x5 v0 tI tJ ρ v88 v26 v266 v291 v292 w g hacc hm hw hg ch j

theorem C1a0 (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay44 (F := Ideal) (k0_pay41 (F := Ideal) v26 v88 v266 v291 v292 w g) (ix3 0 ch l) = qK x0 x1 x2 x3 x4 x5 v0 tI tJ 0 ρ ⟨0 + l.val, by omega⟩ ch := by
  rw [k0_pay44_at]
  exact Q1a x0 x1 x2 x3 x4 x5 v0 tI tJ ρ v88 v26 v266 v291 v292 w g hacc hm hw hg ch _

theorem C1a1 (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay45 (F := Ideal) (k0_pay41 (F := Ideal) v26 v88 v266 v291 v292 w g) (ix3 0 ch l) = qK x0 x1 x2 x3 x4 x5 v0 tI tJ 0 ρ ⟨128 + l.val, by omega⟩ ch := by
  rw [k0_pay45_at]
  exact Q1a x0 x1 x2 x3 x4 x5 v0 tI tJ ρ v88 v26 v266 v291 v292 w g hacc hm hw hg ch _

theorem C1a2 (ρ : Fin 32) (v88 : FVec Ideal S384x768 .f32) (v26 : IVec S1x384 32) (v266 : FVec Ideal S1x384 .f32) (v291 : BitVec 32) (v292 : IVec S1x384 32) (w g : Vec Ideal S96x128 .f32) (hacc : ∀ (m : Fin 384) (j : Fin 384), v88 (ix2 m ⟨384 + j.val, by omega⟩) = accK x0 x1 x2 x3 x4 ρ j m)
    (hm : ∀ j : Fin 384, k0_pay37 (F := Ideal) v26 v266 v291 v292 (ix2 0 j) = mK x0 x1 x3 x4 v0 tI tJ ρ j)
    (hw : ∀ (ch : Fin 96) (l : Fin 128), w (ix2 ch l) = x5 (ix2 ⟨0 + ch.val, by omega⟩ l))
    (hg : ∀ (ch : Fin 96) (l : Fin 128), g (ix2 ch l) = x5 (ix2 ⟨96 + ch.val, by omega⟩ l)) (ch : Fin 96) (l : Fin 128) :
    k0_pay46 (F := Ideal) (k0_pay41 (F := Ideal) v26 v88 v266 v291 v292 w g) (ix3 0 ch l) = qK x0 x1 x2 x3 x4 x5 v0 tI tJ 0 ρ ⟨256 + l.val, by omega⟩ ch := by
  rw [k0_pay46_at]
  exact Q1a x0 x1 x2 x3 x4 x5 v0 tI tJ ρ v88 v26 v266 v291 v292 w g hacc hm hw hg ch _

theorem U1b (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (j : Fin 384) :
    k0_pay49 (F := Ideal) v88 mv g (ix2 ch j) = uK x0 x1 x2 x3 x4 x5 v0 tI tJ 1 ρ j ch := by
  rw [k0_pay49_at, hacc, hacc, hm, hg]
  rfl

theorem S1b (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay51 (F := Ideal) (k0_pay48 (F := Ideal) w) (k0_pay50 v88 mv g) (ix2 ch l) = scK x0 x1 x2 x3 x4 x5 v0 tI tJ 1 ρ ch l := by
  have ew : k0_pay48 (F := Ideal) w = w := by
    funext p; idx_vars p; pointwise [k0_pay48]
  rw [ew]
  rw [k0_pay51_at, hw]
  simp only [U1b x0 x1 x2 x3 x4 x5 v0 tI tJ ρ v88 mv w g hacc hm hw hg]
  unfold scK
  refine congrArg scl (congrArg₂ (· * ·) rfl (congrArg _ (congrArg x5 ?_)))
  idx_ext

theorem Q1b (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (j : Fin 384) :
    k0_pay52 (F := Ideal) (k0_pay48 (F := Ideal) w) (k0_pay49 v88 mv g) (k0_pay50 v88 mv g) (ix2 ch j) = qK x0 x1 x2 x3 x4 x5 v0 tI tJ 1 ρ j ch := by
  have hS := S1b x0 x1 x2 x3 x4 x5 v0 tI tJ ρ v88 mv w g hacc hm hw hg ch
  have hU := U1b x0 x1 x2 x3 x4 x5 v0 tI tJ ρ v88 mv w g hacc hm hw hg ch j
  have ew : k0_pay48 (F := Ideal) w = w := by
    funext p; idx_vars p; pointwise [k0_pay48]
  rw [ew] at hS ⊢
  rw [k0_pay52_at, hU, hS, hw]
  rfl

theorem R1b (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (j : Fin 384) (ch : Fin 96) :
    k0_pay53 (F := Ideal) (k0_pay48 (F := Ideal) w) (k0_pay49 v88 mv g) (k0_pay50 v88 mv g) (ix4 0 0 j ch) = qK x0 x1 x2 x3 x4 x5 v0 tI tJ 1 ρ j ch := by
  rw [k0_pay53_at]
  exact Q1b x0 x1 x2 x3 x4 x5 v0 tI tJ ρ v88 mv w g hacc hm hw hg ch j

theorem C1b0 (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay54 (F := Ideal) (k0_pay48 (F := Ideal) w) (k0_pay49 v88 mv g) (k0_pay50 v88 mv g) (ix3 0 ch l) = qK x0 x1 x2 x3 x4 x5 v0 tI tJ 1 ρ ⟨0 + l.val, by omega⟩ ch := by
  rw [k0_pay54_at]
  exact Q1b x0 x1 x2 x3 x4 x5 v0 tI tJ ρ v88 mv w g hacc hm hw hg ch _

theorem C1b1 (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay55 (F := Ideal) (k0_pay48 (F := Ideal) w) (k0_pay49 v88 mv g) (k0_pay50 v88 mv g) (ix3 0 ch l) = qK x0 x1 x2 x3 x4 x5 v0 tI tJ 1 ρ ⟨128 + l.val, by omega⟩ ch := by
  rw [k0_pay55_at]
  exact Q1b x0 x1 x2 x3 x4 x5 v0 tI tJ ρ v88 mv w g hacc hm hw hg ch _

theorem C1b2 (ρ : Fin 32) (v88 : FVec Ideal S384x768 .f32) (mv : FVec Ideal S1x384 .f32) (w g : Vec Ideal S96x128 .f32) (hacc : ∀ (m : Fin 384) (j : Fin 384), v88 (ix2 m ⟨384 + j.val, by omega⟩) = accK x0 x1 x2 x3 x4 ρ j m)
    (hm : ∀ j : Fin 384, mv (ix2 0 j) = mK x0 x1 x3 x4 v0 tI tJ ρ j)
    (hw : ∀ (ch : Fin 96) (l : Fin 128), w (ix2 ch l) = x5 (ix2 ⟨192 + ch.val, by omega⟩ l))
    (hg : ∀ (ch : Fin 96) (l : Fin 128), g (ix2 ch l) = x5 (ix2 ⟨288 + ch.val, by omega⟩ l)) (ch : Fin 96) (l : Fin 128) :
    k0_pay85 (F := Ideal) (k0_pay56 (k0_pay48 (F := Ideal) w) (k0_pay49 v88 mv g) (k0_pay50 v88 mv g)) (ix3 0 ch l) = qK x0 x1 x2 x3 x4 x5 v0 tI tJ 1 ρ ⟨256 + l.val, by omega⟩ ch := by
  rw [k0_pay85_at]
  exact Q1b x0 x1 x2 x3 x4 x5 v0 tI tJ ρ v88 mv w g hacc hm hw hg ch _

end Cert.OperandsIdeal.OpVal

end
-- ==== Proof.OperandsTrip.lean ====
/- One trip of the first loop: the vectors it computes are the plain functions of the block, at the two
   rows of the trip. -/
module

public import proofs.«01_k».proof.Proof.OperandsIdealLoops
public import proofs.«01_k».proof.Proof.OperandsCells

@[expose] public section

set_option maxRecDepth 16384

noncomputable section

namespace Cert.OperandsIdeal.OpVal

open Cert.OperandsIdeal Cert.OperandsIdeal.Gen
open Idealize.ShloMosaic Idealize.ShloMosaic.TcCoe Idealize.SL.Sem

/-- The two rows of trip `k`. -/
def rho (k : Fin k0_t1_loop.trips) (r : Fin 2) : Fin 32 :=
  ⟨2 * k.val + r.val, by have := Nat.lt_of_lt_of_le k.isLt k0_t1_abs.2.1; omega⟩

theorem row0 : ∀ k : Fin k0_t1_loop.trips, trip_k0_t1.sl.v89 k = BitVec.ofNat 32 (rho k 0).val := by decide +kernel
theorem row1 : ∀ k : Fin k0_t1_loop.trips, trip_k0_t1.sl.v259 k = BitVec.ofNat 32 (rho k 1).val := by decide +kernel

/-- The bounds the row is compared with. -/
def TI (i : grid0.Coords) (arg2 : Memref sig .tc .smem S2x5 .i32) (X_arg2 : BufTy.Contents (Elt Ideal) arg2.view.ty) : Fin 4 → BitVec 32 :=
  ![trip_k0_t1.sl.r_2 (F := Ideal) i arg2 X_arg2, trip_k0_t1.sl.r_3 (F := Ideal) i arg2 X_arg2,
    trip_k0_t1.sl.r_4 (F := Ideal) i arg2 X_arg2, trip_k0_t1.sl.r_5 (F := Ideal) i arg2 X_arg2]

/-- The bounds the column is compared with. -/
def TJ (a b c d : BitVec 32) : Fin 4 → BitVec 32 := ![a, b, c, d]

variable (i : grid0.Coords) (arg2 : Memref sig .tc .smem S2x5 .i32) (arg3 : Memref sig .tc .vmem S1x32x384x128 .bf16) (arg4 : Memref sig .tc .vmem S128x128 .bf16) (arg5 : Memref sig .tc .vmem S384x128 .fp8e4m3) (arg6 : Memref sig .tc .vmem S128x128 .f32) (arg7 : Memref sig .tc .vmem S128x128 .f32) (arg8 : Memref sig .tc .vmem S384x128 .f32) (v0 : BitVec 32) (v4 : Elt Ideal .i32) (v10 : Elt Ideal .i32) (v16 : Elt Ideal .i32) (v22 : Elt Ideal .i32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips)
  (x0 : Vec Ideal S1x32x384x128 .bf16) (x1 : Vec Ideal S128x128 .bf16) (x2 : Vec Ideal S384x128 .fp8e4m3)
  (x3 x4 : Vec Ideal S128x128 .f32) (x5 : Vec Ideal S384x128 .f32)
  (h3 : arg3.view.read (Elt Ideal) X_arg3 = x0) (h4 : arg4.view.read (Elt Ideal) X_arg4 = x1) (h5 : arg5.view.read (Elt Ideal) X_arg5 = x2)
  (h6 : arg6.view.read (Elt Ideal) X_arg6 = x3) (h7 : arg7.view.read (Elt Ideal) X_arg7 = x4) (h8 : arg8.view.read (Elt Ideal) X_arg8 = x5)
include h3 h4 h5 h6 h7 h8

omit h3 h4 h5 h6 h7 in
theorem ld8 (o : Nat) (ho : o + 96 ≤ 384) (inb) (ch : Fin 96) (l : Fin 128) :
    View.readAt (Elt Ideal) arg8.view (Rect.unit (s := S384x128) ![o, 0] S96x128.size inb).toLoadRect X_arg8 (ix2 ch l) = x5 (ix2 ⟨o + ch.val, by omega⟩ l) := by
  rw [View.readAt_eq_ld, h8, View.ld_apply]
  refine congrArg x5 (funext fun (a : Fin 2) => Fin.ext ?_)
  fin_cases a
  · show o + 1 * ch.val = o + ch.val; omega
  · show 0 + 1 * l.val = l.val; omega

omit h4 h5 h6 h7 h8 in
theorem ld3 (inb) (r : Fin 2) (j : Fin 384) (e : Fin 128) :
    View.readAt (Elt Ideal) arg3.view (Rect.unit (s := S1x32x384x128) (k0_off5 k) S1x2x384x128.size inb).toLoadRect X_arg3 (ix4 0 r j e) = x0 (ix4 0 (rho k r) j e) := by
  rw [View.readAt_eq_ld, h3, View.ld_apply]
  refine congrArg x0 (funext fun (a : Fin 4) => Fin.ext ?_)
  have h := k0_off5_eq k
  fin_cases a
  · show k0_off5 k 0 + 1 * 0 = 0; rw [h]; rfl
  · show k0_off5 k 1 + 1 * r.val = 2 * k.val + r.val
    rw [h]; show 2 * k.val + 1 * r.val = _; omega
  · show k0_off5 k 2 + 1 * j.val = j.val
    rw [h]; show 0 + 1 * j.val = _; omega
  · show k0_off5 k 3 + 1 * e.val = e.val
    rw [h]; show 0 + 1 * e.val = _; omega

omit h3 h5 h6 h7 h8 in
theorem ldw4 (inb) : View.readAt (Elt Ideal) arg4.view (Rect.unit (s := S128x128) ![0, 0] S128x128.size inb).toLoadRect X_arg4 = x1 := by
  rw [View.readAt_eq_ld, h4, View.ld_unit_zero (by funext a; fin_cases a <;> rfl)]

omit h3 h4 h6 h7 h8 in
theorem ldw5 (inb) : View.readAt (Elt Ideal) arg5.view (Rect.unit (s := S384x128) ![0, 0] S384x128.size inb).toLoadRect X_arg5 = x2 := by
  rw [View.readAt_eq_ld, h5, View.ld_unit_zero (by funext a; fin_cases a <;> rfl)]

omit h3 h4 h5 h7 h8 in
theorem ldw6 (inb) : View.readAt (Elt Ideal) arg6.view (Rect.unit (s := S128x128) ![0, 0] S128x128.size inb).toLoadRect X_arg6 = x3 := by
  rw [View.readAt_eq_ld, h6, View.ld_unit_zero (by funext a; fin_cases a <;> rfl)]

omit h3 h4 h5 h6 h8 in
theorem ldw7 (inb) : View.readAt (Elt Ideal) arg7.view (Rect.unit (s := S128x128) ![0, 0] S128x128.size inb).toLoadRect X_arg7 = x4 := by
  rw [View.readAt_eq_ld, h7, View.ld_unit_zero (by funext a; fin_cases a <;> rfl)]

theorem w_s1_0 (j : Fin 384) : trip_k0_t1.sl.r (F := Ideal) arg3 arg4 arg6 arg7 X_arg3 X_arg4 X_arg6 X_arg7 k (ix2 0 ⟨0 + j.val, by omega⟩) = s1K x0 x1 x3 x4 (rho k 0) j := by
  unfold trip_k0_t1.sl.r
  rw [ldw4 (h4 := h4), ldw6 (h6 := h6), ldw7 (h7 := h7)]
  exact s1A0 x0 x1 x3 x4 _ (rho k) (ld3 (h3 := h3) (k := k) (inb := _)) j

theorem w_q1_0 (d : Fin 128) (j : Fin 384) : trip_k0_t1.sl.r_6 (F := Ideal) arg3 arg4 arg6 arg7 X_arg3 X_arg4 X_arg6 X_arg7 k (ix2 d ⟨0 + j.val, by omega⟩) = q1K x0 x1 x3 x4 (rho k 0) j d := by
  unfold trip_k0_t1.sl.r_6 trip_k0_t1.sl.r_1 trip_k0_t1.sl.cst_31
  rw [ldw4 (h4 := h4), ldw6 (h6 := h6), ldw7 (h7 := h7)]
  exact q1A0 x0 x1 x3 x4 _ (rho k) (ld3 (h3 := h3) (k := k) (inb := _)) d j

theorem w_acc_0 (m : Fin 384) (j : Fin 384) : trip_k0_t1.sl.r_7 (F := Ideal) arg3 arg4 arg5 arg6 arg7 X_arg3 X_arg4 X_arg5 X_arg6 X_arg7 k (ix2 m ⟨0 + j.val, by omega⟩) = accK x0 x1 x2 x3 x4 (rho k 0) j m := by
  unfold trip_k0_t1.sl.r_7 trip_k0_t1.sl.r_1 trip_k0_t1.sl.cst_31
  rw [ldw4 (h4 := h4), ldw5 (h5 := h5), ldw6 (h6 := h6), ldw7 (h7 := h7)]
  exact accA0 x0 x1 x2 x3 x4 _ (rho k) (ld3 (h3 := h3) (k := k) (inb := _)) m j

theorem w_s1_1 (j : Fin 384) : trip_k0_t1.sl.r (F := Ideal) arg3 arg4 arg6 arg7 X_arg3 X_arg4 X_arg6 X_arg7 k (ix2 0 ⟨384 + j.val, by omega⟩) = s1K x0 x1 x3 x4 (rho k 1) j := by
  unfold trip_k0_t1.sl.r
  rw [ldw4 (h4 := h4), ldw6 (h6 := h6), ldw7 (h7 := h7)]
  exact s1A1 x0 x1 x3 x4 _ (rho k) (ld3 (h3 := h3) (k := k) (inb := _)) j

theorem w_q1_1 (d : Fin 128) (j : Fin 384) : trip_k0_t1.sl.r_6 (F := Ideal) arg3 arg4 arg6 arg7 X_arg3 X_arg4 X_arg6 X_arg7 k (ix2 d ⟨384 + j.val, by omega⟩) = q1K x0 x1 x3 x4 (rho k 1) j d := by
  unfold trip_k0_t1.sl.r_6 trip_k0_t1.sl.r_1 trip_k0_t1.sl.cst_31
  rw [ldw4 (h4 := h4), ldw6 (h6 := h6), ldw7 (h7 := h7)]
  exact q1A1 x0 x1 x3 x4 _ (rho k) (ld3 (h3 := h3) (k := k) (inb := _)) d j

theorem w_acc_1 (m : Fin 384) (j : Fin 384) : trip_k0_t1.sl.r_7 (F := Ideal) arg3 arg4 arg5 arg6 arg7 X_arg3 X_arg4 X_arg5 X_arg6 X_arg7 k (ix2 m ⟨384 + j.val, by omega⟩) = accK x0 x1 x2 x3 x4 (rho k 1) j m := by
  unfold trip_k0_t1.sl.r_7 trip_k0_t1.sl.r_1 trip_k0_t1.sl.cst_31
  rw [ldw4 (h4 := h4), ldw5 (h5 := h5), ldw6 (h6 := h6), ldw7 (h7 := h7)]
  exact accA1 x0 x1 x2 x3 x4 _ (rho k) (ld3 (h3 := h3) (k := k) (inb := _)) m j

omit h3 h4 h5 h6 h7 h8 in
theorem w_si0 : trip_k0_t1.sl.v121 (F := Ideal) i arg2 v0 X_arg2 k = seg (Scalar.addi v0 (BitVec.ofNat 32 (rho k 0).val)) (TI i arg2 X_arg2 0) (TI i arg2 X_arg2 1) (TI i arg2 X_arg2 2) (TI i arg2 X_arg2 3) := by
  rw [← row0]; rfl

omit h3 h4 h5 h6 h7 h8 in
theorem w_si1 : trip_k0_t1.sl.v291 (F := Ideal) i arg2 v0 X_arg2 k = seg (Scalar.addi v0 (BitVec.ofNat 32 (rho k 1).val)) (TI i arg2 X_arg2 0) (TI i arg2 X_arg2 1) (TI i arg2 X_arg2 2) (TI i arg2 X_arg2 3) := by
  rw [← row1]; rfl

theorem w_m_0 (j : Fin 384) : trip_k0_t1.sl.r_10 (F := Ideal) i arg2 arg3 arg4 arg6 arg7 v0 v4 v10 v16 v22 X_arg2 X_arg3 X_arg4 X_arg6 X_arg7 k (ix2 0 j) = mK x0 x1 x3 x4 v0 (TI i arg2 X_arg2) (TJ v4 v10 v16 v22) (rho k 0) j := by
  unfold trip_k0_t1.sl.r_10
  rw [pay13_at _ _ _ (seg (BitVec.ofNat 32 j.val) v4 v10 v16 v22) j ?_]
  · unfold trip_k0_t1.sl.r_8
    rw [pay10_at]
    have e := w_s1_0 (h3 := h3) (h4 := h4) (h5 := h5) (h6 := h6) (h7 := h7) (h8 := h8) (k := k) (j := j)
    rw [show (⟨j.val, by omega⟩ : Fin 768) = ⟨0 + j.val, by omega⟩ from Fin.ext (by simp only; omega), e, w_si0]
    rfl
  · unfold trip_k0_t1.sl.r_9
    rw [pay12_at, pay84_at]
    rfl

theorem w_m_1 (j : Fin 384) : trip_k0_t1.sl.r_23 (F := Ideal) i arg2 arg3 arg4 arg6 arg7 v0 v4 v10 v16 v22 X_arg2 X_arg3 X_arg4 X_arg6 X_arg7 k (ix2 0 j) = mK x0 x1 x3 x4 v0 (TI i arg2 X_arg2) (TJ v4 v10 v16 v22) (rho k 1) j := by
  unfold trip_k0_t1.sl.r_23
  rw [pay37_at _ _ _ _ j ?_]
  · rw [show trip_k0_t1.sl.v266 (F := Ideal) arg3 arg4 arg6 arg7 X_arg3 X_arg4 X_arg6 X_arg7 k = k0_pay34 (F := Ideal) (trip_k0_t1.sl.r (F := Ideal) arg3 arg4 arg6 arg7 X_arg3 X_arg4 X_arg6 X_arg7 k) from rfl]
    rw [pay34_at, pay84_at]
    have e := w_s1_1 (h3 := h3) (h4 := h4) (h5 := h5) (h6 := h6) (h7 := h7) (h8 := h8) (k := k) (j := j)
    rw [e, w_si1]
    rfl
  · rfl

theorem w_sa_0 (ch : Fin 96) (l : Fin 128) : trip_k0_t1.sl.r_11 (F := Ideal) i arg2 arg3 arg4 arg5 arg6 arg7 arg8 v0 v4 v10 v16 v22 X_arg2 X_arg3 X_arg4 X_arg5 X_arg6 X_arg7 X_arg8 k (ix2 ch l) = scK x0 x1 x2 x3 x4 x5 v0 (TI i arg2 X_arg2) (TJ v4 v10 v16 v22) 0 (rho k 0) ch l := by
  unfold trip_k0_t1.sl.r_11
  exact S0a x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_qa_0 (ch : Fin 96) (j : Fin 384) : trip_k0_t1.sl.r_12 (F := Ideal) i arg2 arg3 arg4 arg5 arg6 arg7 arg8 v0 v4 v10 v16 v22 X_arg2 X_arg3 X_arg4 X_arg5 X_arg6 X_arg7 X_arg8 k (ix2 ch j) = qK x0 x1 x2 x3 x4 x5 v0 (TI i arg2 X_arg2) (TJ v4 v10 v16 v22) 0 (rho k 0) j ch := by
  unfold trip_k0_t1.sl.r_12
  exact Q0a x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch j

theorem w_ra_0 (j : Fin 384) (ch : Fin 96) : trip_k0_t1.sl.r_13 (F := Ideal) i arg2 arg3 arg4 arg5 arg6 arg7 arg8 v0 v4 v10 v16 v22 X_arg2 X_arg3 X_arg4 X_arg5 X_arg6 X_arg7 X_arg8 k (ix4 0 0 j ch) = qK x0 x1 x2 x3 x4 x5 v0 (TI i arg2 X_arg2) (TJ v4 v10 v16 v22) 0 (rho k 0) j ch := by
  unfold trip_k0_t1.sl.r_13
  exact R0a x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) j ch

theorem w_ca_0_0 (ch : Fin 96) (l : Fin 128) : k0_pay19 (F := Ideal) (trip_k0_t1.sl.r_12 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 0) ⟨0 + l.val, by omega⟩ ch := by
  unfold trip_k0_t1.sl.r_12
  exact C0a0 x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_ca_0_1 (ch : Fin 96) (l : Fin 128) : k0_pay20 (F := Ideal) (trip_k0_t1.sl.r_12 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 0) ⟨128 + l.val, by omega⟩ ch := by
  unfold trip_k0_t1.sl.r_12
  exact C0a1 x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_ca_0_2 (ch : Fin 96) (l : Fin 128) : k0_pay21 (F := Ideal) (trip_k0_t1.sl.r_12 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 0) ⟨256 + l.val, by omega⟩ ch := by
  unfold trip_k0_t1.sl.r_12
  exact C0a2 x0 x1 x2 x3 x4 x5 v0 (TI i arg2 X_arg2) (TJ v4 v10 v16 v22) (rho k 0) _ _ _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_sa_1 (ch : Fin 96) (l : Fin 128) : trip_k0_t1.sl.r_24 (F := Ideal) i arg2 arg3 arg4 arg5 arg6 arg7 arg8 v0 v4 v10 v16 v22 X_arg2 X_arg3 X_arg4 X_arg5 X_arg6 X_arg7 X_arg8 k (ix2 ch l) = scK x0 x1 x2 x3 x4 x5 v0 (TI i arg2 X_arg2) (TJ v4 v10 v16 v22) 0 (rho k 1) ch l := by
  unfold trip_k0_t1.sl.r_24
  exact S1a x0 x1 x2 x3 x4 x5 v0 (TI i arg2 X_arg2) (TJ v4 v10 v16 v22) (rho k 1) _ _ _ _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_ra_1 (j : Fin 384) (ch : Fin 96) : k0_pay43 (F := Ideal) (trip_k0_t1.sl.r_26 (F := Ideal) i arg2 arg3 arg4 arg5 arg6 arg7 arg8 v0 v4 v10 v16 v22 X_arg2 X_arg3 X_arg4 X_arg5 X_arg6 X_arg7 X_arg8 k) (ix4 0 0 j ch) = qK x0 x1 x2 x3 x4 x5 v0 (TI i arg2 X_arg2) (TJ v4 v10 v16 v22) 0 (rho k 1) j ch := by
  unfold trip_k0_t1.sl.r_26
  exact R1a x0 x1 x2 x3 x4 x5 v0 (TI i arg2 X_arg2) (TJ v4 v10 v16 v22) (rho k 1) _ _ _ _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) j ch

theorem w_ca_1_0 (ch : Fin 96) (l : Fin 128) : k0_pay44 (F := Ideal) (trip_k0_t1.sl.r_25 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 1) ⟨0 + l.val, by omega⟩ ch := by
  unfold trip_k0_t1.sl.r_25
  exact C1a0 x0 x1 x2 x3 x4 x5 v0 (TI i arg2 X_arg2) (TJ v4 v10 v16 v22) (rho k 1) _ _ _ _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_ca_1_1 (ch : Fin 96) (l : Fin 128) : k0_pay45 (F := Ideal) (trip_k0_t1.sl.r_25 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 1) ⟨128 + l.val, by omega⟩ ch := by
  unfold trip_k0_t1.sl.r_25
  exact C1a1 x0 x1 x2 x3 x4 x5 v0 (TI i arg2 X_arg2) (TJ v4 v10 v16 v22) (rho k 1) _ _ _ _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_ca_1_2 (ch : Fin 96) (l : Fin 128) : k0_pay46 (F := Ideal) (trip_k0_t1.sl.r_25 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 0 (rho k 1) ⟨256 + l.val, by omega⟩ ch := by
  unfold trip_k0_t1.sl.r_25
  exact C1a2 x0 x1 x2 x3 x4 x5 v0 (TI i arg2 X_arg2) (TJ v4 v10 v16 v22) (rho k 1) _ _ _ _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 0) (ho := by omega) (inb := _)) (ld8 (h8 := h8) (o := 96) (ho := by omega) (inb := _)) ch l

theorem w_sb_0 (ch : Fin 96) (l : Fin 128) : trip_k0_t1.sl.r_17 (F := Ideal) i arg2 arg3 arg4 arg5 arg6 arg7 arg8 v0 v4 v10 v16 v22 X_arg2 X_arg3 X_arg4 X_arg5 X_arg6 X_arg7 X_arg8 k (ix2 ch l) = scK x0 x1 x2 x3 x4 x5 v0 (TI i arg2 X_arg2) (TJ v4 v10 v16 v22) 1 (rho k 0) ch l := by
  unfold trip_k0_t1.sl.r_17 trip_k0_t1.sl.r_14 trip_k0_t1.sl.r_16
  exact S0b x0 x1 x2 x3 x4 x5 v0 (TI i arg2 X_arg2) (TJ v4 v10 v16 v22) (rho k 0) _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_rb_0 (j : Fin 384) (ch : Fin 96) : k0_pay28 (F := Ideal) (trip_k0_t1.sl.r_14 (F := Ideal) arg8 X_arg8) (trip_k0_t1.sl.r_15 (F := Ideal) i arg2 arg3 arg4 arg5 arg6 arg7 arg8 v0 v4 v10 v16 v22 X_arg2 X_arg3 X_arg4 X_arg5 X_arg6 X_arg7 X_arg8 k) (trip_k0_t1.sl.r_16 (F := Ideal) i arg2 arg3 arg4 arg5 arg6 arg7 arg8 v0 v4 v10 v16 v22 X_arg2 X_arg3 X_arg4 X_arg5 X_arg6 X_arg7 X_arg8 k) (ix4 0 0 j ch) = qK x0 x1 x2 x3 x4 x5 v0 (TI i arg2 X_arg2) (TJ v4 v10 v16 v22) 1 (rho k 0) j ch := by
  unfold trip_k0_t1.sl.r_14 trip_k0_t1.sl.r_15 trip_k0_t1.sl.r_16
  exact R0b x0 x1 x2 x3 x4 x5 v0 (TI i arg2 X_arg2) (TJ v4 v10 v16 v22) (rho k 0) _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) j ch

theorem w_cb_0_0 (ch : Fin 96) (l : Fin 128) : k0_pay29 (F := Ideal) (trip_k0_t1.sl.r_14 (F := Ideal) arg8 X_arg8) (trip_k0_t1.sl.r_15 (F := Ideal) i arg2 arg3 arg4 arg5 arg6 arg7 arg8 v0 v4 v10 v16 v22 X_arg2 X_arg3 X_arg4 X_arg5 X_arg6 X_arg7 X_arg8 k) (trip_k0_t1.sl.r_16 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 1 (rho k 0) ⟨0 + l.val, by omega⟩ ch := by
  unfold trip_k0_t1.sl.r_14 trip_k0_t1.sl.r_15 trip_k0_t1.sl.r_16
  exact C0b0 x0 x1 x2 x3 x4 x5 v0 (TI i arg2 X_arg2) (TJ v4 v10 v16 v22) (rho k 0) _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_cb_0_1 (ch : Fin 96) (l : Fin 128) : k0_pay30 (F := Ideal) (trip_k0_t1.sl.r_14 (F := Ideal) arg8 X_arg8) (trip_k0_t1.sl.r_15 (F := Ideal) i arg2 arg3 arg4 arg5 arg6 arg7 arg8 v0 v4 v10 v16 v22 X_arg2 X_arg3 X_arg4 X_arg5 X_arg6 X_arg7 X_arg8 k) (trip_k0_t1.sl.r_16 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 1 (rho k 0) ⟨128 + l.val, by omega⟩ ch := by
  unfold trip_k0_t1.sl.r_14 trip_k0_t1.sl.r_15 trip_k0_t1.sl.r_16
  exact C0b1 x0 x1 x2 x3 x4 x5 v0 (TI i arg2 X_arg2) (TJ v4 v10 v16 v22) (rho k 0) _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_cb_0_2 (ch : Fin 96) (l : Fin 128) : trip_k0_t1.sl.r_18 (F := Ideal) i arg2 arg3 arg4 arg5 arg6 arg7 arg8 v0 v4 v10 v16 v22 X_arg2 X_arg3 X_arg4 X_arg5 X_arg6 X_arg7 X_arg8 k (ix3 0 ch l) = qK x0 x1 x2 x3 x4 x5 v0 (TI i arg2 X_arg2) (TJ v4 v10 v16 v22) 1 (rho k 0) ⟨256 + l.val, by omega⟩ ch := by
  unfold trip_k0_t1.sl.r_18 trip_k0_t1.sl.r_14 trip_k0_t1.sl.r_15 trip_k0_t1.sl.r_16
  exact C0b2 x0 x1 x2 x3 x4 x5 v0 (TI i arg2 X_arg2) (TJ v4 v10 v16 v22) (rho k 0) _ _ _ _ (w_acc_0 (k := k) (h3 := h3) (h4 := h4) (h5 := h5) (h6 := h6) (h7 := h7) (h8 := h8))
    (w_m_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_sb_1 (ch : Fin 96) (l : Fin 128) : trip_k0_t1.sl.r_30 (F := Ideal) i arg2 arg3 arg4 arg5 arg6 arg7 arg8 v0 v4 v10 v16 v22 X_arg2 X_arg3 X_arg4 X_arg5 X_arg6 X_arg7 X_arg8 k (ix2 ch l) = scK x0 x1 x2 x3 x4 x5 v0 (TI i arg2 X_arg2) (TJ v4 v10 v16 v22) 1 (rho k 1) ch l := by
  unfold trip_k0_t1.sl.r_30 trip_k0_t1.sl.r_27 trip_k0_t1.sl.r_29
  exact S1b x0 x1 x2 x3 x4 x5 v0 (TI i arg2 X_arg2) (TJ v4 v10 v16 v22) (rho k 1) _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_rb_1 (j : Fin 384) (ch : Fin 96) : k0_pay53 (F := Ideal) (trip_k0_t1.sl.r_27 (F := Ideal) arg8 X_arg8) (trip_k0_t1.sl.r_28 (F := Ideal) i arg2 arg3 arg4 arg5 arg6 arg7 arg8 v0 v4 v10 v16 v22 X_arg2 X_arg3 X_arg4 X_arg5 X_arg6 X_arg7 X_arg8 k) (trip_k0_t1.sl.r_29 (F := Ideal) i arg2 arg3 arg4 arg5 arg6 arg7 arg8 v0 v4 v10 v16 v22 X_arg2 X_arg3 X_arg4 X_arg5 X_arg6 X_arg7 X_arg8 k) (ix4 0 0 j ch) = qK x0 x1 x2 x3 x4 x5 v0 (TI i arg2 X_arg2) (TJ v4 v10 v16 v22) 1 (rho k 1) j ch := by
  unfold trip_k0_t1.sl.r_27 trip_k0_t1.sl.r_28 trip_k0_t1.sl.r_29
  exact R1b x0 x1 x2 x3 x4 x5 v0 (TI i arg2 X_arg2) (TJ v4 v10 v16 v22) (rho k 1) _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) j ch

theorem w_cb_1_0 (ch : Fin 96) (l : Fin 128) : k0_pay54 (F := Ideal) (trip_k0_t1.sl.r_27 (F := Ideal) arg8 X_arg8) (trip_k0_t1.sl.r_28 (F := Ideal) i arg2 arg3 arg4 arg5 arg6 arg7 arg8 v0 v4 v10 v16 v22 X_arg2 X_arg3 X_arg4 X_arg5 X_arg6 X_arg7 X_arg8 k) (trip_k0_t1.sl.r_29 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 1 (rho k 1) ⟨0 + l.val, by omega⟩ ch := by
  unfold trip_k0_t1.sl.r_27 trip_k0_t1.sl.r_28 trip_k0_t1.sl.r_29
  exact C1b0 x0 x1 x2 x3 x4 x5 v0 (TI i arg2 X_arg2) (TJ v4 v10 v16 v22) (rho k 1) _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_cb_1_1 (ch : Fin 96) (l : Fin 128) : k0_pay55 (F := Ideal) (trip_k0_t1.sl.r_27 (F := Ideal) arg8 X_arg8) (trip_k0_t1.sl.r_28 (F := Ideal) i arg2 arg3 arg4 arg5 arg6 arg7 arg8 v0 v4 v10 v16 v22 X_arg2 X_arg3 X_arg4 X_arg5 X_arg6 X_arg7 X_arg8 k) (trip_k0_t1.sl.r_29 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 1 (rho k 1) ⟨128 + l.val, by omega⟩ ch := by
  unfold trip_k0_t1.sl.r_27 trip_k0_t1.sl.r_28 trip_k0_t1.sl.r_29
  exact C1b1 x0 x1 x2 x3 x4 x5 v0 (TI i arg2 X_arg2) (TJ v4 v10 v16 v22) (rho k 1) _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

theorem w_cb_1_2 (ch : Fin 96) (l : Fin 128) : k0_pay85 (F := Ideal) (trip_k0_t1.sl.r_31 (F := Ideal) i arg2 arg3 arg4 arg5 arg6 arg7 arg8 v0 v4 v10 v16 v22 X_arg2 X_arg3 X_arg4 X_arg5 X_arg6 X_arg7 X_arg8 k) (ix3 0 ch l) = qK x0 x1 x2 x3 x4 x5 v0 (TI i arg2 X_arg2) (TJ v4 v10 v16 v22) 1 (rho k 1) ⟨256 + l.val, by omega⟩ ch := by
  unfold trip_k0_t1.sl.r_31 trip_k0_t1.sl.r_27 trip_k0_t1.sl.r_28 trip_k0_t1.sl.r_29
  exact C1b2 x0 x1 x2 x3 x4 x5 v0 (TI i arg2 X_arg2) (TJ v4 v10 v16 v22) (rho k 1) _ _ _ _ (w_acc_1 (k := k) (h3 := h3) (h4 := h4) (h5 := h5) (h6 := h6) (h7 := h7) (h8 := h8))
    (w_m_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8) (ld8 (h8 := h8) (o := 192) (ho := by omega) (inb := _)) (ld8 (h8 := h8) (o := 288) (ho := by omega) (inb := _)) ch l

end Cert.OperandsIdeal.OpVal

end
-- ==== Proof.OperandsPieces.lean ====
/- What the pieces of the two loops hold: the plain functions of the block at every place. -/
module

public import proofs.«01_k».proof.Proof.OperandsTrip
public import Idealize.ShloMosaic.Lib.Pipeline.ValueKit
public import Idealize.ShloMosaic.Lib.VecWindow

@[expose] public section

set_option maxRecDepth 16384

noncomputable section

namespace Cert.OperandsIdeal.OpVal

open Cert.OperandsIdeal Cert.OperandsIdeal.Gen
open Idealize.ShloMosaic Idealize.ShloMosaic.TcCoe Idealize.SL.Sem

section Targets

variable (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32)

/-- The quantised rows of the block. -/
def Tln : Vec Ideal S1x32x384x128 .fp8e4m3 := fun y => q1K x0 x1 x3 x4 (y 1) (y 2) (y 3)
/-- Their scales. -/
def Ts1 : Vec Ideal S1x32x384 .f32 := fun y => s1K x0 x1 x3 x4 (y 1) (y 2)
/-- The quantised operand `o` of the block. -/
def Tq (o : Fin 2) : Vec Ideal S1x32x384x96 .fp8e4m3 := fun y => qK x0 x1 x2 x3 x4 x5 v0 tI tJ o (y 1) (y 2) (y 3)
/-- Its scales. -/
def Ts (o : Fin 2) : Vec Ideal S1x32x96 .f32 := fun y =>
  scK x0 x1 x2 x3 x4 x5 v0 tI tJ o (y 1) (y 2) ⟨(y 1).val, Nat.lt_of_lt_of_le (y 1).isLt (show 32 ≤ 128 by decide)⟩
/-- The quantised operand with the channel in front. -/
def Tt (o : Fin 2) : Vec Ideal S1x96x32x384 .fp8e4m3 := fun y => qK x0 x1 x2 x3 x4 x5 v0 tI tJ o (y 2) (y 3) (y 1)
/-- The scratch of operand `o`: 33 rows per channel, of which the last is not written. -/
def Tw (o : Fin 2) : Vec Ideal S3x3168x128 .f32 := fun y =>
  qK x0 x1 x2 x3 x4 x5 v0 tI tJ o ⟨(y 1).val % 33 % 32, by omega⟩
    ⟨128 * (y 0).val + (y 2).val, by have h0 : (y 0).val < 3 := (y 0).isLt; have h2 : (y 2).val < 128 := (y 2).isLt; omega⟩
    ⟨(y 1).val / 33, by have h1 : (y 1).val < 3168 := (y 1).isLt; omega⟩
/-- The scales of operand `o` lie in the lane of their row. -/
def scL (o : Fin 2) (ch : Fin 96) (l : Fin 128) : EReal := scK x0 x1 x2 x3 x4 x5 v0 tI tJ o ⟨l.val % 32, by omega⟩ ch l

end Targets

theorem Tw_at (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (o : Fin 2)
    (r : Fin 32) (n : Fin 3) (ch : Fin 96) (l : Fin 128) (j : Fin 384) (hj : j = ⟨128 * n.val + l.val, by omega⟩) :
    qK x0 x1 x2 x3 x4 x5 v0 tI tJ o r j ch
      = Tw x0 x1 x2 x3 x4 x5 v0 tI tJ o (ix3 n ⟨33 * ch.val + r.val, by omega⟩ l) := by
  subst hj
  unfold Tw
  congr 1
  · refine Fin.ext ?_
    show r.val = (33 * ch.val + r.val) % 33 % 32
    omega
  · refine Fin.ext ?_
    show ch.val = (33 * ch.val + r.val) / 33
    omega

theorem Tln_at (x0 : Vec Ideal S1x32x384x128 .bf16) (x1 : Vec Ideal S128x128 .bf16) (x3 x4 : Vec Ideal S128x128 .f32) (r : Fin 32) (j : Fin 384) (d : Fin 128) :
    q1K x0 x1 x3 x4 r j d = Tln x0 x1 x3 x4 (ix4 0 r j d) := rfl

theorem Ts1_at (x0 : Vec Ideal S1x32x384x128 .bf16) (x1 : Vec Ideal S128x128 .bf16) (x3 x4 : Vec Ideal S128x128 .f32) (r : Fin 32) (j : Fin 384) :
    s1K x0 x1 x3 x4 r j = Ts1 x0 x1 x3 x4 (ix3 0 r j) := rfl

theorem Tq_at (x0 : Vec Ideal S1x32x384x128 .bf16) (x1 : Vec Ideal S128x128 .bf16) (x2 : Vec Ideal S384x128 .fp8e4m3) (x3 x4 : Vec Ideal S128x128 .f32) (x5 : Vec Ideal S384x128 .f32) (v0 : BitVec 32) (tI tJ : Fin 4 → BitVec 32) (o : Fin 2) (r : Fin 32) (j : Fin 384) (ch : Fin 96) :
    qK x0 x1 x2 x3 x4 x5 v0 tI tJ o r j ch = Tq x0 x1 x2 x3 x4 x5 v0 tI tJ o (ix4 0 r j ch) := rfl

theorem sel_eq (x y : BitVec 32) (a b : EReal) : Scalar.select (IntOp.cmpi CmpIPredicate.eq x y) a b = if x = y then a else b := by
  show (if BitVec.ofBool (x == y) = 1#1 then a else b) = _
  by_cases h : x = y
  · subst h; simp
  · have hb : (x == y) = false := by simp [h]
    rw [hb, if_neg h, if_neg (by decide)]

theorem lane_eq (l : Fin 128) (r : Fin 32) : BitVec.ofNat 32 l.val = BitVec.ofNat 32 r.val ↔ l.val = r.val := by
  constructor
  · intro h
    have := congrArg BitVec.toNat h
    rw [BitVec.toNat_ofNat, BitVec.toNat_ofNat] at this
    omega
  · intro h; rw [h]

variable (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt Ideal .i32) (v10 : Elt Ideal .i32) (v16 : Elt Ideal .i32) (v22 : Elt Ideal .i32) (v27 : IVec S96x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg9 : BufTy.Contents (Elt Ideal) arg9.view.ty) (f_arg10 : BufTy.Contents (Elt Ideal) arg10.view.ty) (f_arg11 : BufTy.Contents (Elt Ideal) arg11.view.ty) (f_arg13 : BufTy.Contents (Elt Ideal) arg13.view.ty) (f_arg17 : BufTy.Contents (Elt Ideal) arg17.view.ty) (f_arg18 : BufTy.Contents (Elt Ideal) arg18.view.ty) (f_arg19 : BufTy.Contents (Elt Ideal) arg19.view.ty) (f_arg20 : BufTy.Contents (Elt Ideal) arg20.view.ty)
  (x0 : Vec Ideal S1x32x384x128 .bf16) (x1 : Vec Ideal S128x128 .bf16) (x2 : Vec Ideal S384x128 .fp8e4m3)
  (x3 x4 : Vec Ideal S128x128 .f32) (x5 : Vec Ideal S384x128 .f32)
  (h3 : arg3.view.read (Elt Ideal) X_arg3 = x0) (h4 : arg4.view.read (Elt Ideal) X_arg4 = x1) (h5 : arg5.view.read (Elt Ideal) X_arg5 = x2)
  (h6 : arg6.view.read (Elt Ideal) X_arg6 = x3) (h7 : arg7.view.read (Elt Ideal) X_arg7 = x4) (h8 : arg8.view.read (Elt Ideal) X_arg8 = x5)
  (h27 : ∀ (ch : Fin 96) (l : Fin 128), v27 (ix2 ch l) = BitVec.ofNat 32 l.val)
include h3 h4 h5 h6 h7 h8

theorem trip_ln : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).1, ∀ x : p.1.shape.Idx, p.2 x = (Tln x0 x1 x3 x4) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x1x384x128.Idx, _
    intro x
    obtain ⟨j, d, rfl⟩ : ∃ (j : Fin 384) (d : Fin 128), x = ix4 0 0 j d := ⟨x 2, x 3, by idx_ext⟩
    refine (((pay33_at (trip_k0_t1.sl.r_6 (F := Ideal) arg3 arg4 arg6 arg7 X_arg3 X_arg4 X_arg6 X_arg7 k) j d).trans (w_q1_1 (k := k) (h3 := h3) (h4 := h4) (h5 := h5) (h6 := h6) (h7 := h7) (h8 := h8) (d := d) (j := j))).trans (Tln_at x0 x1 x3 x4 (rho k 1) j d)).trans (congrArg (Tln x0 x1 x3 x4) (Rect.emb_eq_of_coords _ _ (ix4 0 (rho k 1) j d) ?_).symm)
    have ho : k0_off6 k 1#32 = ![0, (2 * k.val + 1), 0, 0] := k0_off6_eq k 1
    intro (a : Fin 4)
    fin_cases a
    · show 0 = k0_off6 k 1#32 0 + 1 * 0
      rw [ho]; show 0 = 0 + 1 * 0; omega
    · show 2 * k.val + 1 = k0_off6 k 1#32 1 + 1 * 0
      rw [ho]; show 2 * k.val + 1 = (2 * k.val + 1) + 1 * 0; omega
    · show j.val = k0_off6 k 1#32 2 + 1 * j.val
      rw [ho]; show j.val = 0 + 1 * j.val; omega
    · show d.val = k0_off6 k 1#32 3 + 1 * d.val
      rw [ho]; show d.val = 0 + 1 * d.val; omega
  obtain rfl := List.mem_singleton.1 hp
  · clear hp
    revert x; show ∀ x : S1x1x384x128.Idx, _
    intro x
    obtain ⟨j, d, rfl⟩ : ∃ (j : Fin 384) (d : Fin 128), x = ix4 0 0 j d := ⟨x 2, x 3, by idx_ext⟩
    refine (((pay9_at _ _ j d).trans ((congrArg (fun t => trip_k0_t1.sl.r_6 (F := Ideal) arg3 arg4 arg6 arg7 X_arg3 X_arg4 X_arg6 X_arg7 k (ix2 d t)) (Fin.ext (by simp only; omega))).trans (w_q1_0 (k := k) (h3 := h3) (h4 := h4) (h5 := h5) (h6 := h6) (h7 := h7) (h8 := h8) (d := d) (j := j)))).trans (Tln_at x0 x1 x3 x4 (rho k 0) j d)).trans (congrArg (Tln x0 x1 x3 x4) (Rect.emb_eq_of_coords _ _ (ix4 0 (rho k 0) j d) ?_).symm)
    have ho : k0_off6 k 0#32 = ![0, (2 * k.val + 0), 0, 0] := k0_off6_eq k 0
    intro (a : Fin 4)
    fin_cases a
    · show 0 = k0_off6 k 0#32 0 + 1 * 0
      rw [ho]; show 0 = 0 + 1 * 0; omega
    · show 2 * k.val + 0 = k0_off6 k 0#32 1 + 1 * 0
      rw [ho]; show 2 * k.val + 0 = (2 * k.val + 0) + 1 * 0; omega
    · show j.val = k0_off6 k 0#32 2 + 1 * j.val
      rw [ho]; show j.val = 0 + 1 * j.val; omega
    · show d.val = k0_off6 k 0#32 3 + 1 * d.val
      rw [ho]; show d.val = 0 + 1 * d.val; omega

theorem trip_s1 : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.1, ∀ x : p.1.shape.Idx, p.2 x = (Ts1 x0 x1 x3 x4) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x1x384.Idx, _
    intro x
    obtain ⟨j, rfl⟩ : ∃ (j : Fin 384), x = ix3 (0 : Fin 1) (0 : Fin 1) j := ⟨x 2, by idx_ext⟩
    dsimp only
    rw [show trip_k0_t1.sl.v270 (F := Ideal) arg3 arg4 arg6 arg7 X_arg3 X_arg4 X_arg6 X_arg7 k = k0_pay35 (F := Ideal) (trip_k0_t1.sl.r (F := Ideal) arg3 arg4 arg6 arg7 X_arg3 X_arg4 X_arg6 X_arg7 k) from rfl]
    refine ((((pay35_at (trip_k0_t1.sl.r (F := Ideal) arg3 arg4 arg6 arg7 X_arg3 X_arg4 X_arg6 X_arg7 k) j).trans (w_s1_1 (k := k) (h3 := h3) (h4 := h4) (h5 := h5) (h6 := h6) (h7 := h7) (h8 := h8) (j := j)))).trans (Ts1_at x0 x1 x3 x4 (rho k 1) j)).trans (congrArg (Ts1 x0 x1 x3 x4) (Rect.emb_eq_of_coords _ _ (ix3 0 (rho k 1) j) ?_).symm)
    have ho : k0_off7 k 1#32 = ![0, (2 * k.val + 1), 0] := k0_off7_eq k 1
    intro (a : Fin 3)
    fin_cases a
    · show 0 = k0_off7 k 1#32 0 + 1 * 0
      rw [ho]; show 0 = 0 + 1 * 0; omega
    · show 2 * k.val + 1 = k0_off7 k 1#32 1 + 1 * 0
      rw [ho]; show 2 * k.val + 1 = (2 * k.val + 1) + 1 * 0; omega
    · show j.val = k0_off7 k 1#32 2 + 1 * j.val
      rw [ho]; show j.val = 0 + 1 * j.val; omega
  obtain rfl := List.mem_singleton.1 hp
  · clear hp
    revert x; show ∀ x : S1x1x384.Idx, _
    intro x
    obtain ⟨j, rfl⟩ : ∃ (j : Fin 384), x = ix3 (0 : Fin 1) (0 : Fin 1) j := ⟨x 2, by idx_ext⟩
    dsimp only
    refine ((((pay11_at _ j).trans ((congrArg (fun t => trip_k0_t1.sl.r (F := Ideal) arg3 arg4 arg6 arg7 X_arg3 X_arg4 X_arg6 X_arg7 k (ix2 0 t)) (Fin.ext (by simp only; omega))).trans (w_s1_0 (k := k) (h3 := h3) (h4 := h4) (h5 := h5) (h6 := h6) (h7 := h7) (h8 := h8) (j := j))))).trans (Ts1_at x0 x1 x3 x4 (rho k 0) j)).trans (congrArg (Ts1 x0 x1 x3 x4) (Rect.emb_eq_of_coords _ _ (ix3 0 (rho k 0) j) ?_).symm)
    have ho : k0_off7 k 0#32 = ![0, (2 * k.val + 0), 0] := k0_off7_eq k 0
    intro (a : Fin 3)
    fin_cases a
    · show 0 = k0_off7 k 0#32 0 + 1 * 0
      rw [ho]; show 0 = 0 + 1 * 0; omega
    · show 2 * k.val + 0 = k0_off7 k 0#32 1 + 1 * 0
      rw [ho]; show 2 * k.val + 0 = (2 * k.val + 0) + 1 * 0; omega
    · show j.val = k0_off7 k 0#32 2 + 1 * j.val
      rw [ho]; show j.val = 0 + 1 * j.val; omega

theorem trip_qa : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.1, ∀ x : p.1.shape.Idx, p.2 x = (Tq x0 x1 x2 x3 x4 x5 v0 (TI i arg2 X_arg2) (TJ v4 v10 v16 v22) 0) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x1x384x96.Idx, _
    intro x
    obtain ⟨j, ch, rfl⟩ : ∃ (j : Fin 384) (ch : Fin 96), x = ix4 0 0 j ch := ⟨x 2, x 3, by idx_ext⟩
    refine ((w_ra_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 j ch).trans (Tq_at x0 x1 x2 x3 x4 x5 v0 (TI i arg2 X_arg2) (TJ v4 v10 v16 v22) 0 (rho k 1) j ch)).trans (congrArg (Tq x0 x1 x2 x3 x4 x5 v0 (TI i arg2 X_arg2) (TJ v4 v10 v16 v22) 0) (Rect.emb_eq_of_coords _ _ (ix4 0 (rho k 1) j ch) ?_).symm)
    have ho : k0_off12 k 1#32 = ![0, (2 * k.val + 1), 0, 0] := k0_off12_eq k 1
    intro (a : Fin 4)
    fin_cases a
    · show 0 = k0_off12 k 1#32 0 + 1 * 0
      rw [ho]; show 0 = 0 + 1 * 0; omega
    · show 2 * k.val + 1 = k0_off12 k 1#32 1 + 1 * 0
      rw [ho]; show 2 * k.val + 1 = (2 * k.val + 1) + 1 * 0; omega
    · show j.val = k0_off12 k 1#32 2 + 1 * j.val
      rw [ho]; show j.val = 0 + 1 * j.val; omega
    · show ch.val = k0_off12 k 1#32 3 + 1 * ch.val
      rw [ho]; show ch.val = 0 + 1 * ch.val; omega
  obtain rfl := List.mem_singleton.1 hp
  · clear hp
    revert x; show ∀ x : S1x1x384x96.Idx, _
    intro x
    obtain ⟨j, ch, rfl⟩ : ∃ (j : Fin 384) (ch : Fin 96), x = ix4 0 0 j ch := ⟨x 2, x 3, by idx_ext⟩
    refine ((w_ra_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 j ch).trans (Tq_at x0 x1 x2 x3 x4 x5 v0 (TI i arg2 X_arg2) (TJ v4 v10 v16 v22) 0 (rho k 0) j ch)).trans (congrArg (Tq x0 x1 x2 x3 x4 x5 v0 (TI i arg2 X_arg2) (TJ v4 v10 v16 v22) 0) (Rect.emb_eq_of_coords _ _ (ix4 0 (rho k 0) j ch) ?_).symm)
    have ho : k0_off12 k 0#32 = ![0, (2 * k.val + 0), 0, 0] := k0_off12_eq k 0
    intro (a : Fin 4)
    fin_cases a
    · show 0 = k0_off12 k 0#32 0 + 1 * 0
      rw [ho]; show 0 = 0 + 1 * 0; omega
    · show 2 * k.val + 0 = k0_off12 k 0#32 1 + 1 * 0
      rw [ho]; show 2 * k.val + 0 = (2 * k.val + 0) + 1 * 0; omega
    · show j.val = k0_off12 k 0#32 2 + 1 * j.val
      rw [ho]; show j.val = 0 + 1 * j.val; omega
    · show ch.val = k0_off12 k 0#32 3 + 1 * ch.val
      rw [ho]; show ch.val = 0 + 1 * ch.val; omega

theorem trip_wa : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.1, ∀ x : p.1.shape.Idx, p.2 x = (Tw x0 x1 x2 x3 x4 x5 v0 (TI i arg2 X_arg2) (TJ v4 v10 v16 v22) 0) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_1_2 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 1) 2 ch l _ (Fin.ext (by show 256 + l.val = 128 * 2 + l.val; omega)))).trans (congrArg (Tw x0 x1 x2 x3 x4 x5 v0 (TI i arg2 X_arg2) (TJ v4 v10 v16 v22) 0) (Rect.emb_eq_of_coords _ _ _ ?_).symm)
    have ho : k0_off15 k 1#32 = ![2, (2 * k.val + 1), 0] := k0_off15_eq k 1
    intro (a : Fin 3)
    fin_cases a
    · show 2 = k0_off15 k 1#32 0 + 1 * 0
      rw [ho]; show 2 = 2 + 1 * 0; omega
    · show 33 * ch.val + (2 * k.val + 1) = k0_off15 k 1#32 1 + 33 * ch.val
      rw [ho]; show 33 * ch.val + (2 * k.val + 1) = (2 * k.val + 1) + 33 * ch.val; omega
    · show l.val = k0_off15 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_1_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 1) 1 ch l _ (Fin.ext (by show 128 + l.val = 128 * 1 + l.val; omega)))).trans (congrArg (Tw x0 x1 x2 x3 x4 x5 v0 (TI i arg2 X_arg2) (TJ v4 v10 v16 v22) 0) (Rect.emb_eq_of_coords _ _ _ ?_).symm)
    have ho : k0_off14 k 1#32 = ![1, (2 * k.val + 1), 0] := k0_off14_eq k 1
    intro (a : Fin 3)
    fin_cases a
    · show 1 = k0_off14 k 1#32 0 + 1 * 0
      rw [ho]; show 1 = 1 + 1 * 0; omega
    · show 33 * ch.val + (2 * k.val + 1) = k0_off14 k 1#32 1 + 33 * ch.val
      rw [ho]; show 33 * ch.val + (2 * k.val + 1) = (2 * k.val + 1) + 33 * ch.val; omega
    · show l.val = k0_off14 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_1_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 1) 0 ch l _ (Fin.ext (by show 0 + l.val = 128 * 0 + l.val; omega)))).trans (congrArg (Tw x0 x1 x2 x3 x4 x5 v0 (TI i arg2 X_arg2) (TJ v4 v10 v16 v22) 0) (Rect.emb_eq_of_coords _ _ _ ?_).symm)
    have ho : k0_off13 k 1#32 = ![0, (2 * k.val + 1), 0] := k0_off13_eq k 1
    intro (a : Fin 3)
    fin_cases a
    · show 0 = k0_off13 k 1#32 0 + 1 * 0
      rw [ho]; show 0 = 0 + 1 * 0; omega
    · show 33 * ch.val + (2 * k.val + 1) = k0_off13 k 1#32 1 + 33 * ch.val
      rw [ho]; show 33 * ch.val + (2 * k.val + 1) = (2 * k.val + 1) + 33 * ch.val; omega
    · show l.val = k0_off13 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_0_2 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 0) 2 ch l _ (Fin.ext (by show 256 + l.val = 128 * 2 + l.val; omega)))).trans (congrArg (Tw x0 x1 x2 x3 x4 x5 v0 (TI i arg2 X_arg2) (TJ v4 v10 v16 v22) 0) (Rect.emb_eq_of_coords _ _ _ ?_).symm)
    have ho : k0_off15 k 0#32 = ![2, (2 * k.val + 0), 0] := k0_off15_eq k 0
    intro (a : Fin 3)
    fin_cases a
    · show 2 = k0_off15 k 0#32 0 + 1 * 0
      rw [ho]; show 2 = 2 + 1 * 0; omega
    · show 33 * ch.val + (2 * k.val + 0) = k0_off15 k 0#32 1 + 33 * ch.val
      rw [ho]; show 33 * ch.val + (2 * k.val + 0) = (2 * k.val + 0) + 33 * ch.val; omega
    · show l.val = k0_off15 k 0#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_0_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 0) 1 ch l _ (Fin.ext (by show 128 + l.val = 128 * 1 + l.val; omega)))).trans (congrArg (Tw x0 x1 x2 x3 x4 x5 v0 (TI i arg2 X_arg2) (TJ v4 v10 v16 v22) 0) (Rect.emb_eq_of_coords _ _ _ ?_).symm)
    have ho : k0_off14 k 0#32 = ![1, (2 * k.val + 0), 0] := k0_off14_eq k 0
    intro (a : Fin 3)
    fin_cases a
    · show 1 = k0_off14 k 0#32 0 + 1 * 0
      rw [ho]; show 1 = 1 + 1 * 0; omega
    · show 33 * ch.val + (2 * k.val + 0) = k0_off14 k 0#32 1 + 33 * ch.val
      rw [ho]; show 33 * ch.val + (2 * k.val + 0) = (2 * k.val + 0) + 33 * ch.val; omega
    · show l.val = k0_off14 k 0#32 2 + 1 * l.val
      rw [ho]; show l.val = 0 + 1 * l.val; omega
  obtain rfl := List.mem_singleton.1 hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_ca_0_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 0 (rho k 0) 0 ch l _ (Fin.ext (by show 0 + l.val = 128 * 0 + l.val; omega)))).trans (congrArg (Tw x0 x1 x2 x3 x4 x5 v0 (TI i arg2 X_arg2) (TJ v4 v10 v16 v22) 0) (Rect.emb_eq_of_coords _ _ _ ?_).symm)
    have ho : k0_off13 k 0#32 = ![0, (2 * k.val + 0), 0] := k0_off13_eq k 0
    intro (a : Fin 3)
    fin_cases a
    · show 0 = k0_off13 k 0#32 0 + 1 * 0
      rw [ho]; show 0 = 0 + 1 * 0; omega
    · show 33 * ch.val + (2 * k.val + 0) = k0_off13 k 0#32 1 + 33 * ch.val
      rw [ho]; show 33 * ch.val + (2 * k.val + 0) = (2 * k.val + 0) + 33 * ch.val; omega
    · show l.val = k0_off13 k 0#32 2 + 1 * l.val
      rw [ho]; show l.val = 0 + 1 * l.val; omega

include h27 in
theorem trip_sa (ch : Fin 96) (l : Fin 128) (hl : l.val < 2 * k.val + 2)
    (hpre : l.val < 2 * k.val → arg19.view.read (Elt Ideal) f_arg19 (ix2 ch l) = scL x0 x1 x2 x3 x4 x5 v0 (TI i arg2 X_arg2) (TJ v4 v10 v16 v22) 0 ch l) :
    arg19.view.read (Elt Ideal) (arg19.view.writes (Elt Ideal) f_arg19 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.2.2.1) (ix2 ch l) = scL x0 x1 x2 x3 x4 x5 v0 (TI i arg2 X_arg2) (TJ v4 v10 v16 v22) 0 ch l := by
  unfold tripL_k0_t1 trip_k0_t1
  dsimp only
  have hk := Nat.lt_of_lt_of_le k.isLt k0_t1_abs.2.1
  rw [View.read_writes_full]
  rw [k0_pay47_at, sel_eq]
  unfold trip_k0_t1.sl.v359 trip_k0_t1.sl.HW_arg19_1
  rw [View.readCov_full, k0_pay22_at, sel_eq, View.readAt_full]
  simp only [h27, row0, row1, lane_eq]
  have e0 : (rho k 0).val = 2 * k.val := rfl
  have e1 : (rho k 1).val = 2 * k.val + 1 := rfl
  rw [e0, e1]
  split
  · rename_i hc
    rw [w_sa_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l]
    unfold scL
    exact congrArg (fun t => scK x0 x1 x2 x3 x4 x5 v0 (TI i arg2 X_arg2) (TJ v4 v10 v16 v22) 0 t ch l) (Fin.ext (by show 2 * k.val + 1 = l.val % 32; omega))
  · split
    · rename_i hc
      rw [w_sa_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l]
      unfold scL
      exact congrArg (fun t => scK x0 x1 x2 x3 x4 x5 v0 (TI i arg2 X_arg2) (TJ v4 v10 v16 v22) 0 t ch l) (Fin.ext (by show 2 * k.val + 0 = l.val % 32; omega))
    · exact hpre (by omega)

theorem trip_qb : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.1, ∀ x : p.1.shape.Idx, p.2 x = (Tq x0 x1 x2 x3 x4 x5 v0 (TI i arg2 X_arg2) (TJ v4 v10 v16 v22) 1) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x1x384x96.Idx, _
    intro x
    obtain ⟨j, ch, rfl⟩ : ∃ (j : Fin 384) (ch : Fin 96), x = ix4 0 0 j ch := ⟨x 2, x 3, by idx_ext⟩
    refine ((w_rb_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 j ch).trans (Tq_at x0 x1 x2 x3 x4 x5 v0 (TI i arg2 X_arg2) (TJ v4 v10 v16 v22) 1 (rho k 1) j ch)).trans (congrArg (Tq x0 x1 x2 x3 x4 x5 v0 (TI i arg2 X_arg2) (TJ v4 v10 v16 v22) 1) (Rect.emb_eq_of_coords _ _ (ix4 0 (rho k 1) j ch) ?_).symm)
    have ho : k0_off12 k 1#32 = ![0, (2 * k.val + 1), 0, 0] := k0_off12_eq k 1
    intro (a : Fin 4)
    fin_cases a
    · show 0 = k0_off12 k 1#32 0 + 1 * 0
      rw [ho]; show 0 = 0 + 1 * 0; omega
    · show 2 * k.val + 1 = k0_off12 k 1#32 1 + 1 * 0
      rw [ho]; show 2 * k.val + 1 = (2 * k.val + 1) + 1 * 0; omega
    · show j.val = k0_off12 k 1#32 2 + 1 * j.val
      rw [ho]; show j.val = 0 + 1 * j.val; omega
    · show ch.val = k0_off12 k 1#32 3 + 1 * ch.val
      rw [ho]; show ch.val = 0 + 1 * ch.val; omega
  obtain rfl := List.mem_singleton.1 hp
  · clear hp
    revert x; show ∀ x : S1x1x384x96.Idx, _
    intro x
    obtain ⟨j, ch, rfl⟩ : ∃ (j : Fin 384) (ch : Fin 96), x = ix4 0 0 j ch := ⟨x 2, x 3, by idx_ext⟩
    refine ((w_rb_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 j ch).trans (Tq_at x0 x1 x2 x3 x4 x5 v0 (TI i arg2 X_arg2) (TJ v4 v10 v16 v22) 1 (rho k 0) j ch)).trans (congrArg (Tq x0 x1 x2 x3 x4 x5 v0 (TI i arg2 X_arg2) (TJ v4 v10 v16 v22) 1) (Rect.emb_eq_of_coords _ _ (ix4 0 (rho k 0) j ch) ?_).symm)
    have ho : k0_off12 k 0#32 = ![0, (2 * k.val + 0), 0, 0] := k0_off12_eq k 0
    intro (a : Fin 4)
    fin_cases a
    · show 0 = k0_off12 k 0#32 0 + 1 * 0
      rw [ho]; show 0 = 0 + 1 * 0; omega
    · show 2 * k.val + 0 = k0_off12 k 0#32 1 + 1 * 0
      rw [ho]; show 2 * k.val + 0 = (2 * k.val + 0) + 1 * 0; omega
    · show j.val = k0_off12 k 0#32 2 + 1 * j.val
      rw [ho]; show j.val = 0 + 1 * j.val; omega
    · show ch.val = k0_off12 k 0#32 3 + 1 * ch.val
      rw [ho]; show ch.val = 0 + 1 * ch.val; omega

theorem trip_wb : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.2.1, ∀ x : p.1.shape.Idx, p.2 x = (Tw x0 x1 x2 x3 x4 x5 v0 (TI i arg2 X_arg2) (TJ v4 v10 v16 v22) 1) (p.1.emb x) := by
  unfold tripL_k0_t1 trip_k0_t1
  dsimp only
  intro p hp x
  have hk := Nat.lt_of_lt_of_le k.isLt k0_t1_abs.2.1
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_1_2 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 1) 2 ch l _ (Fin.ext (by show 256 + l.val = 128 * 2 + l.val; omega)))).trans (congrArg (Tw x0 x1 x2 x3 x4 x5 v0 (TI i arg2 X_arg2) (TJ v4 v10 v16 v22) 1) (Rect.emb_eq_of_coords _ _ _ ?_).symm)
    have ho : k0_off15 k 1#32 = ![2, (2 * k.val + 1), 0] := k0_off15_eq k 1
    intro (a : Fin 3)
    fin_cases a
    · show 2 = k0_off15 k 1#32 0 + 1 * 0
      rw [ho]; show 2 = 2 + 1 * 0; omega
    · show 33 * ch.val + (2 * k.val + 1) = k0_off15 k 1#32 1 + 33 * ch.val
      rw [ho]; show 33 * ch.val + (2 * k.val + 1) = (2 * k.val + 1) + 33 * ch.val; omega
    · show l.val = k0_off15 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_1_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 1) 1 ch l _ (Fin.ext (by show 128 + l.val = 128 * 1 + l.val; omega)))).trans (congrArg (Tw x0 x1 x2 x3 x4 x5 v0 (TI i arg2 X_arg2) (TJ v4 v10 v16 v22) 1) (Rect.emb_eq_of_coords _ _ _ ?_).symm)
    have ho : k0_off14 k 1#32 = ![1, (2 * k.val + 1), 0] := k0_off14_eq k 1
    intro (a : Fin 3)
    fin_cases a
    · show 1 = k0_off14 k 1#32 0 + 1 * 0
      rw [ho]; show 1 = 1 + 1 * 0; omega
    · show 33 * ch.val + (2 * k.val + 1) = k0_off14 k 1#32 1 + 33 * ch.val
      rw [ho]; show 33 * ch.val + (2 * k.val + 1) = (2 * k.val + 1) + 33 * ch.val; omega
    · show l.val = k0_off14 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_1_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 1) 0 ch l _ (Fin.ext (by show 0 + l.val = 128 * 0 + l.val; omega)))).trans (congrArg (Tw x0 x1 x2 x3 x4 x5 v0 (TI i arg2 X_arg2) (TJ v4 v10 v16 v22) 1) (Rect.emb_eq_of_coords _ _ _ ?_).symm)
    have ho : k0_off13 k 1#32 = ![0, (2 * k.val + 1), 0] := k0_off13_eq k 1
    intro (a : Fin 3)
    fin_cases a
    · show 0 = k0_off13 k 1#32 0 + 1 * 0
      rw [ho]; show 0 = 0 + 1 * 0; omega
    · show 33 * ch.val + (2 * k.val + 1) = k0_off13 k 1#32 1 + 33 * ch.val
      rw [ho]; show 33 * ch.val + (2 * k.val + 1) = (2 * k.val + 1) + 33 * ch.val; omega
    · show l.val = k0_off13 k 1#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_0_2 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 0) 2 ch l _ (Fin.ext (by show 256 + l.val = 128 * 2 + l.val; omega)))).trans (congrArg (Tw x0 x1 x2 x3 x4 x5 v0 (TI i arg2 X_arg2) (TJ v4 v10 v16 v22) 1) (Rect.emb_eq_of_coords _ _ _ ?_).symm)
    have ho : k0_off15 k 0#32 = ![2, (2 * k.val + 0), 0] := k0_off15_eq k 0
    intro (a : Fin 3)
    fin_cases a
    · show 2 = k0_off15 k 0#32 0 + 1 * 0
      rw [ho]; show 2 = 2 + 1 * 0; omega
    · show 33 * ch.val + (2 * k.val + 0) = k0_off15 k 0#32 1 + 33 * ch.val
      rw [ho]; show 33 * ch.val + (2 * k.val + 0) = (2 * k.val + 0) + 33 * ch.val; omega
    · show l.val = k0_off15 k 0#32 2 + 1 * l.val
      rw [ho]; show l.val = 0 + 1 * l.val; omega
  rcases List.mem_cons.1 hp with rfl | hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_0_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 0) 1 ch l _ (Fin.ext (by show 128 + l.val = 128 * 1 + l.val; omega)))).trans (congrArg (Tw x0 x1 x2 x3 x4 x5 v0 (TI i arg2 X_arg2) (TJ v4 v10 v16 v22) 1) (Rect.emb_eq_of_coords _ _ _ ?_).symm)
    have ho : k0_off14 k 0#32 = ![1, (2 * k.val + 0), 0] := k0_off14_eq k 0
    intro (a : Fin 3)
    fin_cases a
    · show 1 = k0_off14 k 0#32 0 + 1 * 0
      rw [ho]; show 1 = 1 + 1 * 0; omega
    · show 33 * ch.val + (2 * k.val + 0) = k0_off14 k 0#32 1 + 33 * ch.val
      rw [ho]; show 33 * ch.val + (2 * k.val + 0) = (2 * k.val + 0) + 33 * ch.val; omega
    · show l.val = k0_off14 k 0#32 2 + 1 * l.val
      rw [ho]; show l.val = 0 + 1 * l.val; omega
  obtain rfl := List.mem_singleton.1 hp
  · clear hp
    revert x; show ∀ x : S1x96x128.Idx, _
    intro x
    obtain ⟨ch, l, rfl⟩ : ∃ (ch : Fin 96) (l : Fin 128), x = ix3 0 ch l := ⟨x 1, x 2, by idx_ext⟩
    refine ((w_cb_0_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l).trans (Tw_at x0 x1 x2 x3 x4 x5 v0 (TI i arg2 X_arg2) (TJ v4 v10 v16 v22) 1 (rho k 0) 0 ch l _ (Fin.ext (by show 0 + l.val = 128 * 0 + l.val; omega)))).trans (congrArg (Tw x0 x1 x2 x3 x4 x5 v0 (TI i arg2 X_arg2) (TJ v4 v10 v16 v22) 1) (Rect.emb_eq_of_coords _ _ _ ?_).symm)
    have ho : k0_off13 k 0#32 = ![0, (2 * k.val + 0), 0] := k0_off13_eq k 0
    intro (a : Fin 3)
    fin_cases a
    · show 0 = k0_off13 k 0#32 0 + 1 * 0
      rw [ho]; show 0 = 0 + 1 * 0; omega
    · show 33 * ch.val + (2 * k.val + 0) = k0_off13 k 0#32 1 + 33 * ch.val
      rw [ho]; show 33 * ch.val + (2 * k.val + 0) = (2 * k.val + 0) + 33 * ch.val; omega
    · show l.val = k0_off13 k 0#32 2 + 1 * l.val
      rw [ho]; show l.val = 0 + 1 * l.val; omega

include h27 in
theorem trip_sb (ch : Fin 96) (l : Fin 128) (hl : l.val < 2 * k.val + 2)
    (hpre : l.val < 2 * k.val → arg20.view.read (Elt Ideal) f_arg20 (ix2 ch l) = scL x0 x1 x2 x3 x4 x5 v0 (TI i arg2 X_arg2) (TJ v4 v10 v16 v22) 1 ch l) :
    arg20.view.read (Elt Ideal) (arg20.view.writes (Elt Ideal) f_arg20 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.2.2.2) (ix2 ch l) = scL x0 x1 x2 x3 x4 x5 v0 (TI i arg2 X_arg2) (TJ v4 v10 v16 v22) 1 ch l := by
  unfold tripL_k0_t1 trip_k0_t1
  dsimp only
  have hk := Nat.lt_of_lt_of_le k.isLt k0_t1_abs.2.1
  rw [View.read_writes_full]
  rw [k0_pay86_at, sel_eq]
  unfold trip_k0_t1.sl.v424 trip_k0_t1.sl.HW_arg20_1
  rw [View.readCov_full, show trip_k0_t1.sl.v258 (F := Ideal) i arg2 arg3 arg4 arg5 arg6 arg7 arg8 arg20 v0 v4 v10 v16 v22 v27 X_arg2 X_arg3 X_arg4 X_arg5 X_arg6 X_arg7 X_arg8 k f_arg20 = k0_pay32 (F := Ideal) v27 (trip_k0_t1.sl.v89 k) (trip_k0_t1.sl.r_17 (F := Ideal) i arg2 arg3 arg4 arg5 arg6 arg7 arg8 v0 v4 v10 v16 v22 X_arg2 X_arg3 X_arg4 X_arg5 X_arg6 X_arg7 X_arg8 k) (View.readAt (Elt Ideal) arg20.view (Rect.unit (s := S96x128) ![0, 0] S96x128.size inb_S96x128_S96x128_0_0).toLoadRect f_arg20) from rfl,
    k0_pay32_at, sel_eq, View.readAt_full]
  simp only [h27, row0, row1, lane_eq]
  have e0 : (rho k 0).val = 2 * k.val := rfl
  have e1 : (rho k 1).val = 2 * k.val + 1 := rfl
  rw [e0, e1]
  split
  · rename_i hc
    rw [w_sb_1 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l]
    unfold scL
    exact congrArg (fun t => scK x0 x1 x2 x3 x4 x5 v0 (TI i arg2 X_arg2) (TJ v4 v10 v16 v22) 1 t ch l) (Fin.ext (by show 2 * k.val + 1 = l.val % 32; omega))
  · split
    · rename_i hc
      rw [w_sb_0 i arg2 arg3 arg4 arg5 arg6 arg7 arg8 v0 v4 v10 v16 v22 X_arg2 X_arg3 X_arg4 X_arg5 X_arg6 X_arg7 X_arg8 k x0 x1 x2 x3 x4 x5 h3 h4 h5 h6 h7 h8 ch l]
      unfold scL
      exact congrArg (fun t => scK x0 x1 x2 x3 x4 x5 v0 (TI i arg2 X_arg2) (TJ v4 v10 v16 v22) 1 t ch l) (Fin.ext (by show 2 * k.val + 0 = l.val % 32; omega))
    · exact hpre (by omega)

end Cert.OperandsIdeal.OpVal

end
-- ==== Proof.OperandsCover.lean ====
/- The pieces of the second loop, and which places the pieces of a trip reach. -/
module

public import proofs.«01_k».proof.Proof.OperandsPieces
public import Idealize.ShloMosaic.Lib.Pipeline.ValueKit
public import Idealize.ShloMosaic.Lib.VecWindow

@[expose] public section

set_option maxRecDepth 16384

noncomputable section

namespace Cert.OperandsIdeal.OpVal

open Cert.OperandsIdeal Cert.OperandsIdeal.Gen
open Idealize.ShloMosaic Idealize.ShloMosaic.TcCoe Idealize.SL.Sem

theorem id57 (v : Vec Ideal S1x32x128 .f32) (r : Fin 32) (l : Fin 128) : k0_pay57 (F := Ideal) v (ix4 0 0 r l) = v (ix3 0 r l) := by
  pointwise [k0_pay57]

theorem id58 (v : Vec Ideal S1x32x128 .f32) (r : Fin 32) (l : Fin 128) : k0_pay58 (F := Ideal) v (ix4 0 0 r l) = v (ix3 0 r l) := by
  pointwise [k0_pay58]

theorem id60 (v : Vec Ideal S1x32x128 .f32) (r : Fin 32) (l : Fin 128) : k0_pay60 (F := Ideal) (k0_pay59 v) (ix4 0 0 r l) = v (ix3 0 r l) := by
  pointwise [k0_pay60, k0_pay59]

theorem id61 (v : Vec Ideal S1x32x128 .f32) (r : Fin 32) (l : Fin 128) : k0_pay61 (F := Ideal) v (ix4 0 0 r l) = v (ix3 0 r l) := by
  pointwise [k0_pay61]

theorem id62 (v : Vec Ideal S1x32x128 .f32) (r : Fin 32) (l : Fin 128) : k0_pay62 (F := Ideal) v (ix4 0 0 r l) = v (ix3 0 r l) := by
  pointwise [k0_pay62]

theorem id63 (v : Vec Ideal S1x32x128 .f32) (r : Fin 32) (l : Fin 128) : k0_pay63 (F := Ideal) v (ix4 0 0 r l) = v (ix3 0 r l) := by
  pointwise [k0_pay63]

theorem id64 (v : Vec Ideal S1x32x128 .f32) (r : Fin 32) (l : Fin 128) : k0_pay64 (F := Ideal) v (ix4 0 0 r l) = v (ix3 0 r l) := by
  pointwise [k0_pay64]

theorem id66 (v : Vec Ideal S1x32x128 .f32) (r : Fin 32) (l : Fin 128) : k0_pay66 (F := Ideal) (k0_pay65 v) (ix4 0 0 r l) = v (ix3 0 r l) := by
  pointwise [k0_pay66, k0_pay65]

theorem id67 (v : Vec Ideal S1x32x128 .f32) (r : Fin 32) (l : Fin 128) : k0_pay67 (F := Ideal) v (ix4 0 0 r l) = v (ix3 0 r l) := by
  pointwise [k0_pay67]

theorem id68 (v : Vec Ideal S1x32x128 .f32) (r : Fin 32) (l : Fin 128) : k0_pay68 (F := Ideal) v (ix4 0 0 r l) = v (ix3 0 r l) := by
  pointwise [k0_pay68]

theorem id69 (v : Vec Ideal S1x32x128 .f32) (r : Fin 32) (l : Fin 128) : k0_pay69 (F := Ideal) v (ix4 0 0 r l) = v (ix3 0 r l) := by
  pointwise [k0_pay69]

theorem id70 (v : Vec Ideal S1x32x128 .f32) (r : Fin 32) (l : Fin 128) : k0_pay70 (F := Ideal) v (ix4 0 0 r l) = v (ix3 0 r l) := by
  pointwise [k0_pay70]

theorem id72 (v : Vec Ideal S1x32x128 .f32) (r : Fin 32) (l : Fin 128) : k0_pay72 (F := Ideal) (k0_pay71 v) (ix4 0 0 r l) = v (ix3 0 r l) := by
  pointwise [k0_pay72, k0_pay71]

theorem id73 (v : Vec Ideal S1x32x128 .f32) (r : Fin 32) (l : Fin 128) : k0_pay73 (F := Ideal) v (ix4 0 0 r l) = v (ix3 0 r l) := by
  pointwise [k0_pay73]

theorem id74 (v : Vec Ideal S1x32x128 .f32) (r : Fin 32) (l : Fin 128) : k0_pay74 (F := Ideal) v (ix4 0 0 r l) = v (ix3 0 r l) := by
  pointwise [k0_pay74]

theorem id75 (v : Vec Ideal S1x32x128 .f32) (r : Fin 32) (l : Fin 128) : k0_pay75 (F := Ideal) v (ix4 0 0 r l) = v (ix3 0 r l) := by
  pointwise [k0_pay75]

theorem id76 (v : Vec Ideal S1x32x128 .f32) (r : Fin 32) (l : Fin 128) : k0_pay76 (F := Ideal) v (ix4 0 0 r l) = v (ix3 0 r l) := by
  pointwise [k0_pay76]

theorem id78 (v : Vec Ideal S1x32x128 .f32) (r : Fin 32) (l : Fin 128) : k0_pay78 (F := Ideal) (k0_pay77 v) (ix4 0 0 r l) = v (ix3 0 r l) := by
  pointwise [k0_pay78, k0_pay77]

theorem id79 (v : Vec Ideal S1x32x128 .f32) (r : Fin 32) (l : Fin 128) : k0_pay79 (F := Ideal) v (ix4 0 0 r l) = v (ix3 0 r l) := by
  pointwise [k0_pay79]

theorem id80 (v : Vec Ideal S1x32x128 .f32) (r : Fin 32) (l : Fin 128) : k0_pay80 (F := Ideal) v (ix4 0 0 r l) = v (ix3 0 r l) := by
  pointwise [k0_pay80]

theorem id81 (v : Vec Ideal S1x32x128 .f32) (r : Fin 32) (l : Fin 128) : k0_pay81 (F := Ideal) v (ix4 0 0 r l) = v (ix3 0 r l) := by
  pointwise [k0_pay81]

theorem id82 (v : Vec Ideal S1x32x128 .f32) (r : Fin 32) (l : Fin 128) : k0_pay82 (F := Ideal) v (ix4 0 0 r l) = v (ix3 0 r l) := by
  pointwise [k0_pay82]

theorem id2 (v : Vec Ideal S1x32x128 .f32) (r : Fin 32) (l : Fin 128) : k0_pay2 (F := Ideal) (k0_pay83 v) (ix4 0 0 r l) = v (ix3 0 r l) := by
  pointwise [k0_pay2, k0_pay83]

theorem id3 (v : Vec Ideal S1x32x128 .f32) (r : Fin 32) (l : Fin 128) : k0_pay3 (F := Ideal) v (ix4 0 0 r l) = v (ix3 0 r l) := by
  pointwise [k0_pay3]

section Cover

variable (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt Ideal .i32) (v10 : Elt Ideal .i32) (v16 : Elt Ideal .i32) (v22 : Elt Ideal .i32) (v27 : IVec S96x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg9 : BufTy.Contents (Elt Ideal) arg9.view.ty) (f_arg10 : BufTy.Contents (Elt Ideal) arg10.view.ty) (f_arg11 : BufTy.Contents (Elt Ideal) arg11.view.ty) (f_arg13 : BufTy.Contents (Elt Ideal) arg13.view.ty) (f_arg17 : BufTy.Contents (Elt Ideal) arg17.view.ty) (f_arg18 : BufTy.Contents (Elt Ideal) arg18.view.ty) (f_arg19 : BufTy.Contents (Elt Ideal) arg19.view.ty) (f_arg20 : BufTy.Contents (Elt Ideal) arg20.view.ty)

theorem cov_ln (r : Fin 32) (j : Fin 384) (d : Fin 128) (h : r.val = 2 * k.val ∨ r.val = 2 * k.val + 1) : ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).1, (ix4 0 r j d : S1x32x384x128.Idx) ∈ p.1.set := by
  unfold tripL_k0_t1 trip_k0_t1
  dsimp only
  rcases h with h | h
  · refine ⟨_, List.mem_cons_of_mem _ List.mem_cons_self, ?_⟩
    have ho : k0_off6 k 0#32 = ![0, (2 * k.val + 0), 0, 0] := k0_off6_eq k 0
    refine (LoadRect.mem_set _).2 fun (a : Fin 4) => ?_
    fin_cases a
    · refine ⟨0, by show 0 < 1; omega, ?_⟩
      show 0 = k0_off6 k 0#32 0 + 1 * 0
      rw [ho]; show 0 = 0 + 1 * 0; omega
    · refine ⟨0, by show 0 < 1; omega, ?_⟩
      show r.val = k0_off6 k 0#32 1 + 1 * 0
      rw [ho]; show r.val = (2 * k.val + 0) + 1 * 0; omega
    · refine ⟨j.val, by show j.val < 384; omega, ?_⟩
      show j.val = k0_off6 k 0#32 2 + 1 * j.val
      rw [ho]; show j.val = 0 + 1 * j.val; omega
    · refine ⟨d.val, by show d.val < 128; omega, ?_⟩
      show d.val = k0_off6 k 0#32 3 + 1 * d.val
      rw [ho]; show d.val = 0 + 1 * d.val; omega
  · refine ⟨_, List.mem_cons_self, ?_⟩
    have ho : k0_off6 k 1#32 = ![0, (2 * k.val + 1), 0, 0] := k0_off6_eq k 1
    refine (LoadRect.mem_set _).2 fun (a : Fin 4) => ?_
    fin_cases a
    · refine ⟨0, by show 0 < 1; omega, ?_⟩
      show 0 = k0_off6 k 1#32 0 + 1 * 0
      rw [ho]; show 0 = 0 + 1 * 0; omega
    · refine ⟨0, by show 0 < 1; omega, ?_⟩
      show r.val = k0_off6 k 1#32 1 + 1 * 0
      rw [ho]; show r.val = (2 * k.val + 1) + 1 * 0; omega
    · refine ⟨j.val, by show j.val < 384; omega, ?_⟩
      show j.val = k0_off6 k 1#32 2 + 1 * j.val
      rw [ho]; show j.val = 0 + 1 * j.val; omega
    · refine ⟨d.val, by show d.val < 128; omega, ?_⟩
      show d.val = k0_off6 k 1#32 3 + 1 * d.val
      rw [ho]; show d.val = 0 + 1 * d.val; omega

theorem cov_s1 (r : Fin 32) (j : Fin 384) (h : r.val = 2 * k.val ∨ r.val = 2 * k.val + 1) : ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.1, (ix3 0 r j : S1x32x384.Idx) ∈ p.1.set := by
  unfold tripL_k0_t1 trip_k0_t1
  dsimp only
  rcases h with h | h
  · refine ⟨_, List.mem_cons_of_mem _ List.mem_cons_self, ?_⟩
    have ho : k0_off7 k 0#32 = ![0, (2 * k.val + 0), 0] := k0_off7_eq k 0
    refine (LoadRect.mem_set _).2 fun (a : Fin 3) => ?_
    fin_cases a
    · refine ⟨0, by show 0 < 1; omega, ?_⟩
      show 0 = k0_off7 k 0#32 0 + 1 * 0
      rw [ho]; show 0 = 0 + 1 * 0; omega
    · refine ⟨0, by show 0 < 1; omega, ?_⟩
      show r.val = k0_off7 k 0#32 1 + 1 * 0
      rw [ho]; show r.val = (2 * k.val + 0) + 1 * 0; omega
    · refine ⟨j.val, by show j.val < 384; omega, ?_⟩
      show j.val = k0_off7 k 0#32 2 + 1 * j.val
      rw [ho]; show j.val = 0 + 1 * j.val; omega
  · refine ⟨_, List.mem_cons_self, ?_⟩
    have ho : k0_off7 k 1#32 = ![0, (2 * k.val + 1), 0] := k0_off7_eq k 1
    refine (LoadRect.mem_set _).2 fun (a : Fin 3) => ?_
    fin_cases a
    · refine ⟨0, by show 0 < 1; omega, ?_⟩
      show 0 = k0_off7 k 1#32 0 + 1 * 0
      rw [ho]; show 0 = 0 + 1 * 0; omega
    · refine ⟨0, by show 0 < 1; omega, ?_⟩
      show r.val = k0_off7 k 1#32 1 + 1 * 0
      rw [ho]; show r.val = (2 * k.val + 1) + 1 * 0; omega
    · refine ⟨j.val, by show j.val < 384; omega, ?_⟩
      show j.val = k0_off7 k 1#32 2 + 1 * j.val
      rw [ho]; show j.val = 0 + 1 * j.val; omega

theorem cov_qa (r : Fin 32) (j : Fin 384) (ch : Fin 96) (h : r.val = 2 * k.val ∨ r.val = 2 * k.val + 1) : ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.1, (ix4 0 r j ch : S1x32x384x96.Idx) ∈ p.1.set := by
  unfold tripL_k0_t1 trip_k0_t1
  dsimp only
  rcases h with h | h
  · refine ⟨_, List.mem_cons_of_mem _ List.mem_cons_self, ?_⟩
    have ho : k0_off12 k 0#32 = ![0, (2 * k.val + 0), 0, 0] := k0_off12_eq k 0
    refine (LoadRect.mem_set _).2 fun (a : Fin 4) => ?_
    fin_cases a
    · refine ⟨0, by show 0 < 1; omega, ?_⟩
      show 0 = k0_off12 k 0#32 0 + 1 * 0
      rw [ho]; show 0 = 0 + 1 * 0; omega
    · refine ⟨0, by show 0 < 1; omega, ?_⟩
      show r.val = k0_off12 k 0#32 1 + 1 * 0
      rw [ho]; show r.val = (2 * k.val + 0) + 1 * 0; omega
    · refine ⟨j.val, by show j.val < 384; omega, ?_⟩
      show j.val = k0_off12 k 0#32 2 + 1 * j.val
      rw [ho]; show j.val = 0 + 1 * j.val; omega
    · refine ⟨ch.val, by show ch.val < 96; omega, ?_⟩
      show ch.val = k0_off12 k 0#32 3 + 1 * ch.val
      rw [ho]; show ch.val = 0 + 1 * ch.val; omega
  · refine ⟨_, List.mem_cons_self, ?_⟩
    have ho : k0_off12 k 1#32 = ![0, (2 * k.val + 1), 0, 0] := k0_off12_eq k 1
    refine (LoadRect.mem_set _).2 fun (a : Fin 4) => ?_
    fin_cases a
    · refine ⟨0, by show 0 < 1; omega, ?_⟩
      show 0 = k0_off12 k 1#32 0 + 1 * 0
      rw [ho]; show 0 = 0 + 1 * 0; omega
    · refine ⟨0, by show 0 < 1; omega, ?_⟩
      show r.val = k0_off12 k 1#32 1 + 1 * 0
      rw [ho]; show r.val = (2 * k.val + 1) + 1 * 0; omega
    · refine ⟨j.val, by show j.val < 384; omega, ?_⟩
      show j.val = k0_off12 k 1#32 2 + 1 * j.val
      rw [ho]; show j.val = 0 + 1 * j.val; omega
    · refine ⟨ch.val, by show ch.val < 96; omega, ?_⟩
      show ch.val = k0_off12 k 1#32 3 + 1 * ch.val
      rw [ho]; show ch.val = 0 + 1 * ch.val; omega

theorem cov_qb (r : Fin 32) (j : Fin 384) (ch : Fin 96) (h : r.val = 2 * k.val ∨ r.val = 2 * k.val + 1) : ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.1, (ix4 0 r j ch : S1x32x384x96.Idx) ∈ p.1.set := by
  unfold tripL_k0_t1 trip_k0_t1
  dsimp only
  rcases h with h | h
  · refine ⟨_, List.mem_cons_of_mem _ List.mem_cons_self, ?_⟩
    have ho : k0_off12 k 0#32 = ![0, (2 * k.val + 0), 0, 0] := k0_off12_eq k 0
    refine (LoadRect.mem_set _).2 fun (a : Fin 4) => ?_
    fin_cases a
    · refine ⟨0, by show 0 < 1; omega, ?_⟩
      show 0 = k0_off12 k 0#32 0 + 1 * 0
      rw [ho]; show 0 = 0 + 1 * 0; omega
    · refine ⟨0, by show 0 < 1; omega, ?_⟩
      show r.val = k0_off12 k 0#32 1 + 1 * 0
      rw [ho]; show r.val = (2 * k.val + 0) + 1 * 0; omega
    · refine ⟨j.val, by show j.val < 384; omega, ?_⟩
      show j.val = k0_off12 k 0#32 2 + 1 * j.val
      rw [ho]; show j.val = 0 + 1 * j.val; omega
    · refine ⟨ch.val, by show ch.val < 96; omega, ?_⟩
      show ch.val = k0_off12 k 0#32 3 + 1 * ch.val
      rw [ho]; show ch.val = 0 + 1 * ch.val; omega
  · refine ⟨_, List.mem_cons_self, ?_⟩
    have ho : k0_off12 k 1#32 = ![0, (2 * k.val + 1), 0, 0] := k0_off12_eq k 1
    refine (LoadRect.mem_set _).2 fun (a : Fin 4) => ?_
    fin_cases a
    · refine ⟨0, by show 0 < 1; omega, ?_⟩
      show 0 = k0_off12 k 1#32 0 + 1 * 0
      rw [ho]; show 0 = 0 + 1 * 0; omega
    · refine ⟨0, by show 0 < 1; omega, ?_⟩
      show r.val = k0_off12 k 1#32 1 + 1 * 0
      rw [ho]; show r.val = (2 * k.val + 1) + 1 * 0; omega
    · refine ⟨j.val, by show j.val < 384; omega, ?_⟩
      show j.val = k0_off12 k 1#32 2 + 1 * j.val
      rw [ho]; show j.val = 0 + 1 * j.val; omega
    · refine ⟨ch.val, by show ch.val < 96; omega, ?_⟩
      show ch.val = k0_off12 k 1#32 3 + 1 * ch.val
      rw [ho]; show ch.val = 0 + 1 * ch.val; omega

theorem cov_wa (n : Fin 3) (ch : Fin 96) (r : Fin 32) (l : Fin 128) (h : r.val = 2 * k.val ∨ r.val = 2 * k.val + 1) :
    ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.1, (ix3 n ⟨33 * ch.val + r.val, by omega⟩ l : S3x3168x128.Idx) ∈ p.1.set := by
  unfold tripL_k0_t1 trip_k0_t1
  dsimp only
  rcases h with h | h
  · fin_cases n
    · refine ⟨_, (List.mem_cons_of_mem _ (List.mem_cons_of_mem _ (List.mem_cons_of_mem _ (List.mem_cons_of_mem _ (List.mem_cons_of_mem _ List.mem_cons_self))))), ?_⟩
      have ho : k0_off13 k 0#32 = ![0, (2 * k.val + 0), 0] := k0_off13_eq k 0
      refine (LoadRect.mem_set _).2 fun (a : Fin 3) => ?_
      fin_cases a
      · refine ⟨0, by show 0 < 1; omega, ?_⟩
        show 0 = k0_off13 k 0#32 0 + 1 * 0
        rw [ho]; show 0 = 0 + 1 * 0; omega
      · refine ⟨ch.val, by show ch.val < 96; omega, ?_⟩
        show 33 * ch.val + r.val = k0_off13 k 0#32 1 + 33 * ch.val
        rw [ho]; show 33 * ch.val + r.val = (2 * k.val + 0) + 33 * ch.val; omega
      · refine ⟨l.val, by show l.val < 128; omega, ?_⟩
        show l.val = k0_off13 k 0#32 2 + 1 * l.val
        rw [ho]; show l.val = 0 + 1 * l.val; omega
    · refine ⟨_, (List.mem_cons_of_mem _ (List.mem_cons_of_mem _ (List.mem_cons_of_mem _ (List.mem_cons_of_mem _ List.mem_cons_self)))), ?_⟩
      have ho : k0_off14 k 0#32 = ![1, (2 * k.val + 0), 0] := k0_off14_eq k 0
      refine (LoadRect.mem_set _).2 fun (a : Fin 3) => ?_
      fin_cases a
      · refine ⟨0, by show 0 < 1; omega, ?_⟩
        show 1 = k0_off14 k 0#32 0 + 1 * 0
        rw [ho]; show 1 = 1 + 1 * 0; omega
      · refine ⟨ch.val, by show ch.val < 96; omega, ?_⟩
        show 33 * ch.val + r.val = k0_off14 k 0#32 1 + 33 * ch.val
        rw [ho]; show 33 * ch.val + r.val = (2 * k.val + 0) + 33 * ch.val; omega
      · refine ⟨l.val, by show l.val < 128; omega, ?_⟩
        show l.val = k0_off14 k 0#32 2 + 1 * l.val
        rw [ho]; show l.val = 0 + 1 * l.val; omega
    · refine ⟨_, (List.mem_cons_of_mem _ (List.mem_cons_of_mem _ (List.mem_cons_of_mem _ List.mem_cons_self))), ?_⟩
      have ho : k0_off15 k 0#32 = ![2, (2 * k.val + 0), 0] := k0_off15_eq k 0
      refine (LoadRect.mem_set _).2 fun (a : Fin 3) => ?_
      fin_cases a
      · refine ⟨0, by show 0 < 1; omega, ?_⟩
        show 2 = k0_off15 k 0#32 0 + 1 * 0
        rw [ho]; show 2 = 2 + 1 * 0; omega
      · refine ⟨ch.val, by show ch.val < 96; omega, ?_⟩
        show 33 * ch.val + r.val = k0_off15 k 0#32 1 + 33 * ch.val
        rw [ho]; show 33 * ch.val + r.val = (2 * k.val + 0) + 33 * ch.val; omega
      · refine ⟨l.val, by show l.val < 128; omega, ?_⟩
        show l.val = k0_off15 k 0#32 2 + 1 * l.val
        rw [ho]; show l.val = 0 + 1 * l.val; omega
  · fin_cases n
    · refine ⟨_, (List.mem_cons_of_mem _ (List.mem_cons_of_mem _ List.mem_cons_self)), ?_⟩
      have ho : k0_off13 k 1#32 = ![0, (2 * k.val + 1), 0] := k0_off13_eq k 1
      refine (LoadRect.mem_set _).2 fun (a : Fin 3) => ?_
      fin_cases a
      · refine ⟨0, by show 0 < 1; omega, ?_⟩
        show 0 = k0_off13 k 1#32 0 + 1 * 0
        rw [ho]; show 0 = 0 + 1 * 0; omega
      · refine ⟨ch.val, by show ch.val < 96; omega, ?_⟩
        show 33 * ch.val + r.val = k0_off13 k 1#32 1 + 33 * ch.val
        rw [ho]; show 33 * ch.val + r.val = (2 * k.val + 1) + 33 * ch.val; omega
      · refine ⟨l.val, by show l.val < 128; omega, ?_⟩
        show l.val = k0_off13 k 1#32 2 + 1 * l.val
        rw [ho]; show l.val = 0 + 1 * l.val; omega
    · refine ⟨_, (List.mem_cons_of_mem _ List.mem_cons_self), ?_⟩
      have ho : k0_off14 k 1#32 = ![1, (2 * k.val + 1), 0] := k0_off14_eq k 1
      refine (LoadRect.mem_set _).2 fun (a : Fin 3) => ?_
      fin_cases a
      · refine ⟨0, by show 0 < 1; omega, ?_⟩
        show 1 = k0_off14 k 1#32 0 + 1 * 0
        rw [ho]; show 1 = 1 + 1 * 0; omega
      · refine ⟨ch.val, by show ch.val < 96; omega, ?_⟩
        show 33 * ch.val + r.val = k0_off14 k 1#32 1 + 33 * ch.val
        rw [ho]; show 33 * ch.val + r.val = (2 * k.val + 1) + 33 * ch.val; omega
      · refine ⟨l.val, by show l.val < 128; omega, ?_⟩
        show l.val = k0_off14 k 1#32 2 + 1 * l.val
        rw [ho]; show l.val = 0 + 1 * l.val; omega
    · refine ⟨_, List.mem_cons_self, ?_⟩
      have ho : k0_off15 k 1#32 = ![2, (2 * k.val + 1), 0] := k0_off15_eq k 1
      refine (LoadRect.mem_set _).2 fun (a : Fin 3) => ?_
      fin_cases a
      · refine ⟨0, by show 0 < 1; omega, ?_⟩
        show 2 = k0_off15 k 1#32 0 + 1 * 0
        rw [ho]; show 2 = 2 + 1 * 0; omega
      · refine ⟨ch.val, by show ch.val < 96; omega, ?_⟩
        show 33 * ch.val + r.val = k0_off15 k 1#32 1 + 33 * ch.val
        rw [ho]; show 33 * ch.val + r.val = (2 * k.val + 1) + 33 * ch.val; omega
      · refine ⟨l.val, by show l.val < 128; omega, ?_⟩
        show l.val = k0_off15 k 1#32 2 + 1 * l.val
        rw [ho]; show l.val = 0 + 1 * l.val; omega

theorem cov_wb (n : Fin 3) (ch : Fin 96) (r : Fin 32) (l : Fin 128) (h : r.val = 2 * k.val ∨ r.val = 2 * k.val + 1) :
    ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 k f_arg9 f_arg10 f_arg11 f_arg13 f_arg17 f_arg18 f_arg19 f_arg20).2.2.2.2.2.1, (ix3 n ⟨33 * ch.val + r.val, by omega⟩ l : S3x3168x128.Idx) ∈ p.1.set := by
  unfold tripL_k0_t1 trip_k0_t1
  dsimp only
  rcases h with h | h
  · fin_cases n
    · refine ⟨_, (List.mem_cons_of_mem _ (List.mem_cons_of_mem _ (List.mem_cons_of_mem _ (List.mem_cons_of_mem _ (List.mem_cons_of_mem _ List.mem_cons_self))))), ?_⟩
      have ho : k0_off13 k 0#32 = ![0, (2 * k.val + 0), 0] := k0_off13_eq k 0
      refine (LoadRect.mem_set _).2 fun (a : Fin 3) => ?_
      fin_cases a
      · refine ⟨0, by show 0 < 1; omega, ?_⟩
        show 0 = k0_off13 k 0#32 0 + 1 * 0
        rw [ho]; show 0 = 0 + 1 * 0; omega
      · refine ⟨ch.val, by show ch.val < 96; omega, ?_⟩
        show 33 * ch.val + r.val = k0_off13 k 0#32 1 + 33 * ch.val
        rw [ho]; show 33 * ch.val + r.val = (2 * k.val + 0) + 33 * ch.val; omega
      · refine ⟨l.val, by show l.val < 128; omega, ?_⟩
        show l.val = k0_off13 k 0#32 2 + 1 * l.val
        rw [ho]; show l.val = 0 + 1 * l.val; omega
    · refine ⟨_, (List.mem_cons_of_mem _ (List.mem_cons_of_mem _ (List.mem_cons_of_mem _ (List.mem_cons_of_mem _ List.mem_cons_self)))), ?_⟩
      have ho : k0_off14 k 0#32 = ![1, (2 * k.val + 0), 0] := k0_off14_eq k 0
      refine (LoadRect.mem_set _).2 fun (a : Fin 3) => ?_
      fin_cases a
      · refine ⟨0, by show 0 < 1; omega, ?_⟩
        show 1 = k0_off14 k 0#32 0 + 1 * 0
        rw [ho]; show 1 = 1 + 1 * 0; omega
      · refine ⟨ch.val, by show ch.val < 96; omega, ?_⟩
        show 33 * ch.val + r.val = k0_off14 k 0#32 1 + 33 * ch.val
        rw [ho]; show 33 * ch.val + r.val = (2 * k.val + 0) + 33 * ch.val; omega
      · refine ⟨l.val, by show l.val < 128; omega, ?_⟩
        show l.val = k0_off14 k 0#32 2 + 1 * l.val
        rw [ho]; show l.val = 0 + 1 * l.val; omega
    · refine ⟨_, (List.mem_cons_of_mem _ (List.mem_cons_of_mem _ (List.mem_cons_of_mem _ List.mem_cons_self))), ?_⟩
      have ho : k0_off15 k 0#32 = ![2, (2 * k.val + 0), 0] := k0_off15_eq k 0
      refine (LoadRect.mem_set _).2 fun (a : Fin 3) => ?_
      fin_cases a
      · refine ⟨0, by show 0 < 1; omega, ?_⟩
        show 2 = k0_off15 k 0#32 0 + 1 * 0
        rw [ho]; show 2 = 2 + 1 * 0; omega
      · refine ⟨ch.val, by show ch.val < 96; omega, ?_⟩
        show 33 * ch.val + r.val = k0_off15 k 0#32 1 + 33 * ch.val
        rw [ho]; show 33 * ch.val + r.val = (2 * k.val + 0) + 33 * ch.val; omega
      · refine ⟨l.val, by show l.val < 128; omega, ?_⟩
        show l.val = k0_off15 k 0#32 2 + 1 * l.val
        rw [ho]; show l.val = 0 + 1 * l.val; omega
  · fin_cases n
    · refine ⟨_, (List.mem_cons_of_mem _ (List.mem_cons_of_mem _ List.mem_cons_self)), ?_⟩
      have ho : k0_off13 k 1#32 = ![0, (2 * k.val + 1), 0] := k0_off13_eq k 1
      refine (LoadRect.mem_set _).2 fun (a : Fin 3) => ?_
      fin_cases a
      · refine ⟨0, by show 0 < 1; omega, ?_⟩
        show 0 = k0_off13 k 1#32 0 + 1 * 0
        rw [ho]; show 0 = 0 + 1 * 0; omega
      · refine ⟨ch.val, by show ch.val < 96; omega, ?_⟩
        show 33 * ch.val + r.val = k0_off13 k 1#32 1 + 33 * ch.val
        rw [ho]; show 33 * ch.val + r.val = (2 * k.val + 1) + 33 * ch.val; omega
      · refine ⟨l.val, by show l.val < 128; omega, ?_⟩
        show l.val = k0_off13 k 1#32 2 + 1 * l.val
        rw [ho]; show l.val = 0 + 1 * l.val; omega
    · refine ⟨_, (List.mem_cons_of_mem _ List.mem_cons_self), ?_⟩
      have ho : k0_off14 k 1#32 = ![1, (2 * k.val + 1), 0] := k0_off14_eq k 1
      refine (LoadRect.mem_set _).2 fun (a : Fin 3) => ?_
      fin_cases a
      · refine ⟨0, by show 0 < 1; omega, ?_⟩
        show 1 = k0_off14 k 1#32 0 + 1 * 0
        rw [ho]; show 1 = 1 + 1 * 0; omega
      · refine ⟨ch.val, by show ch.val < 96; omega, ?_⟩
        show 33 * ch.val + r.val = k0_off14 k 1#32 1 + 33 * ch.val
        rw [ho]; show 33 * ch.val + r.val = (2 * k.val + 1) + 33 * ch.val; omega
      · refine ⟨l.val, by show l.val < 128; omega, ?_⟩
        show l.val = k0_off14 k 1#32 2 + 1 * l.val
        rw [ho]; show l.val = 0 + 1 * l.val; omega
    · refine ⟨_, List.mem_cons_self, ?_⟩
      have ho : k0_off15 k 1#32 = ![2, (2 * k.val + 1), 0] := k0_off15_eq k 1
      refine (LoadRect.mem_set _).2 fun (a : Fin 3) => ?_
      fin_cases a
      · refine ⟨0, by show 0 < 1; omega, ?_⟩
        show 2 = k0_off15 k 1#32 0 + 1 * 0
        rw [ho]; show 2 = 2 + 1 * 0; omega
      · refine ⟨ch.val, by show ch.val < 96; omega, ?_⟩
        show 33 * ch.val + r.val = k0_off15 k 1#32 1 + 33 * ch.val
        rw [ho]; show 33 * ch.val + r.val = (2 * k.val + 1) + 33 * ch.val; omega
      · refine ⟨l.val, by show l.val < 128; omega, ?_⟩
        show l.val = k0_off15 k 1#32 2 + 1 * l.val
        rw [ho]; show l.val = 0 + 1 * l.val; omega

end Cover

section Second

variable (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (X_arg17 : BufTy.Contents (Elt Ideal) arg17.view.ty) (X_arg18 : BufTy.Contents (Elt Ideal) arg18.view.ty) (k : Fin k0_t2_loop.trips)

theorem ld17 (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (h : ∀ (n : Fin 3) (ch : Fin 96) (r : Fin 32) (l : Fin 128), arg17.view.read (Elt Ideal) X_arg17 (ix3 n ⟨33 * ch.val + r.val, by omega⟩ l)
      = qK x0 x1 x2 x3 x4 x5 v0 tI tJ 0 r ⟨128 * n.val + l.val, by omega⟩ ch)
    (off : Fin 3 → Nat) (inb) (n : Fin 3) (ch : Fin 96) (ho : off = ![n.val, 33 * ch.val, 0]) (r : Fin 32) (l : Fin 128) :
    View.readAt (Elt Ideal) arg17.view (Rect.unit (s := S3x3168x128) off S1x32x128.size inb).toLoadRect X_arg17 (ix3 0 r l)
      = Tt x0 x1 x2 x3 x4 x5 v0 tI tJ 0 (ix4 0 ch r ⟨128 * n.val + l.val, by omega⟩) := by
  subst ho
  rw [View.readAt_eq_ld, View.ld_apply]
  refine Eq.trans (congrArg _ (funext fun (a : Fin 3) => Fin.ext ?_)) (h n ch r l)
  fin_cases a
  · show n.val + 1 * 0 = n.val; omega
  · show 33 * ch.val + 1 * r.val = 33 * ch.val + r.val; omega
  · show 0 + 1 * l.val = l.val; omega

theorem trip2_a (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (h : ∀ (n : Fin 3) (ch : Fin 96) (r : Fin 32) (l : Fin 128), arg17.view.read (Elt Ideal) X_arg17 (ix3 n ⟨33 * ch.val + r.val, by omega⟩ l)
      = qK x0 x1 x2 x3 x4 x5 v0 tI tJ 0 r ⟨128 * n.val + l.val, by omega⟩ ch) :
    ∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k).1, ∀ x : p.1.shape.Idx, p.2 x = Tt x0 x1 x2 x3 x4 x5 v0 tI tJ 0 (p.1.emb x) := by
  unfold tripL_k0_t2 trip_k0_t2
  dsimp only
  intro p hp x
  have hk := Nat.lt_of_lt_of_le k.isLt k0_t2_abs.2.1
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 3#32 = ![((2 : Fin 3)).val, 33 * (⟨4 * k.val + 3, by omega⟩ : Fin 96).val, 0] := by
      rw [show k0_off20 k 3#32 = ![2, 132 * k.val + 33 * 3, 0] from k0_off20_eq k 3]
      congr 2
      show 132 * k.val + 33 * 3 = 33 * (4 * k.val + 3); omega
    refine ((id70 _ r l).trans (ld17 (h := h) (off := k0_off20 k 3#32) (n := 2) (ch := ⟨4 * k.val + 3, by omega⟩) (ho := hl) (r := r) (l := l) (inb := _))).trans
      (congrArg (Tt x0 x1 x2 x3 x4 x5 v0 tI tJ 0) (Rect.emb_eq_of_coords _ _ _ ?_).symm)
    have ho : k0_off21 k 3#32 = ![0, (4 * k.val + 3), 0, 256] := k0_off21_eq k 3
    intro (a : Fin 4)
    fin_cases a
    · show 0 = k0_off21 k 3#32 0 + 1 * 0
      rw [ho]; show 0 = 0 + 1 * 0; omega
    · show 4 * k.val + 3 = k0_off21 k 3#32 1 + 1 * 0
      rw [ho]; show 4 * k.val + 3 = (4 * k.val + 3) + 1 * 0; omega
    · show r.val = k0_off21 k 3#32 2 + 1 * r.val
      rw [ho]; show r.val = 0 + 1 * r.val; omega
    · show 128 * 2 + l.val = k0_off21 k 3#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 2#32 = ![((2 : Fin 3)).val, 33 * (⟨4 * k.val + 2, by omega⟩ : Fin 96).val, 0] := by
      rw [show k0_off20 k 2#32 = ![2, 132 * k.val + 33 * 2, 0] from k0_off20_eq k 2]
      congr 2
      show 132 * k.val + 33 * 2 = 33 * (4 * k.val + 2); omega
    refine ((id69 _ r l).trans (ld17 (h := h) (off := k0_off20 k 2#32) (n := 2) (ch := ⟨4 * k.val + 2, by omega⟩) (ho := hl) (r := r) (l := l) (inb := _))).trans
      (congrArg (Tt x0 x1 x2 x3 x4 x5 v0 tI tJ 0) (Rect.emb_eq_of_coords _ _ _ ?_).symm)
    have ho : k0_off21 k 2#32 = ![0, (4 * k.val + 2), 0, 256] := k0_off21_eq k 2
    intro (a : Fin 4)
    fin_cases a
    · show 0 = k0_off21 k 2#32 0 + 1 * 0
      rw [ho]; show 0 = 0 + 1 * 0; omega
    · show 4 * k.val + 2 = k0_off21 k 2#32 1 + 1 * 0
      rw [ho]; show 4 * k.val + 2 = (4 * k.val + 2) + 1 * 0; omega
    · show r.val = k0_off21 k 2#32 2 + 1 * r.val
      rw [ho]; show r.val = 0 + 1 * r.val; omega
    · show 128 * 2 + l.val = k0_off21 k 2#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_3
    have hl : k0_off20 k 1#32 = ![((2 : Fin 3)).val, 33 * (⟨4 * k.val + 1, by omega⟩ : Fin 96).val, 0] := by
      rw [show k0_off20 k 1#32 = ![2, 132 * k.val + 33 * 1, 0] from k0_off20_eq k 1]
      congr 2
      show 132 * k.val + 33 * 1 = 33 * (4 * k.val + 1); omega
    refine ((id68 _ r l).trans (ld17 (h := h) (off := k0_off20 k 1#32) (n := 2) (ch := ⟨4 * k.val + 1, by omega⟩) (ho := hl) (r := r) (l := l) (inb := _))).trans
      (congrArg (Tt x0 x1 x2 x3 x4 x5 v0 tI tJ 0) (Rect.emb_eq_of_coords _ _ _ ?_).symm)
    have ho : k0_off21 k 1#32 = ![0, (4 * k.val + 1), 0, 256] := k0_off21_eq k 1
    intro (a : Fin 4)
    fin_cases a
    · show 0 = k0_off21 k 1#32 0 + 1 * 0
      rw [ho]; show 0 = 0 + 1 * 0; omega
    · show 4 * k.val + 1 = k0_off21 k 1#32 1 + 1 * 0
      rw [ho]; show 4 * k.val + 1 = (4 * k.val + 1) + 1 * 0; omega
    · show r.val = k0_off21 k 1#32 2 + 1 * r.val
      rw [ho]; show r.val = 0 + 1 * r.val; omega
    · show 128 * 2 + l.val = k0_off21 k 1#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 0#32 = ![((2 : Fin 3)).val, 33 * (⟨4 * k.val + 0, by omega⟩ : Fin 96).val, 0] := by
      rw [show k0_off20 k 0#32 = ![2, 132 * k.val + 33 * 0, 0] from k0_off20_eq k 0]
      congr 2
      show 132 * k.val + 33 * 0 = 33 * (4 * k.val + 0); omega
    refine ((id67 _ r l).trans (ld17 (h := h) (off := k0_off20 k 0#32) (n := 2) (ch := ⟨4 * k.val + 0, by omega⟩) (ho := hl) (r := r) (l := l) (inb := _))).trans
      (congrArg (Tt x0 x1 x2 x3 x4 x5 v0 tI tJ 0) (Rect.emb_eq_of_coords _ _ _ ?_).symm)
    have ho : k0_off21 k 0#32 = ![0, (4 * k.val + 0), 0, 256] := k0_off21_eq k 0
    intro (a : Fin 4)
    fin_cases a
    · show 0 = k0_off21 k 0#32 0 + 1 * 0
      rw [ho]; show 0 = 0 + 1 * 0; omega
    · show 4 * k.val + 0 = k0_off21 k 0#32 1 + 1 * 0
      rw [ho]; show 4 * k.val + 0 = (4 * k.val + 0) + 1 * 0; omega
    · show r.val = k0_off21 k 0#32 2 + 1 * r.val
      rw [ho]; show r.val = 0 + 1 * r.val; omega
    · show 128 * 2 + l.val = k0_off21 k 0#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_2
    have hl : k0_off18 k 3#32 = ![((1 : Fin 3)).val, 33 * (⟨4 * k.val + 3, by omega⟩ : Fin 96).val, 0] := by
      rw [show k0_off18 k 3#32 = ![1, 132 * k.val + 33 * 3, 0] from k0_off18_eq k 3]
      congr 2
      show 132 * k.val + 33 * 3 = 33 * (4 * k.val + 3); omega
    refine ((id66 _ r l).trans (ld17 (h := h) (off := k0_off18 k 3#32) (n := 1) (ch := ⟨4 * k.val + 3, by omega⟩) (ho := hl) (r := r) (l := l) (inb := _))).trans
      (congrArg (Tt x0 x1 x2 x3 x4 x5 v0 tI tJ 0) (Rect.emb_eq_of_coords _ _ _ ?_).symm)
    have ho : k0_off19 k 3#32 = ![0, (4 * k.val + 3), 0, 128] := k0_off19_eq k 3
    intro (a : Fin 4)
    fin_cases a
    · show 0 = k0_off19 k 3#32 0 + 1 * 0
      rw [ho]; show 0 = 0 + 1 * 0; omega
    · show 4 * k.val + 3 = k0_off19 k 3#32 1 + 1 * 0
      rw [ho]; show 4 * k.val + 3 = (4 * k.val + 3) + 1 * 0; omega
    · show r.val = k0_off19 k 3#32 2 + 1 * r.val
      rw [ho]; show r.val = 0 + 1 * r.val; omega
    · show 128 * 1 + l.val = k0_off19 k 3#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off18 k 2#32 = ![((1 : Fin 3)).val, 33 * (⟨4 * k.val + 2, by omega⟩ : Fin 96).val, 0] := by
      rw [show k0_off18 k 2#32 = ![1, 132 * k.val + 33 * 2, 0] from k0_off18_eq k 2]
      congr 2
      show 132 * k.val + 33 * 2 = 33 * (4 * k.val + 2); omega
    refine ((id64 _ r l).trans (ld17 (h := h) (off := k0_off18 k 2#32) (n := 1) (ch := ⟨4 * k.val + 2, by omega⟩) (ho := hl) (r := r) (l := l) (inb := _))).trans
      (congrArg (Tt x0 x1 x2 x3 x4 x5 v0 tI tJ 0) (Rect.emb_eq_of_coords _ _ _ ?_).symm)
    have ho : k0_off19 k 2#32 = ![0, (4 * k.val + 2), 0, 128] := k0_off19_eq k 2
    intro (a : Fin 4)
    fin_cases a
    · show 0 = k0_off19 k 2#32 0 + 1 * 0
      rw [ho]; show 0 = 0 + 1 * 0; omega
    · show 4 * k.val + 2 = k0_off19 k 2#32 1 + 1 * 0
      rw [ho]; show 4 * k.val + 2 = (4 * k.val + 2) + 1 * 0; omega
    · show r.val = k0_off19 k 2#32 2 + 1 * r.val
      rw [ho]; show r.val = 0 + 1 * r.val; omega
    · show 128 * 1 + l.val = k0_off19 k 2#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off18 k 1#32 = ![((1 : Fin 3)).val, 33 * (⟨4 * k.val + 1, by omega⟩ : Fin 96).val, 0] := by
      rw [show k0_off18 k 1#32 = ![1, 132 * k.val + 33 * 1, 0] from k0_off18_eq k 1]
      congr 2
      show 132 * k.val + 33 * 1 = 33 * (4 * k.val + 1); omega
    refine ((id63 _ r l).trans (ld17 (h := h) (off := k0_off18 k 1#32) (n := 1) (ch := ⟨4 * k.val + 1, by omega⟩) (ho := hl) (r := r) (l := l) (inb := _))).trans
      (congrArg (Tt x0 x1 x2 x3 x4 x5 v0 tI tJ 0) (Rect.emb_eq_of_coords _ _ _ ?_).symm)
    have ho : k0_off19 k 1#32 = ![0, (4 * k.val + 1), 0, 128] := k0_off19_eq k 1
    intro (a : Fin 4)
    fin_cases a
    · show 0 = k0_off19 k 1#32 0 + 1 * 0
      rw [ho]; show 0 = 0 + 1 * 0; omega
    · show 4 * k.val + 1 = k0_off19 k 1#32 1 + 1 * 0
      rw [ho]; show 4 * k.val + 1 = (4 * k.val + 1) + 1 * 0; omega
    · show r.val = k0_off19 k 1#32 2 + 1 * r.val
      rw [ho]; show r.val = 0 + 1 * r.val; omega
    · show 128 * 1 + l.val = k0_off19 k 1#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_1
    have hl : k0_off18 k 0#32 = ![((1 : Fin 3)).val, 33 * (⟨4 * k.val + 0, by omega⟩ : Fin 96).val, 0] := by
      rw [show k0_off18 k 0#32 = ![1, 132 * k.val + 33 * 0, 0] from k0_off18_eq k 0]
      congr 2
      show 132 * k.val + 33 * 0 = 33 * (4 * k.val + 0); omega
    refine ((id62 _ r l).trans (ld17 (h := h) (off := k0_off18 k 0#32) (n := 1) (ch := ⟨4 * k.val + 0, by omega⟩) (ho := hl) (r := r) (l := l) (inb := _))).trans
      (congrArg (Tt x0 x1 x2 x3 x4 x5 v0 tI tJ 0) (Rect.emb_eq_of_coords _ _ _ ?_).symm)
    have ho : k0_off19 k 0#32 = ![0, (4 * k.val + 0), 0, 128] := k0_off19_eq k 0
    intro (a : Fin 4)
    fin_cases a
    · show 0 = k0_off19 k 0#32 0 + 1 * 0
      rw [ho]; show 0 = 0 + 1 * 0; omega
    · show 4 * k.val + 0 = k0_off19 k 0#32 1 + 1 * 0
      rw [ho]; show 4 * k.val + 0 = (4 * k.val + 0) + 1 * 0; omega
    · show r.val = k0_off19 k 0#32 2 + 1 * r.val
      rw [ho]; show r.val = 0 + 1 * r.val; omega
    · show 128 * 1 + l.val = k0_off19 k 0#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off16 k 3#32 = ![((0 : Fin 3)).val, 33 * (⟨4 * k.val + 3, by omega⟩ : Fin 96).val, 0] := by
      rw [show k0_off16 k 3#32 = ![0, 132 * k.val + 33 * 3, 0] from k0_off16_eq k 3]
      congr 2
      show 132 * k.val + 33 * 3 = 33 * (4 * k.val + 3); omega
    refine ((id61 _ r l).trans (ld17 (h := h) (off := k0_off16 k 3#32) (n := 0) (ch := ⟨4 * k.val + 3, by omega⟩) (ho := hl) (r := r) (l := l) (inb := _))).trans
      (congrArg (Tt x0 x1 x2 x3 x4 x5 v0 tI tJ 0) (Rect.emb_eq_of_coords _ _ _ ?_).symm)
    have ho : k0_off17 k 3#32 = ![0, (4 * k.val + 3), 0, 0] := k0_off17_eq k 3
    intro (a : Fin 4)
    fin_cases a
    · show 0 = k0_off17 k 3#32 0 + 1 * 0
      rw [ho]; show 0 = 0 + 1 * 0; omega
    · show 4 * k.val + 3 = k0_off17 k 3#32 1 + 1 * 0
      rw [ho]; show 4 * k.val + 3 = (4 * k.val + 3) + 1 * 0; omega
    · show r.val = k0_off17 k 3#32 2 + 1 * r.val
      rw [ho]; show r.val = 0 + 1 * r.val; omega
    · show 128 * 0 + l.val = k0_off17 k 3#32 3 + 1 * l.val
      rw [ho]; show 128 * 0 + l.val = 0 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r
    have hl : k0_off16 k 2#32 = ![((0 : Fin 3)).val, 33 * (⟨4 * k.val + 2, by omega⟩ : Fin 96).val, 0] := by
      rw [show k0_off16 k 2#32 = ![0, 132 * k.val + 33 * 2, 0] from k0_off16_eq k 2]
      congr 2
      show 132 * k.val + 33 * 2 = 33 * (4 * k.val + 2); omega
    refine ((id60 _ r l).trans (ld17 (h := h) (off := k0_off16 k 2#32) (n := 0) (ch := ⟨4 * k.val + 2, by omega⟩) (ho := hl) (r := r) (l := l) (inb := _))).trans
      (congrArg (Tt x0 x1 x2 x3 x4 x5 v0 tI tJ 0) (Rect.emb_eq_of_coords _ _ _ ?_).symm)
    have ho : k0_off17 k 2#32 = ![0, (4 * k.val + 2), 0, 0] := k0_off17_eq k 2
    intro (a : Fin 4)
    fin_cases a
    · show 0 = k0_off17 k 2#32 0 + 1 * 0
      rw [ho]; show 0 = 0 + 1 * 0; omega
    · show 4 * k.val + 2 = k0_off17 k 2#32 1 + 1 * 0
      rw [ho]; show 4 * k.val + 2 = (4 * k.val + 2) + 1 * 0; omega
    · show r.val = k0_off17 k 2#32 2 + 1 * r.val
      rw [ho]; show r.val = 0 + 1 * r.val; omega
    · show 128 * 0 + l.val = k0_off17 k 2#32 3 + 1 * l.val
      rw [ho]; show 128 * 0 + l.val = 0 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off16 k 1#32 = ![((0 : Fin 3)).val, 33 * (⟨4 * k.val + 1, by omega⟩ : Fin 96).val, 0] := by
      rw [show k0_off16 k 1#32 = ![0, 132 * k.val + 33 * 1, 0] from k0_off16_eq k 1]
      congr 2
      show 132 * k.val + 33 * 1 = 33 * (4 * k.val + 1); omega
    refine ((id58 _ r l).trans (ld17 (h := h) (off := k0_off16 k 1#32) (n := 0) (ch := ⟨4 * k.val + 1, by omega⟩) (ho := hl) (r := r) (l := l) (inb := _))).trans
      (congrArg (Tt x0 x1 x2 x3 x4 x5 v0 tI tJ 0) (Rect.emb_eq_of_coords _ _ _ ?_).symm)
    have ho : k0_off17 k 1#32 = ![0, (4 * k.val + 1), 0, 0] := k0_off17_eq k 1
    intro (a : Fin 4)
    fin_cases a
    · show 0 = k0_off17 k 1#32 0 + 1 * 0
      rw [ho]; show 0 = 0 + 1 * 0; omega
    · show 4 * k.val + 1 = k0_off17 k 1#32 1 + 1 * 0
      rw [ho]; show 4 * k.val + 1 = (4 * k.val + 1) + 1 * 0; omega
    · show r.val = k0_off17 k 1#32 2 + 1 * r.val
      rw [ho]; show r.val = 0 + 1 * r.val; omega
    · show 128 * 0 + l.val = k0_off17 k 1#32 3 + 1 * l.val
      rw [ho]; show 128 * 0 + l.val = 0 + 1 * l.val; omega
  obtain rfl := List.mem_singleton.1 hp
  clear hp
  revert x; show ∀ x : S1x1x32x128.Idx, _
  intro x
  obtain ⟨r, l, rfl⟩ : ∃ (r : Fin 32) (l : Fin 128), x = ix4 (0 : Fin 1) (0 : Fin 1) r l := ⟨x 2, x 3, by idx_ext⟩
  have hl : k0_off16 k 0#32 = ![((0 : Fin 3)).val, 33 * (⟨4 * k.val + 0, by omega⟩ : Fin 96).val, 0] := by
    rw [show k0_off16 k 0#32 = ![0, 132 * k.val + 33 * 0, 0] from k0_off16_eq k 0]
    congr 2
    show 132 * k.val + 33 * 0 = 33 * (4 * k.val + 0); omega
  refine ((id57 _ r l).trans (ld17 (h := h) (off := k0_off16 k 0#32) (n := 0) (ch := ⟨4 * k.val + 0, by omega⟩) (ho := hl) (r := r) (l := l) (inb := _))).trans
    (congrArg (Tt x0 x1 x2 x3 x4 x5 v0 tI tJ 0) (Rect.emb_eq_of_coords _ _ _ ?_).symm)
  have ho : k0_off17 k 0#32 = ![0, (4 * k.val + 0), 0, 0] := k0_off17_eq k 0
  intro (a : Fin 4)
  fin_cases a
  · show 0 = k0_off17 k 0#32 0 + 1 * 0
    rw [ho]; show 0 = 0 + 1 * 0; omega
  · show 4 * k.val + 0 = k0_off17 k 0#32 1 + 1 * 0
    rw [ho]; show 4 * k.val + 0 = (4 * k.val + 0) + 1 * 0; omega
  · show r.val = k0_off17 k 0#32 2 + 1 * r.val
    rw [ho]; show r.val = 0 + 1 * r.val; omega
  · show 128 * 0 + l.val = k0_off17 k 0#32 3 + 1 * l.val
    rw [ho]; show 128 * 0 + l.val = 0 + 1 * l.val; omega

theorem cov2_a (ch : Fin 96) (r : Fin 32) (j : Fin 384) (h : ch.val / 4 = k.val) :
    ∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k).1, (ix4 0 ch r j : S1x96x32x384.Idx) ∈ p.1.set := by
  unfold tripL_k0_t2 trip_k0_t2
  dsimp only
  have hj : j.val / 128 = 0 ∨ j.val / 128 = 1 ∨ j.val / 128 = 2 := by omega
  have hc : ch.val % 4 = 0 ∨ ch.val % 4 = 1 ∨ ch.val % 4 = 2 ∨ ch.val % 4 = 3 := by omega
  rcases hj with hj | hj | hj
  · rcases hc with hc | hc | hc | hc
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      have ho : k0_off17 k 0#32 = ![0, (4 * k.val + 0), 0, 0] := k0_off17_eq k 0
      refine (LoadRect.mem_set _).2 fun (a : Fin 4) => ?_
      fin_cases a
      · refine ⟨0, by show 0 < 1; omega, ?_⟩
        show 0 = k0_off17 k 0#32 0 + 1 * 0
        rw [ho]; show 0 = 0 + 1 * 0; omega
      · refine ⟨0, by show 0 < 1; omega, ?_⟩
        show ch.val = k0_off17 k 0#32 1 + 1 * 0
        rw [ho]; show ch.val = (4 * k.val + 0) + 1 * 0; omega
      · refine ⟨r.val, by show r.val < 32; omega, ?_⟩
        show r.val = k0_off17 k 0#32 2 + 1 * r.val
        rw [ho]; show r.val = 0 + 1 * r.val; omega
      · refine ⟨(j.val - 0), by show (j.val - 0) < 128; omega, ?_⟩
        show j.val = k0_off17 k 0#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      have ho : k0_off17 k 1#32 = ![0, (4 * k.val + 1), 0, 0] := k0_off17_eq k 1
      refine (LoadRect.mem_set _).2 fun (a : Fin 4) => ?_
      fin_cases a
      · refine ⟨0, by show 0 < 1; omega, ?_⟩
        show 0 = k0_off17 k 1#32 0 + 1 * 0
        rw [ho]; show 0 = 0 + 1 * 0; omega
      · refine ⟨0, by show 0 < 1; omega, ?_⟩
        show ch.val = k0_off17 k 1#32 1 + 1 * 0
        rw [ho]; show ch.val = (4 * k.val + 1) + 1 * 0; omega
      · refine ⟨r.val, by show r.val < 32; omega, ?_⟩
        show r.val = k0_off17 k 1#32 2 + 1 * r.val
        rw [ho]; show r.val = 0 + 1 * r.val; omega
      · refine ⟨(j.val - 0), by show (j.val - 0) < 128; omega, ?_⟩
        show j.val = k0_off17 k 1#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      have ho : k0_off17 k 2#32 = ![0, (4 * k.val + 2), 0, 0] := k0_off17_eq k 2
      refine (LoadRect.mem_set _).2 fun (a : Fin 4) => ?_
      fin_cases a
      · refine ⟨0, by show 0 < 1; omega, ?_⟩
        show 0 = k0_off17 k 2#32 0 + 1 * 0
        rw [ho]; show 0 = 0 + 1 * 0; omega
      · refine ⟨0, by show 0 < 1; omega, ?_⟩
        show ch.val = k0_off17 k 2#32 1 + 1 * 0
        rw [ho]; show ch.val = (4 * k.val + 2) + 1 * 0; omega
      · refine ⟨r.val, by show r.val < 32; omega, ?_⟩
        show r.val = k0_off17 k 2#32 2 + 1 * r.val
        rw [ho]; show r.val = 0 + 1 * r.val; omega
      · refine ⟨(j.val - 0), by show (j.val - 0) < 128; omega, ?_⟩
        show j.val = k0_off17 k 2#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      have ho : k0_off17 k 3#32 = ![0, (4 * k.val + 3), 0, 0] := k0_off17_eq k 3
      refine (LoadRect.mem_set _).2 fun (a : Fin 4) => ?_
      fin_cases a
      · refine ⟨0, by show 0 < 1; omega, ?_⟩
        show 0 = k0_off17 k 3#32 0 + 1 * 0
        rw [ho]; show 0 = 0 + 1 * 0; omega
      · refine ⟨0, by show 0 < 1; omega, ?_⟩
        show ch.val = k0_off17 k 3#32 1 + 1 * 0
        rw [ho]; show ch.val = (4 * k.val + 3) + 1 * 0; omega
      · refine ⟨r.val, by show r.val < 32; omega, ?_⟩
        show r.val = k0_off17 k 3#32 2 + 1 * r.val
        rw [ho]; show r.val = 0 + 1 * r.val; omega
      · refine ⟨(j.val - 0), by show (j.val - 0) < 128; omega, ?_⟩
        show j.val = k0_off17 k 3#32 3 + 1 * (j.val - 0)
        rw [ho]; show j.val = 0 + 1 * (j.val - 0); omega
  · rcases hc with hc | hc | hc | hc
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      have ho : k0_off19 k 0#32 = ![0, (4 * k.val + 0), 0, 128] := k0_off19_eq k 0
      refine (LoadRect.mem_set _).2 fun (a : Fin 4) => ?_
      fin_cases a
      · refine ⟨0, by show 0 < 1; omega, ?_⟩
        show 0 = k0_off19 k 0#32 0 + 1 * 0
        rw [ho]; show 0 = 0 + 1 * 0; omega
      · refine ⟨0, by show 0 < 1; omega, ?_⟩
        show ch.val = k0_off19 k 0#32 1 + 1 * 0
        rw [ho]; show ch.val = (4 * k.val + 0) + 1 * 0; omega
      · refine ⟨r.val, by show r.val < 32; omega, ?_⟩
        show r.val = k0_off19 k 0#32 2 + 1 * r.val
        rw [ho]; show r.val = 0 + 1 * r.val; omega
      · refine ⟨(j.val - 128), by show (j.val - 128) < 128; omega, ?_⟩
        show j.val = k0_off19 k 0#32 3 + 1 * (j.val - 128)
        rw [ho]; show j.val = 128 + 1 * (j.val - 128); omega
    · refine ⟨_, (List.mem_cons_of_mem _ (List.mem_cons_of_mem _ (List.mem_cons_of_mem _ (List.mem_cons_of_mem _ (List.mem_cons_of_mem _ (List.mem_cons_of_mem _ List.mem_cons_self)))))), ?_⟩
      have ho : k0_off19 k 1#32 = ![0, (4 * k.val + 1), 0, 128] := k0_off19_eq k 1
      refine (LoadRect.mem_set _).2 fun (a : Fin 4) => ?_
      fin_cases a
      · refine ⟨0, by show 0 < 1; omega, ?_⟩
        show 0 = k0_off19 k 1#32 0 + 1 * 0
        rw [ho]; show 0 = 0 + 1 * 0; omega
      · refine ⟨0, by show 0 < 1; omega, ?_⟩
        show ch.val = k0_off19 k 1#32 1 + 1 * 0
        rw [ho]; show ch.val = (4 * k.val + 1) + 1 * 0; omega
      · refine ⟨r.val, by show r.val < 32; omega, ?_⟩
        show r.val = k0_off19 k 1#32 2 + 1 * r.val
        rw [ho]; show r.val = 0 + 1 * r.val; omega
      · refine ⟨(j.val - 128), by show (j.val - 128) < 128; omega, ?_⟩
        show j.val = k0_off19 k 1#32 3 + 1 * (j.val - 128)
        rw [ho]; show j.val = 128 + 1 * (j.val - 128); omega
    · refine ⟨_, (List.mem_cons_of_mem _ (List.mem_cons_of_mem _ (List.mem_cons_of_mem _ (List.mem_cons_of_mem _ (List.mem_cons_of_mem _ List.mem_cons_self))))), ?_⟩
      have ho : k0_off19 k 2#32 = ![0, (4 * k.val + 2), 0, 128] := k0_off19_eq k 2
      refine (LoadRect.mem_set _).2 fun (a : Fin 4) => ?_
      fin_cases a
      · refine ⟨0, by show 0 < 1; omega, ?_⟩
        show 0 = k0_off19 k 2#32 0 + 1 * 0
        rw [ho]; show 0 = 0 + 1 * 0; omega
      · refine ⟨0, by show 0 < 1; omega, ?_⟩
        show ch.val = k0_off19 k 2#32 1 + 1 * 0
        rw [ho]; show ch.val = (4 * k.val + 2) + 1 * 0; omega
      · refine ⟨r.val, by show r.val < 32; omega, ?_⟩
        show r.val = k0_off19 k 2#32 2 + 1 * r.val
        rw [ho]; show r.val = 0 + 1 * r.val; omega
      · refine ⟨(j.val - 128), by show (j.val - 128) < 128; omega, ?_⟩
        show j.val = k0_off19 k 2#32 3 + 1 * (j.val - 128)
        rw [ho]; show j.val = 128 + 1 * (j.val - 128); omega
    · refine ⟨_, (List.mem_cons_of_mem _ (List.mem_cons_of_mem _ (List.mem_cons_of_mem _ (List.mem_cons_of_mem _ List.mem_cons_self)))), ?_⟩
      have ho : k0_off19 k 3#32 = ![0, (4 * k.val + 3), 0, 128] := k0_off19_eq k 3
      refine (LoadRect.mem_set _).2 fun (a : Fin 4) => ?_
      fin_cases a
      · refine ⟨0, by show 0 < 1; omega, ?_⟩
        show 0 = k0_off19 k 3#32 0 + 1 * 0
        rw [ho]; show 0 = 0 + 1 * 0; omega
      · refine ⟨0, by show 0 < 1; omega, ?_⟩
        show ch.val = k0_off19 k 3#32 1 + 1 * 0
        rw [ho]; show ch.val = (4 * k.val + 3) + 1 * 0; omega
      · refine ⟨r.val, by show r.val < 32; omega, ?_⟩
        show r.val = k0_off19 k 3#32 2 + 1 * r.val
        rw [ho]; show r.val = 0 + 1 * r.val; omega
      · refine ⟨(j.val - 128), by show (j.val - 128) < 128; omega, ?_⟩
        show j.val = k0_off19 k 3#32 3 + 1 * (j.val - 128)
        rw [ho]; show j.val = 128 + 1 * (j.val - 128); omega
  · rcases hc with hc | hc | hc | hc
    · refine ⟨_, (List.mem_cons_of_mem _ (List.mem_cons_of_mem _ (List.mem_cons_of_mem _ List.mem_cons_self))), ?_⟩
      have ho : k0_off21 k 0#32 = ![0, (4 * k.val + 0), 0, 256] := k0_off21_eq k 0
      refine (LoadRect.mem_set _).2 fun (a : Fin 4) => ?_
      fin_cases a
      · refine ⟨0, by show 0 < 1; omega, ?_⟩
        show 0 = k0_off21 k 0#32 0 + 1 * 0
        rw [ho]; show 0 = 0 + 1 * 0; omega
      · refine ⟨0, by show 0 < 1; omega, ?_⟩
        show ch.val = k0_off21 k 0#32 1 + 1 * 0
        rw [ho]; show ch.val = (4 * k.val + 0) + 1 * 0; omega
      · refine ⟨r.val, by show r.val < 32; omega, ?_⟩
        show r.val = k0_off21 k 0#32 2 + 1 * r.val
        rw [ho]; show r.val = 0 + 1 * r.val; omega
      · refine ⟨(j.val - 256), by show (j.val - 256) < 128; omega, ?_⟩
        show j.val = k0_off21 k 0#32 3 + 1 * (j.val - 256)
        rw [ho]; show j.val = 256 + 1 * (j.val - 256); omega
    · refine ⟨_, (List.mem_cons_of_mem _ (List.mem_cons_of_mem _ List.mem_cons_self)), ?_⟩
      have ho : k0_off21 k 1#32 = ![0, (4 * k.val + 1), 0, 256] := k0_off21_eq k 1
      refine (LoadRect.mem_set _).2 fun (a : Fin 4) => ?_
      fin_cases a
      · refine ⟨0, by show 0 < 1; omega, ?_⟩
        show 0 = k0_off21 k 1#32 0 + 1 * 0
        rw [ho]; show 0 = 0 + 1 * 0; omega
      · refine ⟨0, by show 0 < 1; omega, ?_⟩
        show ch.val = k0_off21 k 1#32 1 + 1 * 0
        rw [ho]; show ch.val = (4 * k.val + 1) + 1 * 0; omega
      · refine ⟨r.val, by show r.val < 32; omega, ?_⟩
        show r.val = k0_off21 k 1#32 2 + 1 * r.val
        rw [ho]; show r.val = 0 + 1 * r.val; omega
      · refine ⟨(j.val - 256), by show (j.val - 256) < 128; omega, ?_⟩
        show j.val = k0_off21 k 1#32 3 + 1 * (j.val - 256)
        rw [ho]; show j.val = 256 + 1 * (j.val - 256); omega
    · refine ⟨_, (List.mem_cons_of_mem _ List.mem_cons_self), ?_⟩
      have ho : k0_off21 k 2#32 = ![0, (4 * k.val + 2), 0, 256] := k0_off21_eq k 2
      refine (LoadRect.mem_set _).2 fun (a : Fin 4) => ?_
      fin_cases a
      · refine ⟨0, by show 0 < 1; omega, ?_⟩
        show 0 = k0_off21 k 2#32 0 + 1 * 0
        rw [ho]; show 0 = 0 + 1 * 0; omega
      · refine ⟨0, by show 0 < 1; omega, ?_⟩
        show ch.val = k0_off21 k 2#32 1 + 1 * 0
        rw [ho]; show ch.val = (4 * k.val + 2) + 1 * 0; omega
      · refine ⟨r.val, by show r.val < 32; omega, ?_⟩
        show r.val = k0_off21 k 2#32 2 + 1 * r.val
        rw [ho]; show r.val = 0 + 1 * r.val; omega
      · refine ⟨(j.val - 256), by show (j.val - 256) < 128; omega, ?_⟩
        show j.val = k0_off21 k 2#32 3 + 1 * (j.val - 256)
        rw [ho]; show j.val = 256 + 1 * (j.val - 256); omega
    · refine ⟨_, List.mem_cons_self, ?_⟩
      have ho : k0_off21 k 3#32 = ![0, (4 * k.val + 3), 0, 256] := k0_off21_eq k 3
      refine (LoadRect.mem_set _).2 fun (a : Fin 4) => ?_
      fin_cases a
      · refine ⟨0, by show 0 < 1; omega, ?_⟩
        show 0 = k0_off21 k 3#32 0 + 1 * 0
        rw [ho]; show 0 = 0 + 1 * 0; omega
      · refine ⟨0, by show 0 < 1; omega, ?_⟩
        show ch.val = k0_off21 k 3#32 1 + 1 * 0
        rw [ho]; show ch.val = (4 * k.val + 3) + 1 * 0; omega
      · refine ⟨r.val, by show r.val < 32; omega, ?_⟩
        show r.val = k0_off21 k 3#32 2 + 1 * r.val
        rw [ho]; show r.val = 0 + 1 * r.val; omega
      · refine ⟨(j.val - 256), by show (j.val - 256) < 128; omega, ?_⟩
        show j.val = k0_off21 k 3#32 3 + 1 * (j.val - 256)
        rw [ho]; show j.val = 256 + 1 * (j.val - 256); omega

theorem ld18 (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (h : ∀ (n : Fin 3) (ch : Fin 96) (r : Fin 32) (l : Fin 128), arg18.view.read (Elt Ideal) X_arg18 (ix3 n ⟨33 * ch.val + r.val, by omega⟩ l)
      = qK x0 x1 x2 x3 x4 x5 v0 tI tJ 1 r ⟨128 * n.val + l.val, by omega⟩ ch)
    (off : Fin 3 → Nat) (inb) (n : Fin 3) (ch : Fin 96) (ho : off = ![n.val, 33 * ch.val, 0]) (r : Fin 32) (l : Fin 128) :
    View.readAt (Elt Ideal) arg18.view (Rect.unit (s := S3x3168x128) off S1x32x128.size inb).toLoadRect X_arg18 (ix3 0 r l)
      = Tt x0 x1 x2 x3 x4 x5 v0 tI tJ 1 (ix4 0 ch r ⟨128 * n.val + l.val, by omega⟩) := by
  subst ho
  rw [View.readAt_eq_ld, View.ld_apply]
  refine Eq.trans (congrArg _ (funext fun (a : Fin 3) => Fin.ext ?_)) (h n ch r l)
  fin_cases a
  · show n.val + 1 * 0 = n.val; omega
  · show 33 * ch.val + 1 * r.val = 33 * ch.val + r.val; omega
  · show 0 + 1 * l.val = l.val; omega

theorem trip2_b (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (h : ∀ (n : Fin 3) (ch : Fin 96) (r : Fin 32) (l : Fin 128), arg18.view.read (Elt Ideal) X_arg18 (ix3 n ⟨33 * ch.val + r.val, by omega⟩ l)
      = qK x0 x1 x2 x3 x4 x5 v0 tI tJ 1 r ⟨128 * n.val + l.val, by omega⟩ ch) :
    ∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k).2, ∀ x : p.1.shape.Idx, p.2 x = Tt x0 x1 x2 x3 x4 x5 v0 tI tJ 1 (p.1.emb x) := by
  unfold tripL_k0_t2 trip_k0_t2
  dsimp only
  intro p hp x
  have hk := Nat.lt_of_lt_of_le k.isLt k0_t2_abs.2.1
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 3#32 = ![((2 : Fin 3)).val, 33 * (⟨4 * k.val + 3, by omega⟩ : Fin 96).val, 0] := by
      rw [show k0_off20 k 3#32 = ![2, 132 * k.val + 33 * 3, 0] from k0_off20_eq k 3]
      congr 2
      show 132 * k.val + 33 * 3 = 33 * (4 * k.val + 3); omega
    refine ((id3 _ r l).trans (ld18 (h := h) (off := k0_off20 k 3#32) (n := 2) (ch := ⟨4 * k.val + 3, by omega⟩) (ho := hl) (r := r) (l := l) (inb := _))).trans
      (congrArg (Tt x0 x1 x2 x3 x4 x5 v0 tI tJ 1) (Rect.emb_eq_of_coords _ _ _ ?_).symm)
    have ho : k0_off21 k 3#32 = ![0, (4 * k.val + 3), 0, 256] := k0_off21_eq k 3
    intro (a : Fin 4)
    fin_cases a
    · show 0 = k0_off21 k 3#32 0 + 1 * 0
      rw [ho]; show 0 = 0 + 1 * 0; omega
    · show 4 * k.val + 3 = k0_off21 k 3#32 1 + 1 * 0
      rw [ho]; show 4 * k.val + 3 = (4 * k.val + 3) + 1 * 0; omega
    · show r.val = k0_off21 k 3#32 2 + 1 * r.val
      rw [ho]; show r.val = 0 + 1 * r.val; omega
    · show 128 * 2 + l.val = k0_off21 k 3#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_8
    have hl : k0_off20 k 2#32 = ![((2 : Fin 3)).val, 33 * (⟨4 * k.val + 2, by omega⟩ : Fin 96).val, 0] := by
      rw [show k0_off20 k 2#32 = ![2, 132 * k.val + 33 * 2, 0] from k0_off20_eq k 2]
      congr 2
      show 132 * k.val + 33 * 2 = 33 * (4 * k.val + 2); omega
    refine ((id2 _ r l).trans (ld18 (h := h) (off := k0_off20 k 2#32) (n := 2) (ch := ⟨4 * k.val + 2, by omega⟩) (ho := hl) (r := r) (l := l) (inb := _))).trans
      (congrArg (Tt x0 x1 x2 x3 x4 x5 v0 tI tJ 1) (Rect.emb_eq_of_coords _ _ _ ?_).symm)
    have ho : k0_off21 k 2#32 = ![0, (4 * k.val + 2), 0, 256] := k0_off21_eq k 2
    intro (a : Fin 4)
    fin_cases a
    · show 0 = k0_off21 k 2#32 0 + 1 * 0
      rw [ho]; show 0 = 0 + 1 * 0; omega
    · show 4 * k.val + 2 = k0_off21 k 2#32 1 + 1 * 0
      rw [ho]; show 4 * k.val + 2 = (4 * k.val + 2) + 1 * 0; omega
    · show r.val = k0_off21 k 2#32 2 + 1 * r.val
      rw [ho]; show r.val = 0 + 1 * r.val; omega
    · show 128 * 2 + l.val = k0_off21 k 2#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 1#32 = ![((2 : Fin 3)).val, 33 * (⟨4 * k.val + 1, by omega⟩ : Fin 96).val, 0] := by
      rw [show k0_off20 k 1#32 = ![2, 132 * k.val + 33 * 1, 0] from k0_off20_eq k 1]
      congr 2
      show 132 * k.val + 33 * 1 = 33 * (4 * k.val + 1); omega
    refine ((id82 _ r l).trans (ld18 (h := h) (off := k0_off20 k 1#32) (n := 2) (ch := ⟨4 * k.val + 1, by omega⟩) (ho := hl) (r := r) (l := l) (inb := _))).trans
      (congrArg (Tt x0 x1 x2 x3 x4 x5 v0 tI tJ 1) (Rect.emb_eq_of_coords _ _ _ ?_).symm)
    have ho : k0_off21 k 1#32 = ![0, (4 * k.val + 1), 0, 256] := k0_off21_eq k 1
    intro (a : Fin 4)
    fin_cases a
    · show 0 = k0_off21 k 1#32 0 + 1 * 0
      rw [ho]; show 0 = 0 + 1 * 0; omega
    · show 4 * k.val + 1 = k0_off21 k 1#32 1 + 1 * 0
      rw [ho]; show 4 * k.val + 1 = (4 * k.val + 1) + 1 * 0; omega
    · show r.val = k0_off21 k 1#32 2 + 1 * r.val
      rw [ho]; show r.val = 0 + 1 * r.val; omega
    · show 128 * 2 + l.val = k0_off21 k 1#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off20 k 0#32 = ![((2 : Fin 3)).val, 33 * (⟨4 * k.val + 0, by omega⟩ : Fin 96).val, 0] := by
      rw [show k0_off20 k 0#32 = ![2, 132 * k.val + 33 * 0, 0] from k0_off20_eq k 0]
      congr 2
      show 132 * k.val + 33 * 0 = 33 * (4 * k.val + 0); omega
    refine ((id81 _ r l).trans (ld18 (h := h) (off := k0_off20 k 0#32) (n := 2) (ch := ⟨4 * k.val + 0, by omega⟩) (ho := hl) (r := r) (l := l) (inb := _))).trans
      (congrArg (Tt x0 x1 x2 x3 x4 x5 v0 tI tJ 1) (Rect.emb_eq_of_coords _ _ _ ?_).symm)
    have ho : k0_off21 k 0#32 = ![0, (4 * k.val + 0), 0, 256] := k0_off21_eq k 0
    intro (a : Fin 4)
    fin_cases a
    · show 0 = k0_off21 k 0#32 0 + 1 * 0
      rw [ho]; show 0 = 0 + 1 * 0; omega
    · show 4 * k.val + 0 = k0_off21 k 0#32 1 + 1 * 0
      rw [ho]; show 4 * k.val + 0 = (4 * k.val + 0) + 1 * 0; omega
    · show r.val = k0_off21 k 0#32 2 + 1 * r.val
      rw [ho]; show r.val = 0 + 1 * r.val; omega
    · show 128 * 2 + l.val = k0_off21 k 0#32 3 + 1 * l.val
      rw [ho]; show 128 * 2 + l.val = 256 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_7
    have hl : k0_off18 k 3#32 = ![((1 : Fin 3)).val, 33 * (⟨4 * k.val + 3, by omega⟩ : Fin 96).val, 0] := by
      rw [show k0_off18 k 3#32 = ![1, 132 * k.val + 33 * 3, 0] from k0_off18_eq k 3]
      congr 2
      show 132 * k.val + 33 * 3 = 33 * (4 * k.val + 3); omega
    refine ((id80 _ r l).trans (ld18 (h := h) (off := k0_off18 k 3#32) (n := 1) (ch := ⟨4 * k.val + 3, by omega⟩) (ho := hl) (r := r) (l := l) (inb := _))).trans
      (congrArg (Tt x0 x1 x2 x3 x4 x5 v0 tI tJ 1) (Rect.emb_eq_of_coords _ _ _ ?_).symm)
    have ho : k0_off19 k 3#32 = ![0, (4 * k.val + 3), 0, 128] := k0_off19_eq k 3
    intro (a : Fin 4)
    fin_cases a
    · show 0 = k0_off19 k 3#32 0 + 1 * 0
      rw [ho]; show 0 = 0 + 1 * 0; omega
    · show 4 * k.val + 3 = k0_off19 k 3#32 1 + 1 * 0
      rw [ho]; show 4 * k.val + 3 = (4 * k.val + 3) + 1 * 0; omega
    · show r.val = k0_off19 k 3#32 2 + 1 * r.val
      rw [ho]; show r.val = 0 + 1 * r.val; omega
    · show 128 * 1 + l.val = k0_off19 k 3#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off18 k 2#32 = ![((1 : Fin 3)).val, 33 * (⟨4 * k.val + 2, by omega⟩ : Fin 96).val, 0] := by
      rw [show k0_off18 k 2#32 = ![1, 132 * k.val + 33 * 2, 0] from k0_off18_eq k 2]
      congr 2
      show 132 * k.val + 33 * 2 = 33 * (4 * k.val + 2); omega
    refine ((id79 _ r l).trans (ld18 (h := h) (off := k0_off18 k 2#32) (n := 1) (ch := ⟨4 * k.val + 2, by omega⟩) (ho := hl) (r := r) (l := l) (inb := _))).trans
      (congrArg (Tt x0 x1 x2 x3 x4 x5 v0 tI tJ 1) (Rect.emb_eq_of_coords _ _ _ ?_).symm)
    have ho : k0_off19 k 2#32 = ![0, (4 * k.val + 2), 0, 128] := k0_off19_eq k 2
    intro (a : Fin 4)
    fin_cases a
    · show 0 = k0_off19 k 2#32 0 + 1 * 0
      rw [ho]; show 0 = 0 + 1 * 0; omega
    · show 4 * k.val + 2 = k0_off19 k 2#32 1 + 1 * 0
      rw [ho]; show 4 * k.val + 2 = (4 * k.val + 2) + 1 * 0; omega
    · show r.val = k0_off19 k 2#32 2 + 1 * r.val
      rw [ho]; show r.val = 0 + 1 * r.val; omega
    · show 128 * 1 + l.val = k0_off19 k 2#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_6
    have hl : k0_off18 k 1#32 = ![((1 : Fin 3)).val, 33 * (⟨4 * k.val + 1, by omega⟩ : Fin 96).val, 0] := by
      rw [show k0_off18 k 1#32 = ![1, 132 * k.val + 33 * 1, 0] from k0_off18_eq k 1]
      congr 2
      show 132 * k.val + 33 * 1 = 33 * (4 * k.val + 1); omega
    refine ((id78 _ r l).trans (ld18 (h := h) (off := k0_off18 k 1#32) (n := 1) (ch := ⟨4 * k.val + 1, by omega⟩) (ho := hl) (r := r) (l := l) (inb := _))).trans
      (congrArg (Tt x0 x1 x2 x3 x4 x5 v0 tI tJ 1) (Rect.emb_eq_of_coords _ _ _ ?_).symm)
    have ho : k0_off19 k 1#32 = ![0, (4 * k.val + 1), 0, 128] := k0_off19_eq k 1
    intro (a : Fin 4)
    fin_cases a
    · show 0 = k0_off19 k 1#32 0 + 1 * 0
      rw [ho]; show 0 = 0 + 1 * 0; omega
    · show 4 * k.val + 1 = k0_off19 k 1#32 1 + 1 * 0
      rw [ho]; show 4 * k.val + 1 = (4 * k.val + 1) + 1 * 0; omega
    · show r.val = k0_off19 k 1#32 2 + 1 * r.val
      rw [ho]; show r.val = 0 + 1 * r.val; omega
    · show 128 * 1 + l.val = k0_off19 k 1#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off18 k 0#32 = ![((1 : Fin 3)).val, 33 * (⟨4 * k.val + 0, by omega⟩ : Fin 96).val, 0] := by
      rw [show k0_off18 k 0#32 = ![1, 132 * k.val + 33 * 0, 0] from k0_off18_eq k 0]
      congr 2
      show 132 * k.val + 33 * 0 = 33 * (4 * k.val + 0); omega
    refine ((id76 _ r l).trans (ld18 (h := h) (off := k0_off18 k 0#32) (n := 1) (ch := ⟨4 * k.val + 0, by omega⟩) (ho := hl) (r := r) (l := l) (inb := _))).trans
      (congrArg (Tt x0 x1 x2 x3 x4 x5 v0 tI tJ 1) (Rect.emb_eq_of_coords _ _ _ ?_).symm)
    have ho : k0_off19 k 0#32 = ![0, (4 * k.val + 0), 0, 128] := k0_off19_eq k 0
    intro (a : Fin 4)
    fin_cases a
    · show 0 = k0_off19 k 0#32 0 + 1 * 0
      rw [ho]; show 0 = 0 + 1 * 0; omega
    · show 4 * k.val + 0 = k0_off19 k 0#32 1 + 1 * 0
      rw [ho]; show 4 * k.val + 0 = (4 * k.val + 0) + 1 * 0; omega
    · show r.val = k0_off19 k 0#32 2 + 1 * r.val
      rw [ho]; show r.val = 0 + 1 * r.val; omega
    · show 128 * 1 + l.val = k0_off19 k 0#32 3 + 1 * l.val
      rw [ho]; show 128 * 1 + l.val = 128 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off16 k 3#32 = ![((0 : Fin 3)).val, 33 * (⟨4 * k.val + 3, by omega⟩ : Fin 96).val, 0] := by
      rw [show k0_off16 k 3#32 = ![0, 132 * k.val + 33 * 3, 0] from k0_off16_eq k 3]
      congr 2
      show 132 * k.val + 33 * 3 = 33 * (4 * k.val + 3); omega
    refine ((id75 _ r l).trans (ld18 (h := h) (off := k0_off16 k 3#32) (n := 0) (ch := ⟨4 * k.val + 3, by omega⟩) (ho := hl) (r := r) (l := l) (inb := _))).trans
      (congrArg (Tt x0 x1 x2 x3 x4 x5 v0 tI tJ 1) (Rect.emb_eq_of_coords _ _ _ ?_).symm)
    have ho : k0_off17 k 3#32 = ![0, (4 * k.val + 3), 0, 0] := k0_off17_eq k 3
    intro (a : Fin 4)
    fin_cases a
    · show 0 = k0_off17 k 3#32 0 + 1 * 0
      rw [ho]; show 0 = 0 + 1 * 0; omega
    · show 4 * k.val + 3 = k0_off17 k 3#32 1 + 1 * 0
      rw [ho]; show 4 * k.val + 3 = (4 * k.val + 3) + 1 * 0; omega
    · show r.val = k0_off17 k 3#32 2 + 1 * r.val
      rw [ho]; show r.val = 0 + 1 * r.val; omega
    · show 128 * 0 + l.val = k0_off17 k 3#32 3 + 1 * l.val
      rw [ho]; show 128 * 0 + l.val = 0 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    unfold trip_k0_t2.sl.r_5
    have hl : k0_off16 k 2#32 = ![((0 : Fin 3)).val, 33 * (⟨4 * k.val + 2, by omega⟩ : Fin 96).val, 0] := by
      rw [show k0_off16 k 2#32 = ![0, 132 * k.val + 33 * 2, 0] from k0_off16_eq k 2]
      congr 2
      show 132 * k.val + 33 * 2 = 33 * (4 * k.val + 2); omega
    refine ((id74 _ r l).trans (ld18 (h := h) (off := k0_off16 k 2#32) (n := 0) (ch := ⟨4 * k.val + 2, by omega⟩) (ho := hl) (r := r) (l := l) (inb := _))).trans
      (congrArg (Tt x0 x1 x2 x3 x4 x5 v0 tI tJ 1) (Rect.emb_eq_of_coords _ _ _ ?_).symm)
    have ho : k0_off17 k 2#32 = ![0, (4 * k.val + 2), 0, 0] := k0_off17_eq k 2
    intro (a : Fin 4)
    fin_cases a
    · show 0 = k0_off17 k 2#32 0 + 1 * 0
      rw [ho]; show 0 = 0 + 1 * 0; omega
    · show 4 * k.val + 2 = k0_off17 k 2#32 1 + 1 * 0
      rw [ho]; show 4 * k.val + 2 = (4 * k.val + 2) + 1 * 0; omega
    · show r.val = k0_off17 k 2#32 2 + 1 * r.val
      rw [ho]; show r.val = 0 + 1 * r.val; omega
    · show 128 * 0 + l.val = k0_off17 k 2#32 3 + 1 * l.val
      rw [ho]; show 128 * 0 + l.val = 0 + 1 * l.val; omega
  rcases List.mem_cons.1 hp with rfl | hp
  · clear hp
    revert x; show ∀ x : S1x1x32x128.Idx, _
    intro x
    obtain ⟨r, l, rfl⟩ : ∃ (r : Fin 32) (l : Fin 128), x = ix4 (0 : Fin 1) (0 : Fin 1) r l := ⟨x 2, x 3, by idx_ext⟩
    have hl : k0_off16 k 1#32 = ![((0 : Fin 3)).val, 33 * (⟨4 * k.val + 1, by omega⟩ : Fin 96).val, 0] := by
      rw [show k0_off16 k 1#32 = ![0, 132 * k.val + 33 * 1, 0] from k0_off16_eq k 1]
      congr 2
      show 132 * k.val + 33 * 1 = 33 * (4 * k.val + 1); omega
    refine ((id73 _ r l).trans (ld18 (h := h) (off := k0_off16 k 1#32) (n := 0) (ch := ⟨4 * k.val + 1, by omega⟩) (ho := hl) (r := r) (l := l) (inb := _))).trans
      (congrArg (Tt x0 x1 x2 x3 x4 x5 v0 tI tJ 1) (Rect.emb_eq_of_coords _ _ _ ?_).symm)
    have ho : k0_off17 k 1#32 = ![0, (4 * k.val + 1), 0, 0] := k0_off17_eq k 1
    intro (a : Fin 4)
    fin_cases a
    · show 0 = k0_off17 k 1#32 0 + 1 * 0
      rw [ho]; show 0 = 0 + 1 * 0; omega
    · show 4 * k.val + 1 = k0_off17 k 1#32 1 + 1 * 0
      rw [ho]; show 4 * k.val + 1 = (4 * k.val + 1) + 1 * 0; omega
    · show r.val = k0_off17 k 1#32 2 + 1 * r.val
      rw [ho]; show r.val = 0 + 1 * r.val; omega
    · show 128 * 0 + l.val = k0_off17 k 1#32 3 + 1 * l.val
      rw [ho]; show 128 * 0 + l.val = 0 + 1 * l.val; omega
  obtain rfl := List.mem_singleton.1 hp
  clear hp
  revert x; show ∀ x : S1x1x32x128.Idx, _
  intro x
  obtain ⟨r, l, rfl⟩ : ∃ (r : Fin 32) (l : Fin 128), x = ix4 (0 : Fin 1) (0 : Fin 1) r l := ⟨x 2, x 3, by idx_ext⟩
  unfold trip_k0_t2.sl.r_4
  have hl : k0_off16 k 0#32 = ![((0 : Fin 3)).val, 33 * (⟨4 * k.val + 0, by omega⟩ : Fin 96).val, 0] := by
    rw [show k0_off16 k 0#32 = ![0, 132 * k.val + 33 * 0, 0] from k0_off16_eq k 0]
    congr 2
    show 132 * k.val + 33 * 0 = 33 * (4 * k.val + 0); omega
  refine ((id72 _ r l).trans (ld18 (h := h) (off := k0_off16 k 0#32) (n := 0) (ch := ⟨4 * k.val + 0, by omega⟩) (ho := hl) (r := r) (l := l) (inb := _))).trans
    (congrArg (Tt x0 x1 x2 x3 x4 x5 v0 tI tJ 1) (Rect.emb_eq_of_coords _ _ _ ?_).symm)
  have ho : k0_off17 k 0#32 = ![0, (4 * k.val + 0), 0, 0] := k0_off17_eq k 0
  intro (a : Fin 4)
  fin_cases a
  · show 0 = k0_off17 k 0#32 0 + 1 * 0
    rw [ho]; show 0 = 0 + 1 * 0; omega
  · show 4 * k.val + 0 = k0_off17 k 0#32 1 + 1 * 0
    rw [ho]; show 4 * k.val + 0 = (4 * k.val + 0) + 1 * 0; omega
  · show r.val = k0_off17 k 0#32 2 + 1 * r.val
    rw [ho]; show r.val = 0 + 1 * r.val; omega
  · show 128 * 0 + l.val = k0_off17 k 0#32 3 + 1 * l.val
    rw [ho]; show 128 * 0 + l.val = 0 + 1 * l.val; omega

theorem cov2_b (ch : Fin 96) (r : Fin 32) (j : Fin 384) (h : ch.val / 4 = k.val) :
    ∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k).2, (ix4 0 ch r j : S1x96x32x384.Idx) ∈ p.1.set := by
  unfold tripL_k0_t2 trip_k0_t2
  dsimp only
  have hj : j.val / 128 = 0 ∨ j.val / 128 = 1 ∨ j.val / 128 = 2 := by omega
  have hc : ch.val % 4 = 0 ∨ ch.val % 4 = 1 ∨ ch.val % 4 = 2 ∨ ch.val % 4 = 3 := by omega
  rcases hj with hj | hj | hj
  · rcases hc with hc | hc | hc | hc
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      have ho : k0_off17 k 0#32 = ![0, (4 * k.val + 0), 0, 0] := k0_off17_eq k 0
      refine (LoadRect.mem_set _).2 fun (a : Fin 4) => ?_
      fin_cases a
      · refine ⟨0, by show 0 < 1; omega, ?_⟩
        show 0 = k0_off17 k 0#32 0 + 1 * 0
        rw [ho]; show 0 = 0 + 1 * 0; omega
      · refine ⟨0, by show 0 < 1; omega, ?_⟩
        show ch.val = k0_off17 k 0#32 1 + 1 * 0
        rw [ho]; show ch.val = (4 * k.val + 0) + 1 * 0; omega
      · refine ⟨r.val, by show r.val < 32; omega, ?_⟩
        show r.val = k0_off17 k 0#32 2 + 1 * r.val
        rw [ho]; show r.val = 0 + 1 * r.val; omega
      · refine ⟨(j.val - 0), by show (j.val - 0) < 128; omega, ?_⟩
        show j.val = k0_off17 k 0#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      have ho : k0_off17 k 1#32 = ![0, (4 * k.val + 1), 0, 0] := k0_off17_eq k 1
      refine (LoadRect.mem_set _).2 fun (a : Fin 4) => ?_
      fin_cases a
      · refine ⟨0, by show 0 < 1; omega, ?_⟩
        show 0 = k0_off17 k 1#32 0 + 1 * 0
        rw [ho]; show 0 = 0 + 1 * 0; omega
      · refine ⟨0, by show 0 < 1; omega, ?_⟩
        show ch.val = k0_off17 k 1#32 1 + 1 * 0
        rw [ho]; show ch.val = (4 * k.val + 1) + 1 * 0; omega
      · refine ⟨r.val, by show r.val < 32; omega, ?_⟩
        show r.val = k0_off17 k 1#32 2 + 1 * r.val
        rw [ho]; show r.val = 0 + 1 * r.val; omega
      · refine ⟨(j.val - 0), by show (j.val - 0) < 128; omega, ?_⟩
        show j.val = k0_off17 k 1#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      have ho : k0_off17 k 2#32 = ![0, (4 * k.val + 2), 0, 0] := k0_off17_eq k 2
      refine (LoadRect.mem_set _).2 fun (a : Fin 4) => ?_
      fin_cases a
      · refine ⟨0, by show 0 < 1; omega, ?_⟩
        show 0 = k0_off17 k 2#32 0 + 1 * 0
        rw [ho]; show 0 = 0 + 1 * 0; omega
      · refine ⟨0, by show 0 < 1; omega, ?_⟩
        show ch.val = k0_off17 k 2#32 1 + 1 * 0
        rw [ho]; show ch.val = (4 * k.val + 2) + 1 * 0; omega
      · refine ⟨r.val, by show r.val < 32; omega, ?_⟩
        show r.val = k0_off17 k 2#32 2 + 1 * r.val
        rw [ho]; show r.val = 0 + 1 * r.val; omega
      · refine ⟨(j.val - 0), by show (j.val - 0) < 128; omega, ?_⟩
        show j.val = k0_off17 k 2#32 3 + 1 * (j.val - 0)
        rw [ho]; show j.val = 0 + 1 * (j.val - 0); omega
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      have ho : k0_off17 k 3#32 = ![0, (4 * k.val + 3), 0, 0] := k0_off17_eq k 3
      refine (LoadRect.mem_set _).2 fun (a : Fin 4) => ?_
      fin_cases a
      · refine ⟨0, by show 0 < 1; omega, ?_⟩
        show 0 = k0_off17 k 3#32 0 + 1 * 0
        rw [ho]; show 0 = 0 + 1 * 0; omega
      · refine ⟨0, by show 0 < 1; omega, ?_⟩
        show ch.val = k0_off17 k 3#32 1 + 1 * 0
        rw [ho]; show ch.val = (4 * k.val + 3) + 1 * 0; omega
      · refine ⟨r.val, by show r.val < 32; omega, ?_⟩
        show r.val = k0_off17 k 3#32 2 + 1 * r.val
        rw [ho]; show r.val = 0 + 1 * r.val; omega
      · refine ⟨(j.val - 0), by show (j.val - 0) < 128; omega, ?_⟩
        show j.val = k0_off17 k 3#32 3 + 1 * (j.val - 0)
        rw [ho]; show j.val = 0 + 1 * (j.val - 0); omega
  · rcases hc with hc | hc | hc | hc
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      have ho : k0_off19 k 0#32 = ![0, (4 * k.val + 0), 0, 128] := k0_off19_eq k 0
      refine (LoadRect.mem_set _).2 fun (a : Fin 4) => ?_
      fin_cases a
      · refine ⟨0, by show 0 < 1; omega, ?_⟩
        show 0 = k0_off19 k 0#32 0 + 1 * 0
        rw [ho]; show 0 = 0 + 1 * 0; omega
      · refine ⟨0, by show 0 < 1; omega, ?_⟩
        show ch.val = k0_off19 k 0#32 1 + 1 * 0
        rw [ho]; show ch.val = (4 * k.val + 0) + 1 * 0; omega
      · refine ⟨r.val, by show r.val < 32; omega, ?_⟩
        show r.val = k0_off19 k 0#32 2 + 1 * r.val
        rw [ho]; show r.val = 0 + 1 * r.val; omega
      · refine ⟨(j.val - 128), by show (j.val - 128) < 128; omega, ?_⟩
        show j.val = k0_off19 k 0#32 3 + 1 * (j.val - 128)
        rw [ho]; show j.val = 128 + 1 * (j.val - 128); omega
    · refine ⟨_, (List.mem_cons_of_mem _ (List.mem_cons_of_mem _ (List.mem_cons_of_mem _ (List.mem_cons_of_mem _ (List.mem_cons_of_mem _ (List.mem_cons_of_mem _ List.mem_cons_self)))))), ?_⟩
      have ho : k0_off19 k 1#32 = ![0, (4 * k.val + 1), 0, 128] := k0_off19_eq k 1
      refine (LoadRect.mem_set _).2 fun (a : Fin 4) => ?_
      fin_cases a
      · refine ⟨0, by show 0 < 1; omega, ?_⟩
        show 0 = k0_off19 k 1#32 0 + 1 * 0
        rw [ho]; show 0 = 0 + 1 * 0; omega
      · refine ⟨0, by show 0 < 1; omega, ?_⟩
        show ch.val = k0_off19 k 1#32 1 + 1 * 0
        rw [ho]; show ch.val = (4 * k.val + 1) + 1 * 0; omega
      · refine ⟨r.val, by show r.val < 32; omega, ?_⟩
        show r.val = k0_off19 k 1#32 2 + 1 * r.val
        rw [ho]; show r.val = 0 + 1 * r.val; omega
      · refine ⟨(j.val - 128), by show (j.val - 128) < 128; omega, ?_⟩
        show j.val = k0_off19 k 1#32 3 + 1 * (j.val - 128)
        rw [ho]; show j.val = 128 + 1 * (j.val - 128); omega
    · refine ⟨_, (List.mem_cons_of_mem _ (List.mem_cons_of_mem _ (List.mem_cons_of_mem _ (List.mem_cons_of_mem _ (List.mem_cons_of_mem _ List.mem_cons_self))))), ?_⟩
      have ho : k0_off19 k 2#32 = ![0, (4 * k.val + 2), 0, 128] := k0_off19_eq k 2
      refine (LoadRect.mem_set _).2 fun (a : Fin 4) => ?_
      fin_cases a
      · refine ⟨0, by show 0 < 1; omega, ?_⟩
        show 0 = k0_off19 k 2#32 0 + 1 * 0
        rw [ho]; show 0 = 0 + 1 * 0; omega
      · refine ⟨0, by show 0 < 1; omega, ?_⟩
        show ch.val = k0_off19 k 2#32 1 + 1 * 0
        rw [ho]; show ch.val = (4 * k.val + 2) + 1 * 0; omega
      · refine ⟨r.val, by show r.val < 32; omega, ?_⟩
        show r.val = k0_off19 k 2#32 2 + 1 * r.val
        rw [ho]; show r.val = 0 + 1 * r.val; omega
      · refine ⟨(j.val - 128), by show (j.val - 128) < 128; omega, ?_⟩
        show j.val = k0_off19 k 2#32 3 + 1 * (j.val - 128)
        rw [ho]; show j.val = 128 + 1 * (j.val - 128); omega
    · refine ⟨_, (List.mem_cons_of_mem _ (List.mem_cons_of_mem _ (List.mem_cons_of_mem _ (List.mem_cons_of_mem _ List.mem_cons_self)))), ?_⟩
      have ho : k0_off19 k 3#32 = ![0, (4 * k.val + 3), 0, 128] := k0_off19_eq k 3
      refine (LoadRect.mem_set _).2 fun (a : Fin 4) => ?_
      fin_cases a
      · refine ⟨0, by show 0 < 1; omega, ?_⟩
        show 0 = k0_off19 k 3#32 0 + 1 * 0
        rw [ho]; show 0 = 0 + 1 * 0; omega
      · refine ⟨0, by show 0 < 1; omega, ?_⟩
        show ch.val = k0_off19 k 3#32 1 + 1 * 0
        rw [ho]; show ch.val = (4 * k.val + 3) + 1 * 0; omega
      · refine ⟨r.val, by show r.val < 32; omega, ?_⟩
        show r.val = k0_off19 k 3#32 2 + 1 * r.val
        rw [ho]; show r.val = 0 + 1 * r.val; omega
      · refine ⟨(j.val - 128), by show (j.val - 128) < 128; omega, ?_⟩
        show j.val = k0_off19 k 3#32 3 + 1 * (j.val - 128)
        rw [ho]; show j.val = 128 + 1 * (j.val - 128); omega
  · rcases hc with hc | hc | hc | hc
    · refine ⟨_, (List.mem_cons_of_mem _ (List.mem_cons_of_mem _ (List.mem_cons_of_mem _ List.mem_cons_self))), ?_⟩
      have ho : k0_off21 k 0#32 = ![0, (4 * k.val + 0), 0, 256] := k0_off21_eq k 0
      refine (LoadRect.mem_set _).2 fun (a : Fin 4) => ?_
      fin_cases a
      · refine ⟨0, by show 0 < 1; omega, ?_⟩
        show 0 = k0_off21 k 0#32 0 + 1 * 0
        rw [ho]; show 0 = 0 + 1 * 0; omega
      · refine ⟨0, by show 0 < 1; omega, ?_⟩
        show ch.val = k0_off21 k 0#32 1 + 1 * 0
        rw [ho]; show ch.val = (4 * k.val + 0) + 1 * 0; omega
      · refine ⟨r.val, by show r.val < 32; omega, ?_⟩
        show r.val = k0_off21 k 0#32 2 + 1 * r.val
        rw [ho]; show r.val = 0 + 1 * r.val; omega
      · refine ⟨(j.val - 256), by show (j.val - 256) < 128; omega, ?_⟩
        show j.val = k0_off21 k 0#32 3 + 1 * (j.val - 256)
        rw [ho]; show j.val = 256 + 1 * (j.val - 256); omega
    · refine ⟨_, (List.mem_cons_of_mem _ (List.mem_cons_of_mem _ List.mem_cons_self)), ?_⟩
      have ho : k0_off21 k 1#32 = ![0, (4 * k.val + 1), 0, 256] := k0_off21_eq k 1
      refine (LoadRect.mem_set _).2 fun (a : Fin 4) => ?_
      fin_cases a
      · refine ⟨0, by show 0 < 1; omega, ?_⟩
        show 0 = k0_off21 k 1#32 0 + 1 * 0
        rw [ho]; show 0 = 0 + 1 * 0; omega
      · refine ⟨0, by show 0 < 1; omega, ?_⟩
        show ch.val = k0_off21 k 1#32 1 + 1 * 0
        rw [ho]; show ch.val = (4 * k.val + 1) + 1 * 0; omega
      · refine ⟨r.val, by show r.val < 32; omega, ?_⟩
        show r.val = k0_off21 k 1#32 2 + 1 * r.val
        rw [ho]; show r.val = 0 + 1 * r.val; omega
      · refine ⟨(j.val - 256), by show (j.val - 256) < 128; omega, ?_⟩
        show j.val = k0_off21 k 1#32 3 + 1 * (j.val - 256)
        rw [ho]; show j.val = 256 + 1 * (j.val - 256); omega
    · refine ⟨_, (List.mem_cons_of_mem _ List.mem_cons_self), ?_⟩
      have ho : k0_off21 k 2#32 = ![0, (4 * k.val + 2), 0, 256] := k0_off21_eq k 2
      refine (LoadRect.mem_set _).2 fun (a : Fin 4) => ?_
      fin_cases a
      · refine ⟨0, by show 0 < 1; omega, ?_⟩
        show 0 = k0_off21 k 2#32 0 + 1 * 0
        rw [ho]; show 0 = 0 + 1 * 0; omega
      · refine ⟨0, by show 0 < 1; omega, ?_⟩
        show ch.val = k0_off21 k 2#32 1 + 1 * 0
        rw [ho]; show ch.val = (4 * k.val + 2) + 1 * 0; omega
      · refine ⟨r.val, by show r.val < 32; omega, ?_⟩
        show r.val = k0_off21 k 2#32 2 + 1 * r.val
        rw [ho]; show r.val = 0 + 1 * r.val; omega
      · refine ⟨(j.val - 256), by show (j.val - 256) < 128; omega, ?_⟩
        show j.val = k0_off21 k 2#32 3 + 1 * (j.val - 256)
        rw [ho]; show j.val = 256 + 1 * (j.val - 256); omega
    · refine ⟨_, List.mem_cons_self, ?_⟩
      have ho : k0_off21 k 3#32 = ![0, (4 * k.val + 3), 0, 256] := k0_off21_eq k 3
      refine (LoadRect.mem_set _).2 fun (a : Fin 4) => ?_
      fin_cases a
      · refine ⟨0, by show 0 < 1; omega, ?_⟩
        show 0 = k0_off21 k 3#32 0 + 1 * 0
        rw [ho]; show 0 = 0 + 1 * 0; omega
      · refine ⟨0, by show 0 < 1; omega, ?_⟩
        show ch.val = k0_off21 k 3#32 1 + 1 * 0
        rw [ho]; show ch.val = (4 * k.val + 3) + 1 * 0; omega
      · refine ⟨r.val, by show r.val < 32; omega, ?_⟩
        show r.val = k0_off21 k 3#32 2 + 1 * r.val
        rw [ho]; show r.val = 0 + 1 * r.val; omega
      · refine ⟨(j.val - 256), by show (j.val - 256) < 128; omega, ?_⟩
        show j.val = k0_off21 k 3#32 3 + 1 * (j.val - 256)
        rw [ho]; show j.val = 256 + 1 * (j.val - 256); omega

end Second

end Cert.OperandsIdeal.OpVal

end
-- ==== Proof.OperandsReads.lean ====
/- What the buffers of the body hold after its two loops. -/
module

public import proofs.«01_k».proof.Proof.OperandsCover
public import Idealize.ShloMosaic.Lib.Pipeline.ValueKit
public import Idealize.ShloMosaic.Lib.VecWindow

@[expose] public section

set_option maxRecDepth 16384

noncomputable section

namespace Cert.OperandsIdeal.OpVal

open Cert.OperandsIdeal Cert.OperandsIdeal.Gen
open Idealize.ShloMosaic Idealize.ShloMosaic.TcCoe Idealize.SL.Sem

/-- What the pieces `P` of the trips before trip `n` hold: each agrees with the plain function of its buffer, and the
    rows before `2n` are covered; of the two buffers of scales, the lanes before `2n` are the scales. -/
structure Inv (arg19 : Memref sig .tc .vmem S96x128 .f32) (arg20 : Memref sig .tc .vmem S96x128 .f32)
    (G_arg19 : BufTy.Contents (Elt Ideal) arg19.view.ty) (G_arg20 : BufTy.Contents (Elt Ideal) arg20.view.ty)
    (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32) (n : Nat)
    (P : List (View.Piece (Elt Ideal) S1x32x384x128 .fp8e4m3) × List (View.Piece (Elt Ideal) S1x32x384 .f32) × List (View.Piece (Elt Ideal) S1x32x384x96 .fp8e4m3) × List (View.Piece (Elt Ideal) S1x32x384x96 .fp8e4m3) × List (View.Piece (Elt Ideal) S3x3168x128 .f32) × List (View.Piece (Elt Ideal) S3x3168x128 .f32) × List (View.Piece (Elt Ideal) S96x128 .f32) × List (View.Piece (Elt Ideal) S96x128 .f32)) : Prop where
  pln : ∀ p ∈ P.1, ∀ x : p.1.shape.Idx, p.2 x = (Tln x0 x1 x3 x4) (p.1.emb x)
  cln : ∀ (r : Fin 32) (j : Fin 384) (d : Fin 128), r.val < 2 * n → ∃ p ∈ P.1, (ix4 0 r j d : S1x32x384x128.Idx) ∈ p.1.set
  ps1 : ∀ p ∈ P.2.1, ∀ x : p.1.shape.Idx, p.2 x = (Ts1 x0 x1 x3 x4) (p.1.emb x)
  cs1 : ∀ (r : Fin 32) (j : Fin 384), r.val < 2 * n → ∃ p ∈ P.2.1, (ix3 0 r j : S1x32x384.Idx) ∈ p.1.set
  pqa : ∀ p ∈ P.2.2.1, ∀ x : p.1.shape.Idx, p.2 x = (Tq x0 x1 x2 x3 x4 x5 v0 tI tJ 0) (p.1.emb x)
  cqa : ∀ (r : Fin 32) (j : Fin 384) (ch : Fin 96), r.val < 2 * n → ∃ p ∈ P.2.2.1, (ix4 0 r j ch : S1x32x384x96.Idx) ∈ p.1.set
  pqb : ∀ p ∈ P.2.2.2.1, ∀ x : p.1.shape.Idx, p.2 x = (Tq x0 x1 x2 x3 x4 x5 v0 tI tJ 1) (p.1.emb x)
  cqb : ∀ (r : Fin 32) (j : Fin 384) (ch : Fin 96), r.val < 2 * n → ∃ p ∈ P.2.2.2.1, (ix4 0 r j ch : S1x32x384x96.Idx) ∈ p.1.set
  pwa : ∀ p ∈ P.2.2.2.2.1, ∀ x : p.1.shape.Idx, p.2 x = (Tw x0 x1 x2 x3 x4 x5 v0 tI tJ 0) (p.1.emb x)
  cwa : ∀ (q : Fin 3) (ch : Fin 96) (r : Fin 32) (l : Fin 128), r.val < 2 * n → ∃ p ∈ P.2.2.2.2.1, (ix3 q ⟨33 * ch.val + r.val, by omega⟩ l : S3x3168x128.Idx) ∈ p.1.set
  pwb : ∀ p ∈ P.2.2.2.2.2.1, ∀ x : p.1.shape.Idx, p.2 x = (Tw x0 x1 x2 x3 x4 x5 v0 tI tJ 1) (p.1.emb x)
  cwb : ∀ (q : Fin 3) (ch : Fin 96) (r : Fin 32) (l : Fin 128), r.val < 2 * n → ∃ p ∈ P.2.2.2.2.2.1, (ix3 q ⟨33 * ch.val + r.val, by omega⟩ l : S3x3168x128.Idx) ∈ p.1.set
  rsa : ∀ (ch : Fin 96) (l : Fin 128), l.val < 2 * n → arg19.view.read (Elt Ideal) (arg19.view.writes (Elt Ideal) G_arg19 P.2.2.2.2.2.2.1) (ix2 ch l) = scL x0 x1 x2 x3 x4 x5 v0 tI tJ 0 ch l
  rsb : ∀ (ch : Fin 96) (l : Fin 128), l.val < 2 * n → arg20.view.read (Elt Ideal) (arg20.view.writes (Elt Ideal) G_arg20 P.2.2.2.2.2.2.2) (ix2 ch l) = scL x0 x1 x2 x3 x4 x5 v0 tI tJ 1 ch l

theorem forall_append {α : Type} {Q : α → Prop} {L L' : List α} (h : ∀ p ∈ L, Q p) (h' : ∀ p ∈ L', Q p) : ∀ p ∈ L ++ L', Q p := by
  intro p hp
  rcases List.mem_append.1 hp with hp | hp
  · exact h p hp
  · exact h' p hp

theorem exists_left {α : Type} {Q : α → Prop} {L L' : List α} (h : ∃ p ∈ L, Q p) : ∃ p ∈ L ++ L', Q p := by
  obtain ⟨p, hp, h⟩ := h
  exact ⟨p, List.mem_append_left _ hp, h⟩

theorem exists_right {α : Type} {Q : α → Prop} {L L' : List α} (h : ∃ p ∈ L', Q p) : ∃ p ∈ L ++ L', Q p := by
  obtain ⟨p, hp, h⟩ := h
  exact ⟨p, List.mem_append_right _ hp, h⟩

theorem trips1 : k0_t1_loop.trips = 16 := by decide +kernel
theorem trips2 : k0_t2_loop.trips = 24 := by decide +kernel

section First

variable (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (arg0 : BitVec 32) (v0 : BitVec 32) (v4 : Elt Ideal .i32) (v10 : Elt Ideal .i32) (v16 : Elt Ideal .i32) (v22 : Elt Ideal .i32) (v27 : IVec S96x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
  (G_arg9 : BufTy.Contents (Elt Ideal) arg9.view.ty) (G_arg10 : BufTy.Contents (Elt Ideal) arg10.view.ty) (G_arg11 : BufTy.Contents (Elt Ideal) arg11.view.ty) (G_arg13 : BufTy.Contents (Elt Ideal) arg13.view.ty) (G_arg17 : BufTy.Contents (Elt Ideal) arg17.view.ty) (G_arg18 : BufTy.Contents (Elt Ideal) arg18.view.ty) (G_arg19 : BufTy.Contents (Elt Ideal) arg19.view.ty) (G_arg20 : BufTy.Contents (Elt Ideal) arg20.view.ty)

theorem inv_step (x0 : Vec Ideal S1x32x384x128 .bf16) (x1 : Vec Ideal S128x128 .bf16) (x2 : Vec Ideal S384x128 .fp8e4m3)
  (x3 x4 : Vec Ideal S128x128 .f32) (x5 : Vec Ideal S384x128 .f32)
  (h3 : arg3.view.read (Elt Ideal) X_arg3 = x0) (h4 : arg4.view.read (Elt Ideal) X_arg4 = x1) (h5 : arg5.view.read (Elt Ideal) X_arg5 = x2)
  (h6 : arg6.view.read (Elt Ideal) X_arg6 = x3) (h7 : arg7.view.read (Elt Ideal) X_arg7 = x4) (h8 : arg8.view.read (Elt Ideal) X_arg8 = x5)
  (h27 : ∀ (ch : Fin 96) (l : Fin 128), v27 (ix2 ch l) = BitVec.ofNat 32 l.val)
    (n : Nat) (hn : n < k0_t1_loop.trips) (P : List (View.Piece (Elt Ideal) S1x32x384x128 .fp8e4m3) × List (View.Piece (Elt Ideal) S1x32x384 .f32) × List (View.Piece (Elt Ideal) S1x32x384x96 .fp8e4m3) × List (View.Piece (Elt Ideal) S1x32x384x96 .fp8e4m3) × List (View.Piece (Elt Ideal) S3x3168x128 .f32) × List (View.Piece (Elt Ideal) S3x3168x128 .f32) × List (View.Piece (Elt Ideal) S96x128 .f32) × List (View.Piece (Elt Ideal) S96x128 .f32))
    (ih : Inv arg19 arg20 G_arg19 G_arg20 x0 x1 x2 x3 x4 x5 v0 (TI i arg2 X_arg2) (TJ v4 v10 v16 v22) n P) (T : List (View.Piece (Elt Ideal) S1x32x384x128 .fp8e4m3) × List (View.Piece (Elt Ideal) S1x32x384 .f32) × List (View.Piece (Elt Ideal) S1x32x384x96 .fp8e4m3) × List (View.Piece (Elt Ideal) S1x32x384x96 .fp8e4m3) × List (View.Piece (Elt Ideal) S3x3168x128 .f32) × List (View.Piece (Elt Ideal) S3x3168x128 .f32) × List (View.Piece (Elt Ideal) S96x128 .f32) × List (View.Piece (Elt Ideal) S96x128 .f32))
    (hT : T = tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2)) :
    Inv arg19 arg20 G_arg19 G_arg20 x0 x1 x2 x3 x4 x5 v0 (TI i arg2 X_arg2) (TJ v4 v10 v16 v22) (n + 1)
      (T.1 ++ P.1, T.2.1 ++ P.2.1, T.2.2.1 ++ P.2.2.1, T.2.2.2.1 ++ P.2.2.2.1, T.2.2.2.2.1 ++ P.2.2.2.2.1, T.2.2.2.2.2.1 ++ P.2.2.2.2.2.1, T.2.2.2.2.2.2.1 ++ P.2.2.2.2.2.2.1, T.2.2.2.2.2.2.2 ++ P.2.2.2.2.2.2.2) := by
  subst hT
  constructor
  · exact forall_append (trip_ln 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.pln
  · intro r j d h
    by_cases hr : r.val < 2 * n
    · exact exists_right (ih.cln r j d hr)
    · exact exists_left (cov_ln 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) r j d (by simp only; omega))
  · exact forall_append (trip_s1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.ps1
  · intro r j h
    by_cases hr : r.val < 2 * n
    · exact exists_right (ih.cs1 r j hr)
    · exact exists_left (cov_s1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) r j (by simp only; omega))
  · exact forall_append (trip_qa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.pqa
  · intro r j ch h
    by_cases hr : r.val < 2 * n
    · exact exists_right (ih.cqa r j ch hr)
    · exact exists_left (cov_qa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) r j ch (by simp only; omega))
  · exact forall_append (trip_qb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.pqb
  · intro r j ch h
    by_cases hr : r.val < 2 * n
    · exact exists_right (ih.cqb r j ch hr)
    · exact exists_left (cov_qb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) r j ch (by simp only; omega))
  · exact forall_append (trip_wa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.pwa
  · intro q ch r l h
    by_cases hr : r.val < 2 * n
    · exact exists_right (ih.cwa q ch r l hr)
    · exact exists_left (cov_wa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) q ch r l (by simp only; omega))
  · exact forall_append (trip_wb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8) ih.pwb
  · intro q ch r l h
    by_cases hr : r.val < 2 * n
    · exact exists_right (ih.cwb q ch r l hr)
    · exact exists_left (cov_wb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) q ch r l (by simp only; omega))
  · intro ch l h
    show arg19.view.read (Elt Ideal) (arg19.view.writes (Elt Ideal) G_arg19 (_ ++ _)) (ix2 ch l) = _
    rw [View.writes_append]
    exact trip_sa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8 h27 ch l (by simp only; omega) (fun h' => ih.rsa ch l h')
  · intro ch l h
    show arg20.view.read (Elt Ideal) (arg20.view.writes (Elt Ideal) G_arg20 (_ ++ _)) (ix2 ch l) = _
    rw [View.writes_append]
    exact trip_sb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 ⟨n, hn⟩ (arg9.view.writes (Elt Ideal) G_arg9 P.1) (arg10.view.writes (Elt Ideal) G_arg10 P.2.1) (arg11.view.writes (Elt Ideal) G_arg11 P.2.2.1) (arg13.view.writes (Elt Ideal) G_arg13 P.2.2.2.1) (arg17.view.writes (Elt Ideal) G_arg17 P.2.2.2.2.1) (arg18.view.writes (Elt Ideal) G_arg18 P.2.2.2.2.2.1) (arg19.view.writes (Elt Ideal) G_arg19 P.2.2.2.2.2.2.1) (arg20.view.writes (Elt Ideal) G_arg20 P.2.2.2.2.2.2.2) x0 x1 x2 x3 x4 x5 h3 h4 h5 h6 h7 h8 h27 ch l (by simp only; omega) (fun h' => ih.rsb ch l h')

theorem inv_all (x0 : Vec Ideal S1x32x384x128 .bf16) (x1 : Vec Ideal S128x128 .bf16) (x2 : Vec Ideal S384x128 .fp8e4m3)
  (x3 x4 : Vec Ideal S128x128 .f32) (x5 : Vec Ideal S384x128 .f32)
  (h3 : arg3.view.read (Elt Ideal) X_arg3 = x0) (h4 : arg4.view.read (Elt Ideal) X_arg4 = x1) (h5 : arg5.view.read (Elt Ideal) X_arg5 = x2)
  (h6 : arg6.view.read (Elt Ideal) X_arg6 = x3) (h7 : arg7.view.read (Elt Ideal) X_arg7 = x4) (h8 : arg8.view.read (Elt Ideal) X_arg8 = x5)
  (h27 : ∀ (ch : Fin 96) (l : Fin 128), v27 (ix2 ch l) = BitVec.ofNat 32 l.val) :
    ∀ n, n ≤ k0_t1_loop.trips → Inv arg19 arg20 G_arg19 G_arg20 x0 x1 x2 x3 x4 x5 v0 (TI i arg2 X_arg2) (TJ v4 v10 v16 v22) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 n) := by
  intro n
  induction n with
  | zero =>
    intro _
    rw [pb_k0_t1.eq_1]
    constructor <;> intros <;> first | (exact absurd ‹_ ∈ _› List.not_mem_nil) | (exfalso; omega)
  | succ n ih =>
    intro hn
    have hn' : n < k0_t1_loop.trips := hn
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 ⟨n, hn'⟩
    have ih := ih (Nat.le_of_lt hn')
    have s := inv_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v4 v10 v16 v22 v27 X_arg2 X_arg3 X_arg4 X_arg5 X_arg6 X_arg7 X_arg8 G_arg9 G_arg10 G_arg11 G_arg13 G_arg17 G_arg18 G_arg19 G_arg20 x0 x1 x2 x3 x4 x5 h3 h4 h5 h6 h7 h8 h27 n hn' _ ih _ rfl
    rw [show ((⟨n, hn'⟩ : Fin k0_t1_loop.trips).val + 1) = n + 1 from rfl] at e
    rw [e]
    exact s

end First

section Fin

variable (arg19 : Memref sig .tc .vmem S96x128 .f32) (arg20 : Memref sig .tc .vmem S96x128 .f32)
    (G_arg19 : BufTy.Contents (Elt Ideal) arg19.view.ty) (G_arg20 : BufTy.Contents (Elt Ideal) arg20.view.ty)
    (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32)
    (P : List (View.Piece (Elt Ideal) S1x32x384x128 .fp8e4m3) × List (View.Piece (Elt Ideal) S1x32x384 .f32) × List (View.Piece (Elt Ideal) S1x32x384x96 .fp8e4m3) × List (View.Piece (Elt Ideal) S1x32x384x96 .fp8e4m3) × List (View.Piece (Elt Ideal) S3x3168x128 .f32) × List (View.Piece (Elt Ideal) S3x3168x128 .f32) × List (View.Piece (Elt Ideal) S96x128 .f32) × List (View.Piece (Elt Ideal) S96x128 .f32)) (I : Inv arg19 arg20 G_arg19 G_arg20 x0 x1 x2 x3 x4 x5 v0 tI tJ k0_t1_loop.trips P)

include I

theorem end_ln (arg9 : Memref sig .tc .vmem S1x32x384x128 .fp8e4m3) (f : BufTy.Contents (Elt Ideal) arg9.view.ty) :
    arg9.view.read (Elt Ideal) (arg9.view.writes (Elt Ideal) f P.1) = (Tln x0 x1 x3 x4) := by
  funext y
  obtain ⟨r, j, d, rfl⟩ : ∃ (r : Fin 32) (j : Fin 384) (d : Fin 128), y = ix4 0 r j d := ⟨y 1, y 2, y 3, by idx_ext⟩
  exact View.read_writes_apply_of_pieces _ _ _ P.1 I.pln _ (I.cln r j d (by have := trips1; omega))

theorem end_s1 (arg10 : Memref sig .tc .vmem S1x32x384 .f32) (f : BufTy.Contents (Elt Ideal) arg10.view.ty) :
    arg10.view.read (Elt Ideal) (arg10.view.writes (Elt Ideal) f P.2.1) = (Ts1 x0 x1 x3 x4) := by
  funext y
  obtain ⟨r, j, rfl⟩ : ∃ (r : Fin 32) (j : Fin 384), y = ix3 0 r j := ⟨y 1, y 2, by idx_ext⟩
  exact View.read_writes_apply_of_pieces _ _ _ P.2.1 I.ps1 _ (I.cs1 r j (by have := trips1; omega))

theorem end_qa (arg11 : Memref sig .tc .vmem S1x32x384x96 .fp8e4m3) (f : BufTy.Contents (Elt Ideal) arg11.view.ty) :
    arg11.view.read (Elt Ideal) (arg11.view.writes (Elt Ideal) f P.2.2.1) = (Tq x0 x1 x2 x3 x4 x5 v0 tI tJ 0) := by
  funext y
  obtain ⟨r, j, ch, rfl⟩ : ∃ (r : Fin 32) (j : Fin 384) (ch : Fin 96), y = ix4 0 r j ch := ⟨y 1, y 2, y 3, by idx_ext⟩
  exact View.read_writes_apply_of_pieces _ _ _ P.2.2.1 I.pqa _ (I.cqa r j ch (by have := trips1; omega))

theorem end_qb (arg13 : Memref sig .tc .vmem S1x32x384x96 .fp8e4m3) (f : BufTy.Contents (Elt Ideal) arg13.view.ty) :
    arg13.view.read (Elt Ideal) (arg13.view.writes (Elt Ideal) f P.2.2.2.1) = (Tq x0 x1 x2 x3 x4 x5 v0 tI tJ 1) := by
  funext y
  obtain ⟨r, j, ch, rfl⟩ : ∃ (r : Fin 32) (j : Fin 384) (ch : Fin 96), y = ix4 0 r j ch := ⟨y 1, y 2, y 3, by idx_ext⟩
  exact View.read_writes_apply_of_pieces _ _ _ P.2.2.2.1 I.pqb _ (I.cqb r j ch (by have := trips1; omega))

theorem end_wa (arg17 : Memref sig .tc .vmem S3x3168x128 .f32) (f : BufTy.Contents (Elt Ideal) arg17.view.ty)
    (n : Fin 3) (ch : Fin 96) (r : Fin 32) (l : Fin 128) :
    arg17.view.read (Elt Ideal) (arg17.view.writes (Elt Ideal) f P.2.2.2.2.1) (ix3 n ⟨33 * ch.val + r.val, by omega⟩ l)
      = qK x0 x1 x2 x3 x4 x5 v0 tI tJ 0 r ⟨128 * n.val + l.val, by omega⟩ ch :=
  (View.read_writes_apply_of_pieces _ _ _ P.2.2.2.2.1 I.pwa _ (I.cwa n ch r l (by have := trips1; omega))).trans
    (Tw_at x0 x1 x2 x3 x4 x5 v0 tI tJ 0 r n ch l _ rfl).symm

theorem end_wb (arg18 : Memref sig .tc .vmem S3x3168x128 .f32) (f : BufTy.Contents (Elt Ideal) arg18.view.ty)
    (n : Fin 3) (ch : Fin 96) (r : Fin 32) (l : Fin 128) :
    arg18.view.read (Elt Ideal) (arg18.view.writes (Elt Ideal) f P.2.2.2.2.2.1) (ix3 n ⟨33 * ch.val + r.val, by omega⟩ l)
      = qK x0 x1 x2 x3 x4 x5 v0 tI tJ 1 r ⟨128 * n.val + l.val, by omega⟩ ch :=
  (View.read_writes_apply_of_pieces _ _ _ P.2.2.2.2.2.1 I.pwb _ (I.cwb n ch r l (by have := trips1; omega))).trans
    (Tw_at x0 x1 x2 x3 x4 x5 v0 tI tJ 1 r n ch l _ rfl).symm

theorem end_sa (X : Vec Ideal S96x128 .f32)
    (hX : X = arg19.view.read (Elt Ideal) (arg19.view.writes (Elt Ideal) G_arg19 P.2.2.2.2.2.2.1)) :
    k0_pay87 (F := Ideal) X = Ts x0 x1 x2 x3 x4 x5 v0 tI tJ 0 := by
  subst hX
  funext y
  obtain ⟨r, ch, rfl⟩ : ∃ (r : Fin 32) (ch : Fin 96), y = ix3 0 r ch := ⟨y 1, y 2, by idx_ext⟩
  rw [k0_pay87_at]
  rw [I.rsa ch ⟨r.val, by omega⟩ (by have := trips1; simp only; omega)]
  show scK x0 x1 x2 x3 x4 x5 v0 tI tJ 0 ⟨r.val % 32, _⟩ ch _ = scK x0 x1 x2 x3 x4 x5 v0 tI tJ 0 r ch _
  congr 1
  exact Fin.ext (Nat.mod_eq_of_lt r.isLt)

theorem end_sb (X : Vec Ideal S96x128 .f32)
    (hX : X = arg20.view.read (Elt Ideal) (arg20.view.writes (Elt Ideal) G_arg20 P.2.2.2.2.2.2.2)) :
    k0_pay1 (F := Ideal) (k0_pay88 X) = Ts x0 x1 x2 x3 x4 x5 v0 tI tJ 1 := by
  subst hX
  funext y
  obtain ⟨r, ch, rfl⟩ : ∃ (r : Fin 32) (ch : Fin 96), y = ix3 0 r ch := ⟨y 1, y 2, by idx_ext⟩
  rw [k0_pay88_at]
  rw [I.rsb ch ⟨r.val, by omega⟩ (by have := trips1; simp only; omega)]
  show scK x0 x1 x2 x3 x4 x5 v0 tI tJ 1 ⟨r.val % 32, _⟩ ch _ = scK x0 x1 x2 x3 x4 x5 v0 tI tJ 1 r ch _
  congr 1
  exact Fin.ext (Nat.mod_eq_of_lt r.isLt)

end Fin

section Second

variable (𝒱 : Variants) (c : Dev nD) (bd : Option 𝒱.V) (i : grid0.Coords) (arg2 : Memref sig .tc .smem S2x5 .i32) (harg2 : arg2.IsWhole) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole) (X_arg17 : BufTy.Contents (Elt Ideal) arg17.view.ty) (X_arg18 : BufTy.Contents (Elt Ideal) arg18.view.ty)
  (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32)

theorem inv2_all (h17 : ∀ (n : Fin 3) (ch : Fin 96) (r : Fin 32) (l : Fin 128), arg17.view.read (Elt Ideal) X_arg17 (ix3 n ⟨33 * ch.val + r.val, by omega⟩ l)
      = qK x0 x1 x2 x3 x4 x5 v0 tI tJ 0 r ⟨128 * n.val + l.val, by omega⟩ ch)
    (h18 : ∀ (n : Fin 3) (ch : Fin 96) (r : Fin 32) (l : Fin 128), arg18.view.read (Elt Ideal) X_arg18 (ix3 n ⟨33 * ch.val + r.val, by omega⟩ l)
      = qK x0 x1 x2 x3 x4 x5 v0 tI tJ 1 r ⟨128 * n.val + l.val, by omega⟩ ch) :
    ∀ n, n ≤ k0_t2_loop.trips → ((∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 n).1, ∀ x : p.1.shape.Idx, p.2 x = Tt x0 x1 x2 x3 x4 x5 v0 tI tJ 0 (p.1.emb x))
      ∧ (∀ (ch : Fin 96) (r : Fin 32) (j : Fin 384), ch.val < 4 * n → ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 n).1, (ix4 0 ch r j : S1x96x32x384.Idx) ∈ p.1.set))
      ∧ ((∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 n).2, ∀ x : p.1.shape.Idx, p.2 x = Tt x0 x1 x2 x3 x4 x5 v0 tI tJ 1 (p.1.emb x))
      ∧ (∀ (ch : Fin 96) (r : Fin 32) (j : Fin 384), ch.val < 4 * n → ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 n).2, (ix4 0 ch r j : S1x96x32x384.Idx) ∈ p.1.set)) := by
  intro n
  induction n with
  | zero =>
    intro _
    rw [pb_k0_t2.eq_1]
    exact ⟨⟨fun p hp => absurd hp List.not_mem_nil, fun ch r j h => by exfalso; omega⟩, ⟨fun p hp => absurd hp List.not_mem_nil, fun ch r j h => by exfalso; omega⟩⟩
  | succ n ih =>
    intro hn
    have hn' : n < k0_t2_loop.trips := hn
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hn'⟩
    have ih := ih (Nat.le_of_lt hn')
    rw [show ((⟨n, hn'⟩ : Fin k0_t2_loop.trips).val + 1) = n + 1 from rfl] at e
    rw [e]
    refine ⟨⟨?_, ?_⟩, ?_, ?_⟩
    · exact forall_append (trip2_a 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hn'⟩ x0 x1 x2 x3 x4 x5 v0 tI tJ h17) ih.1.1
    · intro ch r j h
      by_cases hr : ch.val < 4 * n
      · exact exists_right (ih.1.2 ch r j hr)
      · exact exists_left (cov2_a 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hn'⟩ ch r j (by simp only; omega))
    · exact forall_append (trip2_b 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hn'⟩ x0 x1 x2 x3 x4 x5 v0 tI tJ h18) ih.2.1
    · intro ch r j h
      by_cases hr : ch.val < 4 * n
      · exact exists_right (ih.2.2 ch r j hr)
      · exact exists_left (cov2_b 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hn'⟩ ch r j (by simp only; omega))

theorem end_ta (h17 : ∀ (n : Fin 3) (ch : Fin 96) (r : Fin 32) (l : Fin 128), arg17.view.read (Elt Ideal) X_arg17 (ix3 n ⟨33 * ch.val + r.val, by omega⟩ l)
      = qK x0 x1 x2 x3 x4 x5 v0 tI tJ 0 r ⟨128 * n.val + l.val, by omega⟩ ch)
    (h18 : ∀ (n : Fin 3) (ch : Fin 96) (r : Fin 32) (l : Fin 128), arg18.view.read (Elt Ideal) X_arg18 (ix3 n ⟨33 * ch.val + r.val, by omega⟩ l)
      = qK x0 x1 x2 x3 x4 x5 v0 tI tJ 1 r ⟨128 * n.val + l.val, by omega⟩ ch)
    (f : BufTy.Contents (Elt Ideal) arg15.view.ty) :
    arg15.view.read (Elt Ideal) (arg15.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k0_t2_loop.trips).1) = Tt x0 x1 x2 x3 x4 x5 v0 tI tJ 0 := by
  have I := (inv2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 x0 x1 x2 x3 x4 x5 v0 tI tJ h17 h18 k0_t2_loop.trips (Nat.le_refl _)).1
  funext y
  obtain ⟨ch, r, j, rfl⟩ : ∃ (ch : Fin 96) (r : Fin 32) (j : Fin 384), y = ix4 0 ch r j := ⟨y 1, y 2, y 3, by idx_ext⟩
  exact View.read_writes_apply_of_pieces _ _ _ _ I.1 _ (I.2 ch r j (by have := trips2; omega))

theorem end_tb (h17 : ∀ (n : Fin 3) (ch : Fin 96) (r : Fin 32) (l : Fin 128), arg17.view.read (Elt Ideal) X_arg17 (ix3 n ⟨33 * ch.val + r.val, by omega⟩ l)
      = qK x0 x1 x2 x3 x4 x5 v0 tI tJ 0 r ⟨128 * n.val + l.val, by omega⟩ ch)
    (h18 : ∀ (n : Fin 3) (ch : Fin 96) (r : Fin 32) (l : Fin 128), arg18.view.read (Elt Ideal) X_arg18 (ix3 n ⟨33 * ch.val + r.val, by omega⟩ l)
      = qK x0 x1 x2 x3 x4 x5 v0 tI tJ 1 r ⟨128 * n.val + l.val, by omega⟩ ch)
    (f : BufTy.Contents (Elt Ideal) arg16.view.ty) :
    arg16.view.read (Elt Ideal) (arg16.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 k0_t2_loop.trips).2) = Tt x0 x1 x2 x3 x4 x5 v0 tI tJ 1 := by
  have I := (inv2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 x0 x1 x2 x3 x4 x5 v0 tI tJ h17 h18 k0_t2_loop.trips (Nat.le_refl _)).2
  funext y
  obtain ⟨ch, r, j, rfl⟩ : ∃ (ch : Fin 96) (r : Fin 32) (j : Fin 384), y = ix4 0 ch r j := ⟨y 1, y 2, y 3, by idx_ext⟩
  exact View.read_writes_apply_of_pieces _ _ _ _ I.1 _ (I.2 ch r j (by have := trips2; omega))

end Second

end Cert.OperandsIdeal.OpVal

end
-- ==== Proof.OperandsIdealBody.lean ====
/- The run of the body of `OperandsIdeal` on any staging buffers. -/
module

public import proofs.«01_k».proof.Proof.OperandsIdealRuns
public import proofs.«01_k».proof.Proof.OperandsReads

@[expose] public section

set_option maxRecDepth 16384

noncomputable section

namespace Cert.OperandsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.OperandsIdeal.OpVal

/-- The number of the first row of the block at grid point `i`. -/
def vv (i : grid0.Coords) : BitVec 32 := Scalar.muli (BitVec.ofNat 32 (i 1).val) 32#32

theorem lanes_at (ch : Fin 96) (l : Fin 128) : (iota Kind.tc S96x128 32 [1] iota_S96x128_d1_w32) (ix2 ch l) = BitVec.ofNat 32 l.val := by
  rw [iota_apply]
  refine congrArg _ ?_
  show 0 * 128 + l.val = l.val
  omega

variable (c : Dev nD) (i : grid0.Coords) (x0 : Vec Ideal S1x32x384x128 .bf16) (x1 : Vec Ideal S128x128 .bf16) (x2 : Vec Ideal S384x128 .fp8e4m3)
  (x3 x4 : Vec Ideal S128x128 .f32) (x5 : Vec Ideal S384x128 .f32) (xt0 : TbBuf0 (F := Ideal) c tbM0_0)
/-- What the body leaves in the output windows. -/
def o6 : Vec Ideal S1x32x384x128 .fp8e4m3 := Tln x0 x1 x3 x4
def o7 : Vec Ideal S1x32x384 .f32 := Ts1 x0 x1 x3 x4
def o8 : Vec Ideal S1x32x384x96 .fp8e4m3 := Tq x0 x1 x2 x3 x4 x5 (vv i) (TI i tbM0_0 xt0) (TI i tbM0_0 xt0) 0
def o9 : Vec Ideal S1x32x96 .f32 := Ts x0 x1 x2 x3 x4 x5 (vv i) (TI i tbM0_0 xt0) (TI i tbM0_0 xt0) 0
def o10 : Vec Ideal S1x32x384x96 .fp8e4m3 := Tq x0 x1 x2 x3 x4 x5 (vv i) (TI i tbM0_0 xt0) (TI i tbM0_0 xt0) 1
def o11 : Vec Ideal S1x32x96 .f32 := Ts x0 x1 x2 x3 x4 x5 (vv i) (TI i tbM0_0 xt0) (TI i tbM0_0 xt0) 1
def o12 : Vec Ideal S1x96x32x384 .fp8e4m3 := Tt x0 x1 x2 x3 x4 x5 (vv i) (TI i tbM0_0 xt0) (TI i tbM0_0 xt0) 0
def o13 : Vec Ideal S1x96x32x384 .fp8e4m3 := Tt x0 x1 x2 x3 x4 x5 (vv i) (TI i tbM0_0 xt0) (TI i tbM0_0 xt0) 1

variable (m : (ℓ : Loc nD τ sig) → Buf (Elt Ideal) ℓ) (ρ : Dev nD → PrngReg)

-- (the run's proof term is large: checking it walks past the default budget)
set_option maxHeartbeats 1000000 in
/-- The body's triple: on whole staging memrefs — the inputs' at their contents,
    the outputs' at anything, handed back at the plain functions of the inputs `o6` … `o13` —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x32x384x128 .bf16) (harg3 : arg3.IsWhole) (arg4 : Memref sig .tc .vmem S128x128 .bf16) (harg4 : arg4.IsWhole) (arg5 : Memref sig .tc .vmem S384x128 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x384x96 .fp8e4m3) (harg11 : arg11.IsWhole) (arg12 : Memref sig .tc .vmem S1x32x96 .f32) (harg12 : arg12.IsWhole) (arg13 : Memref sig .tc .vmem S1x32x384x96 .fp8e4m3) (harg13 : arg13.IsWhole) (arg14 : Memref sig .tc .vmem S1x32x96 .f32) (harg14 : arg14.IsWhole) (arg15 : Memref sig .tc .vmem S1x96x32x384 .fp8e4m3) (harg15 : arg15.IsWhole) (arg16 : Memref sig .tc .vmem S1x96x32x384 .fp8e4m3) (harg16 : arg16.IsWhole) (arg17 : Memref sig .tc .vmem S3x3168x128 .f32) (harg17 : arg17.IsWhole) (arg18 : Memref sig .tc .vmem S3x3168x128 .f32) (harg18 : arg18.IsWhole) (arg19 : Memref sig .tc .vmem S96x128 .f32) (harg19 : arg19.IsWhole) (arg20 : Memref sig .tc .vmem S96x128 .f32) (harg20 : arg20.IsWhole)
    (x0 : Vec Ideal S1x32x384x128 .bf16) (x1 : Vec Ideal S128x128 .bf16) (x2 : Vec Ideal S384x128 .fp8e4m3) (x3 : Vec Ideal S128x128 .f32) (x4 : Vec Ideal S128x128 .f32) (x5 : Vec Ideal S384x128 .f32) (xt0 : TbBuf0 (F := Ideal) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (o6 x0 x1 x3 x4) ∗ owns (c : Thread nD τ) arg10 fullShare (o7 x0 x1 x3 x4) ∗ owns (c : Thread nD τ) arg11 fullShare (o8 c i x0 x1 x2 x3 x4 x5 xt0) ∗ owns (c : Thread nD τ) arg12 fullShare (o9 c i x0 x1 x2 x3 x4 x5 xt0) ∗ owns (c : Thread nD τ) arg13 fullShare (o10 c i x0 x1 x2 x3 x4 x5 xt0) ∗ owns (c : Thread nD τ) arg14 fullShare (o11 c i x0 x1 x2 x3 x4 x5 xt0) ∗ owns (c : Thread nD τ) arg15 fullShare (o12 c i x0 x1 x2 x3 x4 x5 xt0) ∗ owns (c : Thread nD τ) arg16 fullShare (o13 c i x0 x1 x2 x3 x4 x5 xt0) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
          ⊢ wp frame (wpE (defs₀ (F := Ideal)) Variants.none c none) E (cc0_operands i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_operands_eq_skeleton]; unfold cc0_operands_skel
    simp only [k0_part19_eq_skeleton]
    have hT : (tbPt0 c tbM0_0 xt0 : sProp 𝕄) = (tbM0_0.view.loc (c : Thread nD τ) ↦[tbM0_0.view.set]{fullShare.right} xt0) := by
      rw [htbM0_0.set_eq_univ]
    rw [hT]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    have hTJ : TJ (kernelRun0_A.sl.r c i xt0) (kernelRun0_A.sl.r_1 c i xt0) (kernelRun0_A.sl.r_2 c i xt0) (kernelRun0_A.sl.r_3 c i xt0) = TI i tbM0_0 xt0 := rfl
    have I := inv_all Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) (vv i) (kernelRun0_A.sl.r c i xt0) (kernelRun0_A.sl.r_1 c i xt0) (kernelRun0_A.sl.r_2 c i xt0) (kernelRun0_A.sl.r_3 c i xt0) kernelRun0_A.sl.v27 xt0 (harg3.unread x0) (harg4.unread x1) (harg5.unread x2) (harg6.unread x3) (harg7.unread x4) (harg8.unread x5) f6 f7 f8 f10 fs0 fs1 fs2 fs3 x0 x1 x2 x3 x4 x5 (harg3.read_unread x0) (harg4.read_unread x1) (harg5.read_unread x2) (harg6.read_unread x3) (harg7.read_unread x4) (harg8.read_unread x5) lanes_at k0_t1_loop.trips (Nat.le_refl _)
    rw [hTJ] at I
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact end_ln arg19 arg20 fs2 fs3 x0 x1 x2 x3 x4 x5 (vv i) (TI i tbM0_0 xt0) (TI i tbM0_0 xt0) _ I arg9 f6
    isplitl [H7]
    · iexists _; isplitr; swap; · iexact H7
      ipureintro
      exact end_s1 arg19 arg20 fs2 fs3 x0 x1 x2 x3 x4 x5 (vv i) (TI i tbM0_0 xt0) (TI i tbM0_0 xt0) _ I arg10 f7
    isplitl [H8]
    · iexists _; isplitr; swap; · iexact H8
      ipureintro
      exact end_qa arg19 arg20 fs2 fs3 x0 x1 x2 x3 x4 x5 (vv i) (TI i tbM0_0 xt0) (TI i tbM0_0 xt0) _ I arg11 f8
    isplitl [H9]
    · iexists _; isplitr; swap; · iexact H9
      ipureintro
      unfold kernelRun0_A.sl.H9_1
      exact (View.read_writes_full _ _ _ _ []).trans (end_sa arg19 arg20 fs2 fs3 x0 x1 x2 x3 x4 x5 (vv i) (TI i tbM0_0 xt0) (TI i tbM0_0 xt0) _ I _ (View.readAt_full arg19.view _ _))
    isplitl [H10]
    · iexists _; isplitr; swap; · iexact H10
      ipureintro
      exact end_qb arg19 arg20 fs2 fs3 x0 x1 x2 x3 x4 x5 (vv i) (TI i tbM0_0 xt0) (TI i tbM0_0 xt0) _ I arg13 f10
    isplitl [H11]
    · iexists _; isplitr; swap; · iexact H11
      ipureintro
      unfold kernelRun0_A.sl.H11_1
      exact (View.read_writes_full _ _ _ _ []).trans (end_sb arg19 arg20 fs2 fs3 x0 x1 x2 x3 x4 x5 (vv i) (TI i tbM0_0 xt0) (TI i tbM0_0 xt0) _ I _ (View.readAt_full arg20.view _ _))
    isplitl [H12]
    · iexists _; isplitr; swap; · iexact H12
      ipureintro
      exact end_ta Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ x0 x1 x2 x3 x4 x5 (vv i) (TI i tbM0_0 xt0) (TI i tbM0_0 xt0)
        (end_wa arg19 arg20 fs2 fs3 x0 x1 x2 x3 x4 x5 (vv i) (TI i tbM0_0 xt0) (TI i tbM0_0 xt0) _ I arg17 fs0) (end_wb arg19 arg20 fs2 fs3 x0 x1 x2 x3 x4 x5 (vv i) (TI i tbM0_0 xt0) (TI i tbM0_0 xt0) _ I arg18 fs1) f12
    isplitl [H13]
    · iexists _; isplitr; swap; · iexact H13
      ipureintro
      exact end_tb Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ x0 x1 x2 x3 x4 x5 (vv i) (TI i tbM0_0 xt0) (TI i tbM0_0 xt0)
        (end_wa arg19 arg20 fs2 fs3 x0 x1 x2 x3 x4 x5 (vv i) (TI i tbM0_0 xt0) (TI i tbM0_0 xt0) _ I arg17 fs0) (end_wb arg19 arg20 fs2 fs3 x0 x1 x2 x3 x4 x5 (vv i) (TI i tbM0_0 xt0) (TI i tbM0_0 xt0) _ I arg18 fs1) f13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.OperandsIdeal.Gen

end
-- ==== Proof.OperandsIdealFrame.lean ====
/- The frame of `OperandsIdeal`. -/
module

public import proofs.«01_k».proof.Proof.OperandsIdealBody
public import Idealize.ShloMosaic.Lib.Claim

@[expose] public section

set_option maxRecDepth 16384

noncomputable section

namespace Cert.OperandsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the outputs at the plain functions of the blocks; the invariant the class's
    (Lib/Pipeline/Frame.lean `ΦA`: the scoped rest and the generator register) and the tables' halves (`ΦT`); nothing owed;
    full shares. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => o6 (iblk m hO c 0 t) (iblk m hO c 1 t) (iblk m hO c 3 t) (iblk m hO c 4 t)
    | ⟨7, _⟩ => o7 (iblk m hO c 0 t) (iblk m hO c 1 t) (iblk m hO c 3 t) (iblk m hO c 4 t)
    | ⟨8, _⟩ => o8 c (grid0.coords t) (iblk m hO c 0 t) (iblk m hO c 1 t) (iblk m hO c 2 t) (iblk m hO c 3 t) (iblk m hO c 4 t) (iblk m hO c 5 t) (tbl m 0)
    | ⟨9, _⟩ => o9 c (grid0.coords t) (iblk m hO c 0 t) (iblk m hO c 1 t) (iblk m hO c 2 t) (iblk m hO c 3 t) (iblk m hO c 4 t) (iblk m hO c 5 t) (tbl m 0)
    | ⟨10, _⟩ => o10 c (grid0.coords t) (iblk m hO c 0 t) (iblk m hO c 1 t) (iblk m hO c 2 t) (iblk m hO c 3 t) (iblk m hO c 4 t) (iblk m hO c 5 t) (tbl m 0)
    | ⟨11, _⟩ => o11 c (grid0.coords t) (iblk m hO c 0 t) (iblk m hO c 1 t) (iblk m hO c 2 t) (iblk m hO c 3 t) (iblk m hO c 4 t) (iblk m hO c 5 t) (tbl m 0)
    | ⟨12, _⟩ => o12 c (grid0.coords t) (iblk m hO c 0 t) (iblk m hO c 1 t) (iblk m hO c 2 t) (iblk m hO c 3 t) (iblk m hO c 4 t) (iblk m hO c 5 t) (tbl m 0)
    | ⟨13, _⟩ => o13 c (grid0.coords t) (iblk m hO c 0 t) (iblk m hO c 1 t) (iblk m hO c 2 t) (iblk m hO c 3 t) (iblk m hO c 4 t) (iblk m hO c 5 t) (tbl m 0)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = o6 (iblk m hO c 0 t) (iblk m hO c 1 t) (iblk m hO c 3 t) (iblk m hO c 4 t) := by dsimp only [dats]; try rfl
theorem after0_7 (hO : Ok m) (c : Dev nD) (t : Fin (cfgM m hO).N) : (dats m hO 0 c).after 7 t = o7 (iblk m hO c 0 t) (iblk m hO c 1 t) (iblk m hO c 3 t) (iblk m hO c 4 t) := by dsimp only [dats]; try rfl
theorem after0_8 (hO : Ok m) (c : Dev nD) (t : Fin (cfgM m hO).N) : (dats m hO 0 c).after 8 t = o8 c (grid0.coords t) (iblk m hO c 0 t) (iblk m hO c 1 t) (iblk m hO c 2 t) (iblk m hO c 3 t) (iblk m hO c 4 t) (iblk m hO c 5 t) (tbl m 0) := by dsimp only [dats]; try rfl
theorem after0_9 (hO : Ok m) (c : Dev nD) (t : Fin (cfgM m hO).N) : (dats m hO 0 c).after 9 t = o9 c (grid0.coords t) (iblk m hO c 0 t) (iblk m hO c 1 t) (iblk m hO c 2 t) (iblk m hO c 3 t) (iblk m hO c 4 t) (iblk m hO c 5 t) (tbl m 0) := by dsimp only [dats]; try rfl
theorem after0_10 (hO : Ok m) (c : Dev nD) (t : Fin (cfgM m hO).N) : (dats m hO 0 c).after 10 t = o10 c (grid0.coords t) (iblk m hO c 0 t) (iblk m hO c 1 t) (iblk m hO c 2 t) (iblk m hO c 3 t) (iblk m hO c 4 t) (iblk m hO c 5 t) (tbl m 0) := by dsimp only [dats]; try rfl
theorem after0_11 (hO : Ok m) (c : Dev nD) (t : Fin (cfgM m hO).N) : (dats m hO 0 c).after 11 t = o11 c (grid0.coords t) (iblk m hO c 0 t) (iblk m hO c 1 t) (iblk m hO c 2 t) (iblk m hO c 3 t) (iblk m hO c 4 t) (iblk m hO c 5 t) (tbl m 0) := by dsimp only [dats]; try rfl
theorem after0_12 (hO : Ok m) (c : Dev nD) (t : Fin (cfgM m hO).N) : (dats m hO 0 c).after 12 t = o12 c (grid0.coords t) (iblk m hO c 0 t) (iblk m hO c 1 t) (iblk m hO c 2 t) (iblk m hO c 3 t) (iblk m hO c 4 t) (iblk m hO c 5 t) (tbl m 0) := by dsimp only [dats]; try rfl
theorem after0_13 (hO : Ok m) (c : Dev nD) (t : Fin (cfgM m hO).N) : (dats m hO 0 c).after 13 t = o13 c (grid0.coords t) (iblk m hO c 0 t) (iblk m hO c 1 t) (iblk m hO c 2 t) (iblk m hO c 3 t) (iblk m hO c 4 t) (iblk m hO c 5 t) (tbl m 0) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, H12, H13, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats m hO 0 c) (defs₀ (F := Ideal)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := Ideal))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every array of the pipeline at what the proof data compute, and every other unscoped buffer at its region-entry contents. -/
theorem run_main (hO : Ok m) : θ_run defs (onTc (τ := τ) (main (F := Ideal))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

/-- THE FRAME: `Cert.quiescent_OperandsIdeal`'s statement (Defs.lean) at any `F` — Proof.lean cites it at `Bits`:
    `theorem Cert.Proof.claim : Cert.Claim := ⟨Cert.OperandsIdeal.Gen.facts, fun m ρ _ => Cert.OperandsIdeal.Gen.frame m ρ⟩`; here for every contents of the PREFETCHED TABLES, UNDER `Gen.Ok m` (the pipeline's side condition of
    them), which Proof.lean proves from the precondition: `⟨…, fun m ρ h => Cert.OperandsIdeal.Gen.frame m ρ (ok_of_pre m h)⟩`. -/
theorem frame (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.OperandsIdeal.Gen

end
-- ==== Proof.OperandsMath.lean ====
module

public import proofs.«01_k».proof.Proof.OperandsPay

@[expose] public section

noncomputable section

namespace Cert.OperandsIdeal.OpVal

open Idealize.ShloMosaic Idealize.ShloMosaic.TcCoe Idealize.SL.Sem

/-! The mathematics of one row on the extended reals, as the reference writes it, and the equalities that
    join the kernel's form of each quantity to it. -/

/-- The normalised row: mean, variance, quotient by the root, gain and offset. -/
def yR (z : Fin 128 → EReal) (d : Fin 128) (g b : EReal) : EReal :=
  Ideal.div (z d - Ideal.div (∑ x, z x) (Ideal.ofBits .f32 1124073472#32))
    (Ideal.sqrt (Ideal.div (∑ x, (z x - Ideal.div (∑ x, z x) (Ideal.ofBits .f32 1124073472#32))
      * (z x - Ideal.div (∑ x, z x) (Ideal.ofBits .f32 1124073472#32))) (Ideal.ofBits .f32 1124073472#32)
      + Ideal.ofBits .f32 925353388#32)) * g + b

/-- The scale of a normalised row. -/
def s1R (z g b : Fin 128 → EReal) : EReal := scl (top (fun d => yR z d (g d) (b d)))

/-- Its quantised values. -/
def q1R (z g b : Fin 128 → EReal) (d : Fin 128) : EReal := clip (Ideal.div (yR z d (g d) (b d)) (s1R z g b))

/-- The masked gated projection of one row. -/
def uR (mask : EReal) (q : Fin 128 → EReal) (s : EReal) (wp wg : Fin 128 → EReal) (sp sg : EReal) : EReal :=
  mask * Ideal.logistic ((∑ x, q x * wg x) * s * sg) * ((∑ x, q x * wp x) * s * sp)

theorem c128 : Ideal.ofBits .f32 1124073472#32 = ((128 : ℝ) : EReal) := by
  simp [Ideal.ofBits, Ideal.ieee, -EReal.coe_mul]; norm_num

theorem c128i : Ideal.ofBits .f32 1006632960#32 = ((1 / 128 : ℝ) : EReal) := by
  simp [Ideal.ofBits, Ideal.ieee, -EReal.coe_mul]; norm_num

theorem ceps : ∃ e : ℝ, 0 < e ∧ Ideal.ofBits .f32 925353388#32 = (e : EReal) := by
  refine ⟨_, ?_, by simp [Ideal.ofBits, Ideal.ieee, -EReal.coe_mul]; rfl⟩
  norm_num

theorem c448 : Ideal.ofBits .f32 1138753536#32 = ((448 : ℝ) : EReal) := by
  simp [Ideal.ofBits, Ideal.ieee, -EReal.coe_mul]; norm_num

theorem cbot : Ideal.ofBits .f32 4286578688#32 = (⊥ : EReal) := by
  simp [Ideal.ofBits, Ideal.ieee]

/-! Infinite values. -/

def Inf (x : EReal) : Prop := x = ⊤ ∨ x = ⊥

theorem Inf.add {a : EReal} (h : Inf a) (b : EReal) : Inf (a + b) := by
  rcases h with rfl | rfl
  · induction b <;> simp [Inf]
  · simp [Inf]

theorem Inf.add_right {b : EReal} (a : EReal) (h : Inf b) : Inf (a + b) := add_comm b a ▸ h.add a

theorem Inf.neg {a : EReal} (h : Inf a) : Inf (-a) := by rcases h with rfl | rfl <;> simp [Inf]

theorem Inf.sub {b : EReal} (a : EReal) (h : Inf b) : Inf (a - b) := sub_eq_add_neg a b ▸ Inf.add_right a h.neg

theorem Inf.coe_mul {a : EReal} (r : ℝ) (hr : r ≠ 0) (h : Inf a) : Inf ((r : EReal) * a) := by
  rcases lt_or_gt_of_ne hr with h0 | h0
  · rcases h with rfl | rfl
    · rw [EReal.coe_mul_top_of_neg h0]; exact .inr rfl
    · rw [EReal.coe_mul_bot_of_neg h0]; exact .inl rfl
  · rcases h with rfl | rfl
    · rw [EReal.coe_mul_top_of_pos h0]; exact .inl rfl
    · rw [EReal.coe_mul_bot_of_pos h0]; exact .inr rfl

theorem Inf.sum {n : ℕ} (f : Fin n → EReal) (e : Fin n) (h : Inf (f e)) : Inf (∑ x, f x) := by
  rw [← Finset.add_sum_erase _ f (Finset.mem_univ e)]; exact h.add _

theorem Inf.sq {a : EReal} (h : Inf a) : a * a = ⊤ := by rcases h with rfl | rfl <;> rfl

theorem sum_sq_top (c : Fin 128 → EReal) (h : ∀ x, Inf (c x)) : ∑ x, c x * c x = ⊤ := by
  have e : (fun x => c x * c x) = fun _ => ⊤ := funext fun x => (h x).sq
  rw [e]
  rcases Inf.sum (fun _ : Fin 128 => (⊤ : EReal)) 0 (.inl rfl) with h | h
  · exact h
  · exact absurd h (ne_of_gt (lt_of_lt_of_le (by simp : (⊥ : EReal) < 0) (Finset.sum_nonneg fun _ _ => le_top)))

/-! Layer normalisation. -/

theorem div_ne {x y : EReal} (h : y ≠ 0) : Ideal.div x y = x * y⁻¹ := if_neg h

theorem div128 (x : EReal) : Ideal.div x (Ideal.ofBits .f32 1124073472#32) = x * Ideal.ofBits .f32 1006632960#32 := by
  rw [c128, c128i]; exact Ideal.div_coe (by norm_num) x

theorem coe_sum {n : ℕ} (f : Fin n → ℝ) : ∑ x, ((f x : ℝ) : EReal) = ((∑ x, f x : ℝ) : EReal) := by
  induction (Finset.univ : Finset (Fin n)) using Finset.induction_on with
  | empty => simp
  | insert a s ha ih => rw [Finset.sum_insert ha, Finset.sum_insert ha, ih, EReal.coe_add]

theorem lin_inf (z : Fin 128 → EReal) (C : Fin 128 → Fin 128 → EReal)
    (hC : ∀ d e, C d e = (if d = e then 1 else 0) - Ideal.ofBits .f32 1006632960#32) (e : Fin 128) (he : Inf (z e)) (d : Fin 128) :
    Inf (lin z C d) := by
  refine Inf.sum _ e ?_
  have : C d e = (((if d = e then 1 else 0) - 1 / 128 : ℝ) : EReal) := by
    rw [hC, c128i]; split <;> simp [EReal.coe_sub]
  rw [this]
  exact Inf.coe_mul _ (by split <;> norm_num) he

theorem lin_fin (r : Fin 128 → ℝ) (C : Fin 128 → Fin 128 → EReal)
    (hC : ∀ d e, C d e = (if d = e then 1 else 0) - Ideal.ofBits .f32 1006632960#32) (d : Fin 128) :
    lin (fun e => (r e : EReal)) C d = ((r d - (∑ x, r x) * (1 / 128) : ℝ) : EReal) := by
  have h : ∀ e, C d e * (r e : EReal) = (((if d = e then r e else 0) - r e * (1 / 128) : ℝ) : EReal) := by
    intro e
    rw [hC, c128i]
    split
    · rw [← EReal.coe_one, ← EReal.coe_sub, ← EReal.coe_mul]; congr 1; ring
    · rw [← EReal.coe_zero, ← EReal.coe_sub, ← EReal.coe_mul]; congr 1; ring
  unfold lin
  rw [Finset.sum_congr rfl fun e _ => h e, coe_sum, Finset.sum_sub_distrib, ← Finset.sum_mul]
  simp

/-- The kernel's normalised row is the reference's, for every row of extended reals. -/
theorem nrm_eq (z : Fin 128 → EReal) (C : Fin 128 → Fin 128 → EReal)
    (hC : ∀ d e, C d e = (if d = e then 1 else 0) - Ideal.ofBits .f32 1006632960#32) (d : Fin 128) (g b : EReal) :
    nrm z C d g b = yR z d g b := by
  obtain ⟨ep, hep, eqe⟩ := ceps
  unfold nrm yR
  simp only [div128]
  by_cases hz : ∃ e, Inf (z e)
  · obtain ⟨e, he⟩ := hz
    have hl := lin_inf z C hC e he
    have hm : ∀ x, Inf (z x - (∑ x, z x) * Ideal.ofBits .f32 1006632960#32) := fun x =>
      Inf.sub _ (by rw [c128i, mul_comm]; exact Inf.coe_mul _ (by norm_num) (Inf.sum z e he))
    have ht : (⊤ : EReal) * Ideal.ofBits .f32 1006632960#32 + Ideal.ofBits .f32 925353388#32 = ⊤ := by
      rw [c128i, eqe, EReal.top_mul_coe_of_pos (by norm_num), EReal.top_add_coe]
    rw [sum_sq_top _ hl, sum_sq_top _ hm, ht, Ideal.sqrt_top, div_ne (by simp), div_ne (by simp), EReal.inv_top, mul_zero, mul_zero, mul_zero]
  · have hf : ∀ e, ∃ r : ℝ, z e = r := fun e => by
      rcases h : z e with _ | _ | r
      · exact absurd ⟨e, .inr h⟩ hz
      · exact absurd ⟨e, .inl h⟩ hz
      · exact ⟨r, rfl⟩
    choose r hr using hf
    obtain rfl : z = fun e => (r e : EReal) := funext hr
    have hm : ∀ x, (r x : EReal) - (∑ x, (r x : EReal)) * Ideal.ofBits .f32 1006632960#32 = ((r x - (∑ x, r x) * (1 / 128) : ℝ) : EReal) := by
      intro x; rw [coe_sum, c128i, EReal.coe_sub, EReal.coe_mul]
    simp only [lin_fin r C hC, hm]
    have hs : Ideal.sqrt ((∑ x, ((r x - (∑ x, r x) * (1 / 128) : ℝ) : EReal) * ((r x - (∑ x, r x) * (1 / 128) : ℝ) : EReal))
        * Ideal.ofBits .f32 1006632960#32 + Ideal.ofBits .f32 925353388#32) ≠ 0 := by
      simp only [← EReal.coe_mul]
      rw [coe_sum, c128i, eqe, ← EReal.coe_mul, ← EReal.coe_add, Ideal.sqrt_coe]
      have h0 : 0 < (∑ x, (r x - (∑ x, r x) * (1 / 128)) * (r x - (∑ x, r x) * (1 / 128))) * (1 / 128) + ep :=
        add_pos_of_nonneg_of_pos (mul_nonneg (Finset.sum_nonneg fun x _ => mul_self_nonneg _) (by norm_num)) hep
      rw [if_neg (not_lt.mpr h0.le)]
      exact_mod_cast (Real.sqrt_pos.mpr h0).ne'
    rw [div_ne hs, div_ne hs, one_mul]

/-! Absolute values and scales. -/

theorem absf_eq (x : EReal) : FloatOps.absf (F := Ideal) (φ := .f32) x = (EReal.abs x : EReal) := by
  show max x (-x) = _
  induction x with
  | bot => simp
  | top => simp
  | coe r =>
    have h : ((r : EReal).abs : EReal) = ((|r| : ℝ) : EReal) := EReal.coe_abs r
    rw [h, ← EReal.coe_neg]
    exact (EReal.coe_strictMono.monotone.map_max (a := r) (b := -r)).symm

theorem absf_mul (x y : EReal) : FloatOps.absf (F := Ideal) (φ := .f32) (x * y)
    = FloatOps.absf (F := Ideal) (φ := .f32) x * FloatOps.absf (F := Ideal) (φ := .f32) y := by
  rw [absf_eq, absf_eq, absf_eq, EReal.abs_mul, EReal.coe_ennreal_mul]

theorem absf_nonneg (x : EReal) : 0 ≤ FloatOps.absf (F := Ideal) (φ := .f32) x := by
  rw [absf_eq]; exact EReal.coe_ennreal_nonneg _

theorem le_top' {n : ℕ} (f : Fin n → EReal) (k : Fin n) : FloatOps.absf (F := Ideal) (φ := .f32) (f k) ≤ top f :=
  Finset.le_fold_max _ |>.mpr (.inr ⟨k, Finset.mem_univ k, le_rfl⟩)

theorem top_le {n : ℕ} (f : Fin n → EReal) (a : EReal) (h : ∀ k, FloatOps.absf (F := Ideal) (φ := .f32) (f k) ≤ a) : top f ≤ a :=
  Finset.fold_max_le _ |>.mpr ⟨by rw [cbot]; exact bot_le, fun k _ => h k⟩

/-- The largest magnitude of a scaled family is the scaled largest magnitude. -/
theorem top_mul {n : ℕ} [NeZero n] (f : Fin n → EReal) (w : EReal) :
    top (fun k => f k * w) = top f * FloatOps.absf (F := Ideal) (φ := .f32) w := by
  obtain ⟨k, -, hk⟩ := Finset.exists_max_image Finset.univ (fun k => FloatOps.absf (F := Ideal) (φ := .f32) (f k)) ⟨0, Finset.mem_univ _⟩
  have e : top f = FloatOps.absf (F := Ideal) (φ := .f32) (f k) :=
    le_antisymm (top_le _ _ fun j => hk j (Finset.mem_univ j)) (le_top' f k)
  refine le_antisymm (top_le _ _ fun j => ?_) ?_
  · rw [absf_mul, e]; exact mul_le_mul_of_nonneg_right (hk j (Finset.mem_univ j)) (absf_nonneg w)
  · rw [e, ← absf_mul]; exact le_top' (fun k => f k * w) k

theorem scl_ne (a : EReal) : scl a ≠ 0 := by
  unfold scl
  split
  · exact one_ne_zero
  · rename_i h
    rw [c448, Ideal.div_coe (by norm_num)]
    exact mul_ne_zero h (by norm_num)

/-- Dividing the weight scale first or the product afterwards is one value. -/
theorem mul_div_scl (u w a : EReal) : u * Ideal.div w (scl a) = Ideal.div (u * w) (scl a) := by
  rw [div_ne (scl_ne a), div_ne (scl_ne a), mul_assoc]

/-- The gated projection: the kernel masks the scale, the reference the product. -/
theorem gate_eq (c : Prop) [Decidable c] (p g s sp sg : EReal) :
    gate p g (if c then s else 0) sg * sp = (if c then 1 else 0) * Ideal.logistic (g * s * sg) * (p * s * sp) := by
  unfold gate
  split
  · rw [one_mul]; ac_rfl
  · simp

end Cert.OperandsIdeal.OpVal
-- ==== Proof.OperandsRef.lean ====
/- The reference of the operand call read entry by entry: what each of its eight results holds, as a plain
   function of the arguments and of the mask. -/
module

public import proofs.«01_k».proof.Proof.OperandsMath
public import proofs.«01_k».proof.Proof.Gen.OperandsReferenceIdeal.Frame
public import Idealize.ShloMosaic.Lib.Pipeline.ValueKit
public import Idealize.ShloMosaic.Lib.Pointwise

@[expose] public section

set_option maxRecDepth 16384

noncomputable section

namespace Cert.OperandsReferenceIdeal.RefVal

open Cert.OperandsReferenceIdeal Cert.OperandsReferenceIdeal.Gen
open Cert.OperandsIdeal.OpVal (scl clip top yR s1R q1R uR)
open Idealize.ShloMosaic Idealize.ShloMosaic.TcCoe Idealize.SL.Sem

/-! The payloads. -/

theorem scl_at {s : Shape} (R : FVec Ideal s .f32) (i : s.Idx) :
    select (cmpf .oeq R (broadcast s (Scalar.ofBits (F := Ideal) .f32 0x00000000#32))) (broadcast s (Scalar.ofBits (F := Ideal) .f32 0x3F800000#32))
      (divf R (broadcast s (Scalar.ofBits (F := Ideal) .f32 0x43E00000#32))) i = scl (R i) := by
  pointwise []
  rfl

theorem top3 {n0 n1 n2 n3 : Nat} (x : FVec Ideal ⟨4, ![n0, n1, n2, n3]⟩ .f32) (h : (⟨4, ![n0, n1, n2, n3]⟩ : Shape).Reduces [3] ⟨3, ![n0, n1, n2]⟩) (hφ hacc)
    (a : Fin n0) (b : Fin n1) (c : Fin n2) :
    multiReduction (F := Ideal) .maximumf [3] ⟨3, ![n0, n1, n2]⟩ (absf x) 0xFF800000#32 h hφ hacc (ix3 a b c) = top (fun d => x (ix4 a b c d)) := by
  rw [multiReduction_maximumf_eq_fold, h.fold_fiber_r4_a3]
  rfl

theorem top2 {n0 n1 n2 n3 : Nat} (x : FVec Ideal ⟨4, ![n0, n1, n2, n3]⟩ .f32) (h : (⟨4, ![n0, n1, n2, n3]⟩ : Shape).Reduces [2] ⟨3, ![n0, n1, n3]⟩) (hφ hacc)
    (a : Fin n0) (b : Fin n1) (c : Fin n3) :
    multiReduction (F := Ideal) .maximumf [2] ⟨3, ![n0, n1, n3]⟩ (absf x) 0xFF800000#32 h hφ hacc (ix3 a b c) = top (fun d => x (ix4 a b d c)) := by
  rw [multiReduction_maximumf_eq_fold, h.fold_fiber_r4_a2]
  rfl

theorem pay5_at (v0 : Vec Ideal S2x384x384x128 .bf16) (v18 v22 : Vec Ideal S128 .f32) (b : Fin 2) (i j : Fin 384) (d : Fin 128) :
    k0_pay5 (F := Ideal) v0 v18 v22 (ix4 b i j d) = yR (fun e => v0 (ix4 b i j e)) d (v18 (ix1 d)) (v22 (ix1 d)) := by
  pointwise [k0_pay5]
  rfl

theorem pay6_at (v0 : Vec Ideal S2x384x384x128 .bf16) (v18 v22 : Vec Ideal S128 .f32) (b : Fin 2) (i j : Fin 384) :
    k0_pay6 (F := Ideal) v0 v18 v22 (ix3 b i j) = s1R (fun e => v0 (ix4 b i j e)) (fun e => v18 (ix1 e)) (fun e => v22 (ix1 e)) := by
  have h : k0_pay6 (F := Ideal) v0 v18 v22 (ix3 b i j) = scl (top (fun d => k0_pay5 (F := Ideal) v0 v18 v22 (ix4 b i j d))) := by
    unfold k0_pay6
    generalize k0_pay5 v0 v18 v22 = Y
    exact (scl_at _ _).trans (congrArg scl (top3 Y _ _ _ b i j))
  rw [h]
  simp only [pay5_at]
  unfold s1R
  rfl

theorem clip_at {s : Shape} (A B : FVec Ideal s .f32) (h) (i : s.Idx) :
    truncf (F := Ideal) .fp8e4m3 (minimumf (broadcast s (Scalar.ofBits (F := Ideal) .f32 0x43E00000#32)) (maximumf (broadcast s (Scalar.ofBits (F := Ideal) .f32 0xC3E00000#32)) (divf A B))) h i
      = clip (Ideal.div (A i) (B i)) := by
  pointwise []
  rfl

theorem keep_at (Z : FVec Ideal S2x384x384 .f32) (b : Fin 2) (i j : Fin 384) (d : Fin 128) :
    broadcastTo S2x384x384x128 (shapeCast S2x384x384x1 Z shapeCasts_S2x384x384_S2x384x384x1) broadcasts_S2x384x384x1_S2x384x384x128 (ix4 b i j d) = Z (ix3 b i j) := by
  pointwise []

theorem pay7_at (v0 : Vec Ideal S2x384x384x128 .bf16) (v18 v22 : Vec Ideal S128 .f32) (b : Fin 2) (i j : Fin 384) (d : Fin 128) :
    k0_pay7 (F := Ideal) v0 v18 v22 (ix4 b i j d) = q1R (fun e => v0 (ix4 b i j e)) (fun e => v18 (ix1 e)) (fun e => v22 (ix1 e)) d := by
  have h : k0_pay7 (F := Ideal) v0 v18 v22 (ix4 b i j d)
      = clip (Ideal.div (k0_pay5 (F := Ideal) v0 v18 v22 (ix4 b i j d)) (k0_pay6 (F := Ideal) v0 v18 v22 (ix3 b i j))) := by
    unfold k0_pay7
    generalize k0_pay5 v0 v18 v22 = Y
    generalize k0_pay6 v0 v18 v22 = Z
    exact (clip_at Y _ _ _).trans (congrArg (fun x => clip (Ideal.div (Y (ix4 b i j d)) x)) (keep_at Z b i j d))
  rw [h, pay5_at, pay6_at]
  unfold q1R
  rfl

theorem pay8_at (v33 : FVec Ideal S2x384x384 .f32) (v41 : FVec Ideal S2x384x384x128 .fp8e4m3) (wp : Vec Ideal S128x96 .fp8e4m3) (sp : Vec Ideal S96 .f32)
    (wg : Vec Ideal S128x96 .fp8e4m3) (sg : Vec Ideal S96 .f32) (mk : Vec Ideal S2x384x384 .f32) (b : Fin 2) (i j : Fin 384) (ch : Fin 96) :
    k0_pay8 (F := Ideal) v33 v41 wp sp wg sg mk (ix4 b i j ch)
      = uR (mk (ix3 b i j)) (fun x => v41 (ix4 b i j x)) (v33 (ix3 b i j)) (fun x => wp (ix2 x ch)) (fun x => wg (ix2 x ch)) (sp (ix1 ch)) (sg (ix1 ch)) := by
  pointwise [k0_pay8]
  rfl

theorem pay14_at (v33 : FVec Ideal S2x384x384 .f32) (v41 : FVec Ideal S2x384x384x128 .fp8e4m3) (wp : Vec Ideal S128x96 .fp8e4m3) (sp : Vec Ideal S96 .f32)
    (wg : Vec Ideal S128x96 .fp8e4m3) (sg : Vec Ideal S96 .f32) (mk : Vec Ideal S2x384x384 .f32) :
    k0_pay14 (F := Ideal) v33 v41 wp sp wg sg mk = k0_pay8 v33 v41 wp sp wg sg mk := rfl

/-- The scales of an operand. -/
theorem scale_at (U : FVec Ideal S2x384x384x96 .f32) (b : Fin 2) (i : Fin 384) (ch : Fin 96) :
    select (cmpf .oeq (multiReduction (F := Ideal) .maximumf [2] S2x384x96 (absf U) 0xFF800000#32 reduces_S2x384x384x96_S2x384x96 (.inl rfl) rfl) (broadcast S2x384x96 (Scalar.ofBits (F := Ideal) .f32 0x00000000#32)))
      (broadcast S2x384x96 (Scalar.ofBits (F := Ideal) .f32 0x3F800000#32))
      (divf (multiReduction (F := Ideal) .maximumf [2] S2x384x96 (absf U) 0xFF800000#32 reduces_S2x384x384x96_S2x384x96 (.inl rfl) rfl) (broadcast S2x384x96 (Scalar.ofBits (F := Ideal) .f32 0x43E00000#32)))
      (ix3 b i ch) = scl (top (fun j => U (ix4 b i j ch))) := by
  exact (scl_at _ _).trans (congrArg scl (top2 U _ _ _ b i ch))

/-- The quantised values of an operand. -/
theorem code_at (U : FVec Ideal S2x384x384x96 .f32) (a : IVec S2x384x96 1) (e : FVec Ideal S2x384x96 .f32) (cst : Ideal .f32) (b : Fin 2) (i j : Fin 384) (ch : Fin 96) :
    k0_pay13 (F := Ideal) U a e cst (ix4 b i j ch) = clip (Ideal.div (U (ix4 b i j ch)) (k0_pay12 (F := Ideal) a e cst (ix3 b i ch))) := by
  unfold k0_pay13
  generalize k0_pay12 (F := Ideal) a e cst = S
  pointwise []
  rfl

theorem code_at' (U : FVec Ideal S2x384x384x96 .f32) (x : FVec Ideal S2x384x96 .f32) (a : IVec S2x384x96 1) (e : FVec Ideal S2x384x96 .f32) (b : Fin 2) (i j : Fin 384) (ch : Fin 96) :
    k0_pay2 (F := Ideal) U x a e (ix4 b i j ch) = clip (Ideal.div (U (ix4 b i j ch)) (k0_pay1 (F := Ideal) x a e (ix3 b i ch))) := by
  unfold k0_pay2
  generalize k0_pay1 (F := Ideal) x a e = S
  pointwise []
  rfl

theorem front_at (v : FVec Ideal S2x384x384x96 .fp8e4m3) (b : Fin 2) (ch : Fin 96) (i j : Fin 384) :
    k0_pay3 (F := Ideal) v (ix4 b ch i j) = v (ix4 b i j ch) := by
  pointwise [k0_pay3]

/-! The results as plain functions. -/

section Results

variable (z : Vec Ideal S2x384x384x128 .bf16) (mk : Vec Ideal S2x384x384 .f32) (g β : Vec Ideal S128 .f32) (w : Vec Ideal S128x512 .fp8e4m3) (s : Vec Ideal S512 .f32)

/-- The quantised values of the normalised rows. -/
def rq (b : Fin 2) (i j : Fin 384) (d : Fin 128) : EReal := q1R (fun e => z (ix4 b i j e)) (fun e => g (ix1 e)) (fun e => β (ix1 e)) d
/-- Their scales. -/
def rs (b : Fin 2) (i j : Fin 384) : EReal := s1R (fun e => z (ix4 b i j e)) (fun e => g (ix1 e)) (fun e => β (ix1 e))
/-- The masked gated projection of operand `o`. -/
def ru (o : Fin 2) (b : Fin 2) (i j : Fin 384) (ch : Fin 96) : EReal :=
  uR (mk (ix3 b i j)) (rq z g β b i j) (rs z g β b i j) (fun x => w (ix2 x ⟨192 * o.val + ch.val, by omega⟩)) (fun x => w (ix2 x ⟨192 * o.val + 96 + ch.val, by omega⟩))
    (s (ix1 ⟨192 * o.val + ch.val, by omega⟩)) (s (ix1 ⟨192 * o.val + 96 + ch.val, by omega⟩))
/-- The scales of operand `o`. -/
def rsc (o : Fin 2) (b : Fin 2) (i : Fin 384) (ch : Fin 96) : EReal := scl (top (fun j => ru z mk g β w s o b i j ch))
/-- The quantised values of operand `o`. -/
def rc (o : Fin 2) (b : Fin 2) (i j : Fin 384) (ch : Fin 96) : EReal := clip (Ideal.div (ru z mk g β w s o b i j ch) (rsc z mk g β w s o b i ch))

/-! The buffers after the body, at an index. -/

theorem o6_at (b : Fin 2) (i j : Fin 384) (d : Fin 128) : out0_6 (F := Ideal) z mk g β w s (ix4 b i j d) = rq z g β b i j d := by
  unfold out0_6 k0_pay19
  rw [View.canon_unit_zero (by decide), View.ld_unit_zero (S := S2x384x384x128) (by decide), View.ld_unit_zero (S := S128) (by decide), View.ld_unit_zero (S := S128) (by decide)]
  exact pay7_at z g β b i j d

theorem o7_at (b : Fin 2) (i j : Fin 384) : out0_7 (F := Ideal) z mk g β w s (ix3 b i j) = rs z g β b i j := by
  unfold out0_7 k0_pay18
  rw [View.canon_unit_zero (by decide), View.ld_unit_zero (S := S2x384x384x128) (by decide), View.ld_unit_zero (S := S128) (by decide), View.ld_unit_zero (S := S128) (by decide)]
  exact pay6_at z g β b i j

theorem p18 (b : Fin 2) (i j : Fin 384) : k0_pay18 (F := Ideal) z mk g β w s (ix3 b i j) = rs z g β b i j := by
  unfold k0_pay18
  rw [View.ld_unit_zero (S := S2x384x384x128) (by decide), View.ld_unit_zero (S := S128) (by decide), View.ld_unit_zero (S := S128) (by decide)]
  exact pay6_at z g β b i j

theorem p19 (b : Fin 2) (i j : Fin 384) (d : Fin 128) : k0_pay19 (F := Ideal) z mk g β w s (ix4 b i j d) = rq z g β b i j d := by
  unfold k0_pay19
  rw [View.ld_unit_zero (S := S2x384x384x128) (by decide), View.ld_unit_zero (S := S128) (by decide), View.ld_unit_zero (S := S128) (by decide)]
  exact pay7_at z g β b i j d

theorem ldw (o : Nat) (inb) (x : Fin 128) (ch : Fin 96) (h : o + 96 ≤ 512) :
    (View.ld w (Rect.unit (s := S128x512) ![0, o] S128x96.size inb) : Vec Ideal S128x96 .fp8e4m3) (ix2 x ch) = w (ix2 x ⟨o + ch.val, by omega⟩) := by
  rw [View.ld_apply]
  refine congrArg w (funext fun (a : Fin 2) => Fin.ext ?_)
  fin_cases a
  · show 0 + 1 * x.val = x.val; omega
  · show o + 1 * ch.val = o + ch.val; omega

theorem lds (o : Nat) (inb) (ch : Fin 96) (h : o + 96 ≤ 512) :
    (View.ld s (Rect.unit (s := S512) ![o] S96.size inb) : Vec Ideal S96 .f32) (ix1 ch) = s (ix1 ⟨o + ch.val, by omega⟩) := by
  rw [View.ld_apply]
  refine congrArg s (funext fun (a : Fin 1) => Fin.ext ?_)
  fin_cases a
  show o + 1 * ch.val = o + ch.val; omega

/-- The gated projection of either operand, at the two column ranges it reads. -/
theorem U_at (o : Fin 2) (p q : Nat) (hp : p = 192 * o.val) (hq : q = 192 * o.val + 96) (i1 i2 i3 i4) (b : Fin 2) (i j : Fin 384) (ch : Fin 96) :
    k0_pay8 (F := Ideal) (k0_pay18 z mk g β w s) (k0_pay19 z mk g β w s) (View.ld w (Rect.unit (s := S128x512) ![0, p] S128x96.size i1))
      (View.ld s (Rect.unit (s := S512) ![p] S96.size i2)) (View.ld w (Rect.unit (s := S128x512) ![0, q] S128x96.size i3))
      (View.ld s (Rect.unit (s := S512) ![q] S96.size i4)) (View.ld mk r0_2) (ix4 b i j ch) = ru z mk g β w s o b i j ch := by
  subst hp hq
  rw [pay8_at, View.ld_unit_zero (S := S2x384x384) (by decide), p18, lds s _ i2 ch (by omega), lds s _ i4 ch (by omega)]
  simp only [p19, ldw w _ i1 _ ch (by omega : 192 * o.val + 96 ≤ 512), ldw w _ i3 _ ch (by omega : 192 * o.val + 96 + 96 ≤ 512)]
  rfl

theorem Sa_at (b : Fin 2) (i : Fin 384) (ch : Fin 96) :
    k0_pay12 (F := Ideal) (k0_pay20 z mk g β w s) (k0_pay21 z mk g β w s) (Scalar.ofBits .f32 0x3F800000#32) (ix3 b i ch) = rsc z mk g β w s 0 b i ch := by
  refine (scale_at _ b i ch).trans (congrArg scl (congrArg top (funext fun j => ?_)))
  exact U_at z mk g β w s 0 0 96 rfl rfl _ _ _ _ b i j ch

theorem Sb_at (b : Fin 2) (i : Fin 384) (ch : Fin 96) :
    k0_pay1 (F := Ideal) (k0_pay24 z mk g β w s) (k0_pay25 z mk g β w s) (k0_pay26 z mk g β w s) (ix3 b i ch) = rsc z mk g β w s 1 b i ch := by
  refine (scale_at _ b i ch).trans (congrArg scl (congrArg top (funext fun j => ?_)))
  exact U_at z mk g β w s 1 192 288 rfl rfl _ _ _ _ b i j ch

theorem Ca_at (b : Fin 2) (i j : Fin 384) (ch : Fin 96) : k0_pay22 (F := Ideal) z mk g β w s (ix4 b i j ch) = rc z mk g β w s 0 b i j ch := by
  unfold k0_pay22
  rw [code_at, Sa_at]
  exact congrArg clip (congrArg (fun t => Ideal.div t _) (U_at z mk g β w s 0 0 96 rfl rfl _ _ _ _ b i j ch))

theorem Cb_at (b : Fin 2) (i j : Fin 384) (ch : Fin 96) :
    k0_pay2 (F := Ideal) (k0_pay23 z mk g β w s) (k0_pay24 z mk g β w s) (k0_pay25 z mk g β w s) (k0_pay26 z mk g β w s) (ix4 b i j ch) = rc z mk g β w s 1 b i j ch := by
  rw [code_at', Sb_at]
  exact congrArg clip (congrArg (fun t => Ideal.div t _) (U_at z mk g β w s 1 192 288 rfl rfl _ _ _ _ b i j ch))

theorem o8_at (b : Fin 2) (i j : Fin 384) (ch : Fin 96) : out0_8 (F := Ideal) z mk g β w s (ix4 b i j ch) = rc z mk g β w s 0 b i j ch := by
  unfold out0_8
  rw [View.canon_unit_zero (by decide)]
  exact Ca_at z mk g β w s b i j ch

theorem o9_at (b : Fin 2) (i : Fin 384) (ch : Fin 96) : out0_9 (F := Ideal) z mk g β w s (ix3 b i ch) = rsc z mk g β w s 0 b i ch := by
  unfold out0_9
  rw [View.canon_unit_zero (by decide)]
  exact Sa_at z mk g β w s b i ch

theorem o10_at (b : Fin 2) (i j : Fin 384) (ch : Fin 96) : out0_10 (F := Ideal) z mk g β w s (ix4 b i j ch) = rc z mk g β w s 1 b i j ch := by
  unfold out0_10
  rw [View.canon_unit_zero (by decide)]
  exact Cb_at z mk g β w s b i j ch

theorem o11_at (b : Fin 2) (i : Fin 384) (ch : Fin 96) : out0_11 (F := Ideal) z mk g β w s (ix3 b i ch) = rsc z mk g β w s 1 b i ch := by
  unfold out0_11
  rw [View.canon_unit_zero (by decide)]
  exact Sb_at z mk g β w s b i ch

theorem o12_at (b : Fin 2) (ch : Fin 96) (i j : Fin 384) : out0_12 (F := Ideal) z mk g β w s (ix4 b ch i j) = rc z mk g β w s 0 b i j ch := by
  unfold out0_12
  rw [View.canon_unit_zero (by decide), front_at]
  exact Ca_at z mk g β w s b i j ch

theorem o13_at (b : Fin 2) (ch : Fin 96) (i j : Fin 384) : out0_13 (F := Ideal) z mk g β w s (ix4 b ch i j) = rc z mk g β w s 1 b i j ch := by
  unfold out0_13
  rw [View.canon_unit_zero (by decide)]
  exact (front_at _ b ch i j).trans (Cb_at z mk g β w s b i j ch)

end Results

end Cert.OperandsReferenceIdeal.RefVal

end
-- ==== Proof.OperandsValue.lean ====
module

public import proofs.«01_k».proof.Proof.OperandsIdealFrame
public import proofs.«01_k».proof.Proof.OperandsRef

@[expose] public section

set_option maxRecDepth 16384

noncomputable section

namespace Cert.OperandsIdeal.OpVal

open Cert.OperandsIdeal Cert.OperandsIdeal.Gen
open Cert.OperandsReferenceIdeal.RefVal (rq rs ru rsc rc)
open Idealize.ShloMosaic Idealize.ShloMosaic.TcCoe Idealize.SL.Sem

/-- Row `i` and column `j` lie in one sequence, by their segments. -/
abbrev Same (si sj : BitVec 32) : Prop := IntOp.andi (IntOp.cmpi CmpIPredicate.eq sj si) (Scalar.cmpi CmpIPredicate.slt si 4#32) = 1#1

theorem msk_eq (si sj : BitVec 32) (s : EReal) : msk si sj s = if Same si sj then s else 0 := by
  unfold msk Scalar.select
  rfl

section Block

variable (x0 : Vec Ideal S1x32x384x128 .bf16) (x1 : Vec Ideal S128x128 .bf16) (x2 : Vec Ideal S384x128 .fp8e4m3)
  (x3 x4 : Vec Ideal S128x128 .f32) (x5 : Vec Ideal S384x128 .f32) (v0 : BitVec 32) (tI tJ : Fin 4 → BitVec 32)
  (z : Vec Ideal S2x384x384x128 .bf16) (mk : Vec Ideal S2x384x384 .f32) (g β : Vec Ideal S128 .f32) (w : Vec Ideal S128x512 .fp8e4m3) (s : Vec Ideal S512 .f32)
  (b : Fin 2) (ι : Fin 32 → Fin 384)

/-- The blocks of a grid point hold the rows `ι` of batch `b` and the small operands as the host lays them out. -/
structure Holds : Prop where
  h0 : ∀ r j e, x0 (ix4 0 r j e) = z (ix4 b (ι r) j e)
  h1 : ∀ d e, x1 (ix2 d e) = (if d = e then 1 else 0) - Ideal.ofBits .f32 1006632960#32
  h2 : ∀ (m : Fin 384) d, x2 (ix2 m d) = w (ix2 d ⟨m.val, by omega⟩)
  h3 : ∀ d l, x3 (ix2 d l) = g (ix1 d)
  h4 : ∀ d l, x4 (ix2 d l) = β (ix1 d)
  h5 : ∀ (m : Fin 384) l, x5 (ix2 m l) = s (ix1 ⟨m.val, by omega⟩)
  hm : ∀ r j, mk (ix3 b (ι r) j) = if Same (seg (Scalar.addi v0 (BitVec.ofNat 32 r.val)) (tI 0) (tI 1) (tI 2) (tI 3))
    (seg (BitVec.ofNat 32 j.val) (tJ 0) (tJ 1) (tJ 2) (tJ 3)) then (1 : EReal) else 0

variable {x0 x1 x2 x3 x4 x5 v0 tI tJ z mk g β w s b ι}
variable (H : Holds x0 x1 x2 x3 x4 x5 v0 tI tJ z mk g β w s b ι)
include H

theorem y_eq (r : Fin 32) (j : Fin 384) (d : Fin 128) :
    yK x0 x1 x3 x4 r j d = yR (fun e => z (ix4 b (ι r) j e)) d (g (ix1 d)) (β (ix1 d)) := by
  unfold yK
  rw [nrm_eq _ _ H.h1, H.h3, H.h4]
  simp only [H.h0]

theorem s1_eq (r : Fin 32) (j : Fin 384) : s1K x0 x1 x3 x4 r j = rs z g β b (ι r) j := by
  unfold s1K rs s1R
  simp only [y_eq H]

theorem q1_eq (r : Fin 32) (j : Fin 384) (d : Fin 128) : q1K x0 x1 x3 x4 r j d = rq z g β b (ι r) j d := by
  unfold q1K
  rw [y_eq H, s1_eq H]
  rfl

theorem acc_eq (r : Fin 32) (j : Fin 384) (m : Fin 384) :
    accK x0 x1 x2 x3 x4 r j m = ∑ x, rq z g β b (ι r) j x * w (ix2 x ⟨m.val, by omega⟩) := by
  unfold accK
  refine Finset.sum_congr rfl fun d _ => ?_
  rw [H.h2, q1_eq H, mul_comm]

theorem u_eq (o : Fin 2) (r : Fin 32) (j : Fin 384) (ch : Fin 96) :
    uK x0 x1 x2 x3 x4 x5 v0 tI tJ o r j ch * s (ix1 ⟨192 * o.val + ch.val, by omega⟩) = ru z mk g β w s o b (ι r) j ch := by
  unfold uK mK ru uR
  rw [msk_eq, gate_eq, acc_eq H, acc_eq H, s1_eq H, H.h5, H.hm]

theorem sc_eq (o : Fin 2) (r : Fin 32) (ch : Fin 96) (l : Fin 128) :
    scK x0 x1 x2 x3 x4 x5 v0 tI tJ o r ch l = rsc z mk g β w s o b (ι r) ch := by
  unfold scK rsc
  rw [H.h5, ← top_mul]
  simp only [u_eq H]

theorem code_eq (o : Fin 2) (r : Fin 32) (j : Fin 384) (ch : Fin 96) :
    qK x0 x1 x2 x3 x4 x5 v0 tI tJ o r j ch = rc z mk g β w s o b (ι r) j ch := by
  unfold qK rc
  rw [sc_eq H, H.h5]
  unfold rsc
  rw [mul_div_scl, u_eq H]

end Block

section Host

variable (m : (ℓ : Loc nD τ sig) → Buf (Elt Ideal) ℓ)

theorem one_hot (a b : BitVec 32) : ((((IntOp.cmpi CmpIPredicate.eq a b : BitVec 1).toNat : ℕ) : ℝ) : EReal) = if a = b then 1 else 0 := by
  by_cases h : a = b
  · subst h; simp [IntOp.cmpi]
  · rw [if_neg h]; simp [IntOp.cmpi, beq_eq_false_iff_ne.2 h]

/-- The matrix the host builds: the identity less the mean. -/
theorem ctr_at (c : Dev nD) (d e : Fin 128) : (V m c main_v8 : FVec Ideal S128x128 .bf16) (ix2 d e)
    = (if d = e then (1 : EReal) else 0) - Ideal.ofBits .f32 1006632960#32 := by
  entry_read
  pointwise
  refine congrArg (fun t : EReal => t - Ideal.ofBits .f32 1006632960#32) ((one_hot _ _).trans ?_)
  refine if_congr ?_ rfl rfl
  simp [IntOp.addi, Fin.ext_iff, BitVec.ofNat_eq_ofNat, ← BitVec.toNat_inj]
  omega

theorem wt_at (c : Dev nD) (k : Fin 384) (d : Fin 128) : (V m c main_v10 : FVec Ideal S384x128 .fp8e4m3) (ix2 k d)
    = (m ((c : Thread nD τ).loc main_arg4) : FVec Ideal S128x512 .fp8e4m3) (ix2 d ⟨k.val, by omega⟩) := by
  entry_read
  pointwise

theorem g_at (c : Dev nD) (d l : Fin 128) : (V m c main_v12 : FVec Ideal S128x128 .f32) (ix2 d l)
    = (m ((c : Thread nD τ).loc main_arg2) : FVec Ideal S128 .f32) (ix1 d) := by
  entry_read
  pointwise

theorem b_at (c : Dev nD) (d l : Fin 128) : (V m c main_v14 : FVec Ideal S128x128 .f32) (ix2 d l)
    = (m ((c : Thread nD τ).loc main_arg3) : FVec Ideal S128 .f32) (ix1 d) := by
  entry_read
  pointwise

theorem sc_at (c : Dev nD) (k : Fin 384) (l : Fin 128) : (V m c main_v17 : FVec Ideal S384x128 .f32) (ix2 k l)
    = (m ((c : Thread nD τ).loc main_arg5) : FVec Ideal S512 .f32) (ix1 ⟨k.val, by omega⟩) := by
  entry_read
  pointwise

end Host

section Table

variable (m : (ℓ : Loc nD τ sig) → Buf (Elt Ideal) ℓ)

theorem tbl_eq (c : Dev nD) : (tbl m 0 : IVec S2x5 32) = (m ((c : Thread nD τ).loc main_arg1) : IVec S2x5 32) := by
  rw [← V_pre m c 0]
  exact V_main_arg1 m c

theorem TI_at (i : grid0.Coords) (X : IVec S2x5 32) (b : Fin 2) (hb : b.val = (i 0).val) (n : Fin 4) :
    TI i tbM0_0 X n = X (ix2 b ⟨1 + n.val, by omega⟩) := by
  unfold TI trip_k0_t1.sl.r_2 trip_k0_t1.sl.r_3 trip_k0_t1.sl.r_4 trip_k0_t1.sl.r_5
  have e : ∀ (o : Fin 2 → Nat) (n : Nat) (hn : 1 + n < 5) (inb) (q : (⟨2, S1x1.size⟩ : Shape).Idx), o = ![(i 0).val, 1 + n] →
      View.readAt (Elt Ideal) tbM0_0.view (Rect.unit (s := S2x5) o S1x1.size inb).toLoadRect X q = X (ix2 b ⟨1 + n, hn⟩) := by
    intro o n hn inb q ho
    subst ho
    show X _ = X _
    refine congrArg X (funext fun (a : Fin 2) => Fin.ext ?_)
    have q0 : (q 0).val = 0 := Nat.lt_one_iff.1 (q 0).isLt
    have q1 : (q 1).val = 0 := Nat.lt_one_iff.1 (q 1).isLt
    fin_cases a
    · show (i 0).val + 1 * (q 0).val = b.val; omega
    · show 1 + n + 1 * (q 1).val = 1 + n; omega
  fin_cases n
  · exact e _ 0 (by omega) _ _ (k0_off8_eq i)
  · exact e _ 1 (by omega) _ _ (k0_off9_eq i)
  · exact e _ 2 (by omega) _ _ (k0_off10_eq i)
  · exact e _ 3 (by omega) _ _ (k0_off11_eq i)

theorem row_eq : ∀ (a : Fin 12) (r : Fin 32), Scalar.addi (Scalar.muli (BitVec.ofNat 32 a.val) 32#32) (BitVec.ofNat 32 r.val) = BitVec.ofNat 32 (a.val * 32 + r.val) := by
  decide +kernel

end Table

section Ref

theorem bit_eq (si sj : BitVec 32) : FloatOps.uitofp (F := Ideal) FTy.f32 (IntOp.andi (IntOp.cmpi CmpIPredicate.eq si sj) (IntOp.cmpi CmpIPredicate.slt si 4#32))
    = (if Same si sj then 1 else 0 : EReal) := by
  have e : IntOp.cmpi CmpIPredicate.eq si sj = IntOp.cmpi CmpIPredicate.eq sj si := by
    simp only [IntOp.cmpi, Bool.beq_comm]
  rw [e]
  have k : ∀ x : BitVec 1, FloatOps.uitofp (F := Ideal) FTy.f32 x = (if x = 1#1 then 1 else 0 : EReal) := by
    intro x
    obtain rfl | rfl : x = 0#1 ∨ x = 1#1 := by revert x; decide
    · show ((((0#1 : BitVec 1).toNat : ℕ) : ℝ) : EReal) = _
      simp
    · show ((((1#1 : BitVec 1).toNat : ℕ) : ℝ) : EReal) = _
      simp
  exact k _

open Cert.OperandsReferenceIdeal in
theorem ref_mask (m' : (ℓ : Loc Cert.OperandsReferenceIdeal.nD Cert.OperandsReferenceIdeal.τ Cert.OperandsReferenceIdeal.sig) → Buf (Elt Ideal) ℓ) (c : Dev Cert.OperandsReferenceIdeal.nD)
    (cu : IVec S2x5 32) (hcu : m' ((c : Thread Cert.OperandsReferenceIdeal.nD Cert.OperandsReferenceIdeal.τ).loc Cert.OperandsReferenceIdeal.main_arg1) = cu) (b : Fin 2) (i j : Fin 384) :
    (Cert.OperandsReferenceIdeal.Gen.V m' c Cert.OperandsReferenceIdeal.main_v19 : FVec Ideal Cert.OperandsReferenceIdeal.S2x384x384 .f32) (ix3 b i j)
      = (if Same (seg (BitVec.ofNat 32 i.val) (cu (ix2 b 1)) (cu (ix2 b 2)) (cu (ix2 b 3)) (cu (ix2 b 4)))
          (seg (BitVec.ofNat 32 j.val) (cu (ix2 b 1)) (cu (ix2 b 2)) (cu (ix2 b 3)) (cu (ix2 b 4))) then 1 else 0 : EReal) := by
  entry_read
  pointwise
  subst hcu
  have hs : ∀ x : BitVec 32, Finset.fold IntOp.addi (0#32) (fun k : Fin 4 => BitVec.setWidth 32 (IntOp.cmpi CmpIPredicate.sge x
      (m' (c, Proc.tc.devRef Cert.OperandsReferenceIdeal.main_arg1) (ix2 b ⟨1 + k.val, by omega⟩)))) Finset.univ
      = seg x (m' (c, Proc.tc.devRef Cert.OperandsReferenceIdeal.main_arg1) (ix2 b 1)) (m' (c, Proc.tc.devRef Cert.OperandsReferenceIdeal.main_arg1) (ix2 b 2))
        (m' (c, Proc.tc.devRef Cert.OperandsReferenceIdeal.main_arg1) (ix2 b 3)) (m' (c, Proc.tc.devRef Cert.OperandsReferenceIdeal.main_arg1) (ix2 b 4)) := by
    intro x
    refine (show _ = IntOp.addi _ (IntOp.addi _ (IntOp.addi _ (IntOp.addi _ (0#32)))) from rfl).trans ?_
    unfold seg IntOp.addi
    ac_rfl
  rw [hs, hs]
  exact bit_eq _ _

end Ref

section Blocks

variable (m : (ℓ : Loc nD τ sig) → Buf (Elt Ideal) ℓ) (hO : Ok m)

/-- The block index of every window at every grid point. -/
theorem idx (t : Fin (cfgM m hO).N) : (((cfgM m hO).win 0).index t = ![t.val / 12, t.val % 12, 0, 0] ∧ ((cfgM m hO).win 1).index t = ![0, 0] ∧ ((cfgM m hO).win 2).index t = ![0, 0]
    ∧ ((cfgM m hO).win 3).index t = ![0, 0] ∧ ((cfgM m hO).win 4).index t = ![0, 0] ∧ ((cfgM m hO).win 5).index t = ![0, 0])
    ∧ (((cfgM m hO).win 6).index t = ![t.val / 12, t.val % 12, 0, 0] ∧ ((cfgM m hO).win 7).index t = ![t.val / 12, t.val % 12, 0]
    ∧ ((cfgM m hO).win 8).index t = ![t.val / 12, t.val % 12, 0, 0] ∧ ((cfgM m hO).win 9).index t = ![t.val / 12, t.val % 12, 0]
    ∧ ((cfgM m hO).win 10).index t = ![t.val / 12, t.val % 12, 0, 0] ∧ ((cfgM m hO).win 11).index t = ![t.val / 12, t.val % 12, 0]
    ∧ ((cfgM m hO).win 12).index t = ![t.val / 12, 0, t.val % 12, 0] ∧ ((cfgM m hO).win 13).index t = ![t.val / 12, 0, t.val % 12, 0]) ∧ t.val / 12 < 2 :=
  (by decide +kernel : ∀ t : Fin grid0.N, (cc0_transform_0 (grid0.coords t) = ![t.val / 12, t.val % 12, 0, 0] ∧ cc0_transform_1 (grid0.coords t) = ![0, 0] ∧ cc0_transform_2 (grid0.coords t) = ![0, 0]
    ∧ cc0_transform_3 (grid0.coords t) = ![0, 0] ∧ cc0_transform_4 (grid0.coords t) = ![0, 0] ∧ cc0_transform_5 (grid0.coords t) = ![0, 0])
    ∧ (cc0_transform_6 (grid0.coords t) = ![t.val / 12, t.val % 12, 0, 0] ∧ cc0_transform_7 (grid0.coords t) = ![t.val / 12, t.val % 12, 0]
    ∧ cc0_transform_8 (grid0.coords t) = ![t.val / 12, t.val % 12, 0, 0] ∧ cc0_transform_9 (grid0.coords t) = ![t.val / 12, t.val % 12, 0]
    ∧ cc0_transform_10 (grid0.coords t) = ![t.val / 12, t.val % 12, 0, 0] ∧ cc0_transform_11 (grid0.coords t) = ![t.val / 12, t.val % 12, 0]
    ∧ cc0_transform_12 (grid0.coords t) = ![t.val / 12, 0, t.val % 12, 0] ∧ cc0_transform_13 (grid0.coords t) = ![t.val / 12, 0, t.val % 12, 0]) ∧ t.val / 12 < 2) t

theorem crd : ∀ t : Fin grid0.N, (grid0.coords t 0).val = t.val / 12 ∧ (grid0.coords t 1).val = t.val % 12 := by decide +kernel

/-- The rows a grid point works on. -/
def rows (t : Fin (cfgM m hO).N) (r : Fin 32) : Fin 384 := ⟨t.val % 12 * 32 + r.val, by omega⟩

theorem blk0 (c : Dev nD) (t : Fin (cfgM m hO).N) (r : Fin 32) (k : Fin 384) (e : Fin 128) (h : t.val / 12 < 2) :
    (iblk m hO c 0 t : FVec Ideal S1x32x384x128 .bf16) (ix4 0 r k e)
      = (m ((c : Thread nD τ).loc main_arg0) : FVec Ideal S2x384x384x128 .bf16) (ix4 ⟨t.val / 12, h⟩ (rows m hO t r) k e) := by
  unfold rows
  blk_ext [iblk, V_main_arg0, (idx m hO t).1.1]

theorem blk1 (c : Dev nD) (t : Fin (cfgM m hO).N) : iblk m hO c 1 t = V m c main_v8 := by
  blk_ext! [iblk, (idx m hO t).1.2.1]
theorem blk2 (c : Dev nD) (t : Fin (cfgM m hO).N) : iblk m hO c 2 t = V m c main_v10 := by
  blk_ext! [iblk, (idx m hO t).1.2.2.1]
theorem blk3 (c : Dev nD) (t : Fin (cfgM m hO).N) : iblk m hO c 3 t = V m c main_v12 := by
  blk_ext! [iblk, (idx m hO t).1.2.2.2.1]
theorem blk4 (c : Dev nD) (t : Fin (cfgM m hO).N) : iblk m hO c 4 t = V m c main_v14 := by
  blk_ext! [iblk, (idx m hO t).1.2.2.2.2.1]
theorem blk5 (c : Dev nD) (t : Fin (cfgM m hO).N) : iblk m hO c 5 t = V m c main_v17 := by
  blk_ext! [iblk, (idx m hO t).1.2.2.2.2.2]

/-- Some contents of the table: no block's place depends on them. -/
def pf0 : pre0.Contents (Elt Ideal) := fun | 0 => (fun _ => 0#32 : IVec S2x5 32)

/-- Every block of a result is written. -/
theorem cov : ∀ w : Fin (cfgM m hO).W, 6 ≤ w.val → ((cfgM m hO).win w).Covers :=
  (by decide +kernel : ∀ w : Fin (cfg0 (F := Ideal) ⟨pf0, trivial⟩).W, 6 ≤ w.val → ((cfg0 (F := Ideal) ⟨pf0, trivial⟩).win w).Covers)

end Blocks

/-! The results as arrays. -/

/-- The mask of the sequences whose bounds are `cu`. -/
def mkOf (cu : IVec S2x5 32) : Vec Ideal S2x384x384 .f32 := fun y =>
  (if Same (seg (BitVec.ofNat 32 (y 1).val) (cu (ix2 (y 0) 1)) (cu (ix2 (y 0) 2)) (cu (ix2 (y 0) 3)) (cu (ix2 (y 0) 4)))
    (seg (BitVec.ofNat 32 (y 2).val) (cu (ix2 (y 0) 1)) (cu (ix2 (y 0) 2)) (cu (ix2 (y 0) 3)) (cu (ix2 (y 0) 4))) then 1 else 0 : EReal)

section Arrays

variable (z : Vec Ideal S2x384x384x128 .bf16) (mk : Vec Ideal S2x384x384 .f32) (g β : Vec Ideal S128 .f32) (w : Vec Ideal S128x512 .fp8e4m3) (s : Vec Ideal S512 .f32)

def Rln : Vec Ideal S2x384x384x128 .fp8e4m3 := fun y => rq z g β (y 0) (y 1) (y 2) (y 3)
def Rs1 : Vec Ideal S2x384x384 .f32 := fun y => rs z g β (y 0) (y 1) (y 2)
def Rq (o : Fin 2) : Vec Ideal S2x384x384x96 .fp8e4m3 := fun y => rc z mk g β w s o (y 0) (y 1) (y 2) (y 3)
def Rs (o : Fin 2) : Vec Ideal S2x384x96 .f32 := fun y => rsc z mk g β w s o (y 0) (y 1) (y 2)
def Rt (o : Fin 2) : Vec Ideal S2x96x384x384 .fp8e4m3 := fun y => rc z mk g β w s o (y 0) (y 2) (y 3) (y 1)

end Arrays

section Kernel

variable (m : (ℓ : Loc nD τ sig) → Buf (Elt Ideal) ℓ) (hO : Ok m) (c : Dev nD)

abbrev a0 : Vec Ideal S2x384x384x128 .bf16 := m ((c : Thread nD τ).loc main_arg0)
abbrev a1 : IVec S2x5 32 := m ((c : Thread nD τ).loc main_arg1)
abbrev a2 : Vec Ideal S128 .f32 := m ((c : Thread nD τ).loc main_arg2)
abbrev a3 : Vec Ideal S128 .f32 := m ((c : Thread nD τ).loc main_arg3)
abbrev a4 : Vec Ideal S128x512 .fp8e4m3 := m ((c : Thread nD τ).loc main_arg4)
abbrev a5 : Vec Ideal S512 .f32 := m ((c : Thread nD τ).loc main_arg5)

theorem holds (t : Fin (cfgM m hO).N) (h : t.val / 12 < 2) :
    Holds (iblk m hO c 0 t) (iblk m hO c 1 t) (iblk m hO c 2 t) (iblk m hO c 3 t) (iblk m hO c 4 t) (iblk m hO c 5 t) (vv (grid0.coords t))
      (TI (grid0.coords t) tbM0_0 (tbl m 0)) (TI (grid0.coords t) tbM0_0 (tbl m 0)) (a0 m c) (mkOf (a1 m c)) (a2 m c) (a3 m c) (a4 m c) (a5 m c)
      ⟨t.val / 12, h⟩ (rows m hO t) where
  h0 r j e := blk0 m hO c t r j e h
  h1 d e := (congrFun (blk1 m hO c t) (ix2 d e)).trans (ctr_at m c d e)
  h2 k d := (congrFun (blk2 m hO c t) (ix2 k d)).trans (wt_at m c k d)
  h3 d l := (congrFun (blk3 m hO c t) (ix2 d l)).trans (g_at m c d l)
  h4 d l := (congrFun (blk4 m hO c t) (ix2 d l)).trans (b_at m c d l)
  h5 k l := (congrFun (blk5 m hO c t) (ix2 k l)).trans (sc_at m c k l)
  hm r j := by
    have hT : ∀ n, TI (grid0.coords t) tbM0_0 (tbl m 0) n = (a1 m c) (ix2 ⟨t.val / 12, h⟩ ⟨1 + n.val, by omega⟩) := fun n => by
      rw [TI_at (grid0.coords t) (tbl m 0) ⟨t.val / 12, h⟩ (crd t).1.symm n, tbl_eq m c]
    have hv : Scalar.addi (vv (grid0.coords t)) (BitVec.ofNat 32 r.val) = BitVec.ofNat 32 (t.val % 12 * 32 + r.val) := by
      unfold vv
      rw [(crd t).2]
      exact row_eq ⟨t.val % 12, by omega⟩ r
    rw [hT, hT, hT, hT, hv]
    rfl

end Kernel

end Cert.OperandsIdeal.OpVal

end
-- ==== Proof.OperandsResults.lean ====
module

public import proofs.«01_k».proof.Proof.OperandsValue

@[expose] public section

set_option maxRecDepth 16384

noncomputable section

namespace Cert.OperandsIdeal.OpVal

open Cert.OperandsIdeal Cert.OperandsIdeal.Gen
open Cert.OperandsReferenceIdeal.RefVal (rq rs ru rsc rc)
open Idealize.ShloMosaic Idealize.ShloMosaic.TcCoe Idealize.SL.Sem

section Kernel

variable (m : (ℓ : Loc nD τ sig) → Buf (Elt Ideal) ℓ) (hO : Ok m) (c : Dev nD)

theorem pt6 (t : Fin (cfgM m hO).N) (h : t.val / 12 < 2) (y : S1x32x384x128.Idx) :
    o6 (iblk m hO c 0 t) (iblk m hO c 1 t) (iblk m hO c 3 t) (iblk m hO c 4 t) y = (Rln (a0 m c) (a2 m c) (a3 m c)) (ix4 ⟨t.val / 12, h⟩ (rows m hO t (y 1)) (y 2) (y 3)) :=
  q1_eq (holds m hO c t h) (y 1) (y 2) (y 3)

theorem fin6 : (dats m hO 0 c).arrAt 6 (cfgM m hO).N = Rln (a0 m c) (a2 m c) (a3 m c) := by
  refine (dats m hO 0 c).arrAt_eq_of_covers 6 _ (cov m hO 6 (Nat.le_of_ble_eq_true rfl)) fun t _ y => ?_
  blk_simp
  rw [after0_6]
  refine (pt6 m hO c t (idx m hO t).2.2 y).trans (congrArg (Rln (a0 m c) (a2 m c) (a3 m c)) ?_)
  funext a
  apply Fin.ext
  match a with
  | ⟨0, _⟩ => blk_simp [(idx m hO t).2.1.1]
  | ⟨1, _⟩ => blk_simp [(idx m hO t).2.1.1]; rfl
  | ⟨2, _⟩ => blk_simp [(idx m hO t).2.1.1]; rfl
  | ⟨3, _⟩ => blk_simp [(idx m hO t).2.1.1]; rfl

theorem pt7 (t : Fin (cfgM m hO).N) (h : t.val / 12 < 2) (y : S1x32x384.Idx) :
    o7 (iblk m hO c 0 t) (iblk m hO c 1 t) (iblk m hO c 3 t) (iblk m hO c 4 t) y = (Rs1 (a0 m c) (a2 m c) (a3 m c)) (ix3 ⟨t.val / 12, h⟩ (rows m hO t (y 1)) (y 2)) :=
  s1_eq (holds m hO c t h) (y 1) (y 2)

theorem fin7 : (dats m hO 0 c).arrAt 7 (cfgM m hO).N = Rs1 (a0 m c) (a2 m c) (a3 m c) := by
  refine (dats m hO 0 c).arrAt_eq_of_covers 7 _ (cov m hO 7 (Nat.le_of_ble_eq_true rfl)) fun t _ y => ?_
  blk_simp
  rw [after0_7]
  refine (pt7 m hO c t (idx m hO t).2.2 y).trans (congrArg (Rs1 (a0 m c) (a2 m c) (a3 m c)) ?_)
  funext a
  apply Fin.ext
  match a with
  | ⟨0, _⟩ => blk_simp [(idx m hO t).2.1.2.1]
  | ⟨1, _⟩ => blk_simp [(idx m hO t).2.1.2.1]; rfl
  | ⟨2, _⟩ => blk_simp [(idx m hO t).2.1.2.1]; rfl

theorem pt8 (t : Fin (cfgM m hO).N) (h : t.val / 12 < 2) (y : S1x32x384x96.Idx) :
    o8 c (grid0.coords t) (iblk m hO c 0 t) (iblk m hO c 1 t) (iblk m hO c 2 t) (iblk m hO c 3 t) (iblk m hO c 4 t) (iblk m hO c 5 t) (tbl m 0) y = (Rq (a0 m c) (mkOf (a1 m c)) (a2 m c) (a3 m c) (a4 m c) (a5 m c) 0) (ix4 ⟨t.val / 12, h⟩ (rows m hO t (y 1)) (y 2) (y 3)) :=
  code_eq (holds m hO c t h) 0 (y 1) (y 2) (y 3)

theorem fin8 : (dats m hO 0 c).arrAt 8 (cfgM m hO).N = Rq (a0 m c) (mkOf (a1 m c)) (a2 m c) (a3 m c) (a4 m c) (a5 m c) 0 := by
  refine (dats m hO 0 c).arrAt_eq_of_covers 8 _ (cov m hO 8 (Nat.le_of_ble_eq_true rfl)) fun t _ y => ?_
  blk_simp
  rw [after0_8]
  refine (pt8 m hO c t (idx m hO t).2.2 y).trans (congrArg (Rq (a0 m c) (mkOf (a1 m c)) (a2 m c) (a3 m c) (a4 m c) (a5 m c) 0) ?_)
  funext a
  apply Fin.ext
  match a with
  | ⟨0, _⟩ => blk_simp [(idx m hO t).2.1.2.2.1]
  | ⟨1, _⟩ => blk_simp [(idx m hO t).2.1.2.2.1]; rfl
  | ⟨2, _⟩ => blk_simp [(idx m hO t).2.1.2.2.1]; rfl
  | ⟨3, _⟩ => blk_simp [(idx m hO t).2.1.2.2.1]; rfl

theorem pt9 (t : Fin (cfgM m hO).N) (h : t.val / 12 < 2) (y : S1x32x96.Idx) :
    o9 c (grid0.coords t) (iblk m hO c 0 t) (iblk m hO c 1 t) (iblk m hO c 2 t) (iblk m hO c 3 t) (iblk m hO c 4 t) (iblk m hO c 5 t) (tbl m 0) y = (Rs (a0 m c) (mkOf (a1 m c)) (a2 m c) (a3 m c) (a4 m c) (a5 m c) 0) (ix3 ⟨t.val / 12, h⟩ (rows m hO t (y 1)) (y 2)) :=
  sc_eq (holds m hO c t h) 0 (y 1) (y 2) _

theorem fin9 : (dats m hO 0 c).arrAt 9 (cfgM m hO).N = Rs (a0 m c) (mkOf (a1 m c)) (a2 m c) (a3 m c) (a4 m c) (a5 m c) 0 := by
  refine (dats m hO 0 c).arrAt_eq_of_covers 9 _ (cov m hO 9 (Nat.le_of_ble_eq_true rfl)) fun t _ y => ?_
  blk_simp
  rw [after0_9]
  refine (pt9 m hO c t (idx m hO t).2.2 y).trans (congrArg (Rs (a0 m c) (mkOf (a1 m c)) (a2 m c) (a3 m c) (a4 m c) (a5 m c) 0) ?_)
  funext a
  apply Fin.ext
  match a with
  | ⟨0, _⟩ => blk_simp [(idx m hO t).2.1.2.2.2.1]
  | ⟨1, _⟩ => blk_simp [(idx m hO t).2.1.2.2.2.1]; rfl
  | ⟨2, _⟩ => blk_simp [(idx m hO t).2.1.2.2.2.1]; rfl

theorem pt10 (t : Fin (cfgM m hO).N) (h : t.val / 12 < 2) (y : S1x32x384x96.Idx) :
    o10 c (grid0.coords t) (iblk m hO c 0 t) (iblk m hO c 1 t) (iblk m hO c 2 t) (iblk m hO c 3 t) (iblk m hO c 4 t) (iblk m hO c 5 t) (tbl m 0) y = (Rq (a0 m c) (mkOf (a1 m c)) (a2 m c) (a3 m c) (a4 m c) (a5 m c) 1) (ix4 ⟨t.val / 12, h⟩ (rows m hO t (y 1)) (y 2) (y 3)) :=
  code_eq (holds m hO c t h) 1 (y 1) (y 2) (y 3)

theorem fin10 : (dats m hO 0 c).arrAt 10 (cfgM m hO).N = Rq (a0 m c) (mkOf (a1 m c)) (a2 m c) (a3 m c) (a4 m c) (a5 m c) 1 := by
  refine (dats m hO 0 c).arrAt_eq_of_covers 10 _ (cov m hO 10 (Nat.le_of_ble_eq_true rfl)) fun t _ y => ?_
  blk_simp
  rw [after0_10]
  refine (pt10 m hO c t (idx m hO t).2.2 y).trans (congrArg (Rq (a0 m c) (mkOf (a1 m c)) (a2 m c) (a3 m c) (a4 m c) (a5 m c) 1) ?_)
  funext a
  apply Fin.ext
  match a with
  | ⟨0, _⟩ => blk_simp [(idx m hO t).2.1.2.2.2.2.1]
  | ⟨1, _⟩ => blk_simp [(idx m hO t).2.1.2.2.2.2.1]; rfl
  | ⟨2, _⟩ => blk_simp [(idx m hO t).2.1.2.2.2.2.1]; rfl
  | ⟨3, _⟩ => blk_simp [(idx m hO t).2.1.2.2.2.2.1]; rfl

theorem pt11 (t : Fin (cfgM m hO).N) (h : t.val / 12 < 2) (y : S1x32x96.Idx) :
    o11 c (grid0.coords t) (iblk m hO c 0 t) (iblk m hO c 1 t) (iblk m hO c 2 t) (iblk m hO c 3 t) (iblk m hO c 4 t) (iblk m hO c 5 t) (tbl m 0) y = (Rs (a0 m c) (mkOf (a1 m c)) (a2 m c) (a3 m c) (a4 m c) (a5 m c) 1) (ix3 ⟨t.val / 12, h⟩ (rows m hO t (y 1)) (y 2)) :=
  sc_eq (holds m hO c t h) 1 (y 1) (y 2) _

theorem fin11 : (dats m hO 0 c).arrAt 11 (cfgM m hO).N = Rs (a0 m c) (mkOf (a1 m c)) (a2 m c) (a3 m c) (a4 m c) (a5 m c) 1 := by
  refine (dats m hO 0 c).arrAt_eq_of_covers 11 _ (cov m hO 11 (Nat.le_of_ble_eq_true rfl)) fun t _ y => ?_
  blk_simp
  rw [after0_11]
  refine (pt11 m hO c t (idx m hO t).2.2 y).trans (congrArg (Rs (a0 m c) (mkOf (a1 m c)) (a2 m c) (a3 m c) (a4 m c) (a5 m c) 1) ?_)
  funext a
  apply Fin.ext
  match a with
  | ⟨0, _⟩ => blk_simp [(idx m hO t).2.1.2.2.2.2.2.1]
  | ⟨1, _⟩ => blk_simp [(idx m hO t).2.1.2.2.2.2.2.1]; rfl
  | ⟨2, _⟩ => blk_simp [(idx m hO t).2.1.2.2.2.2.2.1]; rfl

theorem pt12 (t : Fin (cfgM m hO).N) (h : t.val / 12 < 2) (y : S1x96x32x384.Idx) :
    o12 c (grid0.coords t) (iblk m hO c 0 t) (iblk m hO c 1 t) (iblk m hO c 2 t) (iblk m hO c 3 t) (iblk m hO c 4 t) (iblk m hO c 5 t) (tbl m 0) y = (Rt (a0 m c) (mkOf (a1 m c)) (a2 m c) (a3 m c) (a4 m c) (a5 m c) 0) (ix4 ⟨t.val / 12, h⟩ (y 1) (rows m hO t (y 2)) (y 3)) :=
  code_eq (holds m hO c t h) 0 (y 2) (y 3) (y 1)

theorem fin12 : (dats m hO 0 c).arrAt 12 (cfgM m hO).N = Rt (a0 m c) (mkOf (a1 m c)) (a2 m c) (a3 m c) (a4 m c) (a5 m c) 0 := by
  refine (dats m hO 0 c).arrAt_eq_of_covers 12 _ (cov m hO 12 (Nat.le_of_ble_eq_true rfl)) fun t _ y => ?_
  blk_simp
  rw [after0_12]
  refine (pt12 m hO c t (idx m hO t).2.2 y).trans (congrArg (Rt (a0 m c) (mkOf (a1 m c)) (a2 m c) (a3 m c) (a4 m c) (a5 m c) 0) ?_)
  funext a
  apply Fin.ext
  match a with
  | ⟨0, _⟩ => blk_simp [(idx m hO t).2.1.2.2.2.2.2.2.1]
  | ⟨1, _⟩ => blk_simp [(idx m hO t).2.1.2.2.2.2.2.2.1]; rfl
  | ⟨2, _⟩ => blk_simp [(idx m hO t).2.1.2.2.2.2.2.2.1]; rfl
  | ⟨3, _⟩ => blk_simp [(idx m hO t).2.1.2.2.2.2.2.2.1]; rfl

theorem pt13 (t : Fin (cfgM m hO).N) (h : t.val / 12 < 2) (y : S1x96x32x384.Idx) :
    o13 c (grid0.coords t) (iblk m hO c 0 t) (iblk m hO c 1 t) (iblk m hO c 2 t) (iblk m hO c 3 t) (iblk m hO c 4 t) (iblk m hO c 5 t) (tbl m 0) y = (Rt (a0 m c) (mkOf (a1 m c)) (a2 m c) (a3 m c) (a4 m c) (a5 m c) 1) (ix4 ⟨t.val / 12, h⟩ (y 1) (rows m hO t (y 2)) (y 3)) :=
  code_eq (holds m hO c t h) 1 (y 2) (y 3) (y 1)

theorem fin13 : (dats m hO 0 c).arrAt 13 (cfgM m hO).N = Rt (a0 m c) (mkOf (a1 m c)) (a2 m c) (a3 m c) (a4 m c) (a5 m c) 1 := by
  refine (dats m hO 0 c).arrAt_eq_of_covers 13 _ (cov m hO 13 (Nat.le_of_ble_eq_true rfl)) fun t _ y => ?_
  blk_simp
  rw [after0_13]
  refine (pt13 m hO c t (idx m hO t).2.2 y).trans (congrArg (Rt (a0 m c) (mkOf (a1 m c)) (a2 m c) (a3 m c) (a4 m c) (a5 m c) 1) ?_)
  funext a
  apply Fin.ext
  match a with
  | ⟨0, _⟩ => blk_simp [(idx m hO t).2.1.2.2.2.2.2.2.2]
  | ⟨1, _⟩ => blk_simp [(idx m hO t).2.1.2.2.2.2.2.2.2]; rfl
  | ⟨2, _⟩ => blk_simp [(idx m hO t).2.1.2.2.2.2.2.2.2]; rfl
  | ⟨3, _⟩ => blk_simp [(idx m hO t).2.1.2.2.2.2.2.2.2]; rfl

omit c in
include hO in
/-- The run: each result array at its function of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v18_0) = Rln (a0 m c) (a2 m c) (a3 m c)
      ∧ r.2.mem ((c.tc : Thread nD τ).loc main_v18_1) = Rs1 (a0 m c) (a2 m c) (a3 m c)
      ∧ r.2.mem ((c.tc : Thread nD τ).loc main_v18_2) = Rq (a0 m c) (mkOf (a1 m c)) (a2 m c) (a3 m c) (a4 m c) (a5 m c) 0
      ∧ r.2.mem ((c.tc : Thread nD τ).loc main_v18_3) = Rs (a0 m c) (mkOf (a1 m c)) (a2 m c) (a3 m c) (a4 m c) (a5 m c) 0
      ∧ r.2.mem ((c.tc : Thread nD τ).loc main_v18_4) = Rq (a0 m c) (mkOf (a1 m c)) (a2 m c) (a3 m c) (a4 m c) (a5 m c) 1
      ∧ r.2.mem ((c.tc : Thread nD τ).loc main_v18_5) = Rs (a0 m c) (mkOf (a1 m c)) (a2 m c) (a3 m c) (a4 m c) (a5 m c) 1
      ∧ r.2.mem ((c.tc : Thread nD τ).loc main_v18_6) = Rt (a0 m c) (mkOf (a1 m c)) (a2 m c) (a3 m c) (a4 m c) (a5 m c) 0
      ∧ r.2.mem ((c.tc : Thread nD τ).loc main_v18_7) = Rt (a0 m c) (mkOf (a1 m c)) (a2 m c) (a3 m c) (a4 m c) (a5 m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (fin6 m hO c), ((h.1 c).1 7).trans (fin7 m hO c), ((h.1 c).1 8).trans (fin8 m hO c), ((h.1 c).1 9).trans (fin9 m hO c), ((h.1 c).1 10).trans (fin10 m hO c), ((h.1 c).1 11).trans (fin11 m hO c), ((h.1 c).1 12).trans (fin12 m hO c), ((h.1 c).1 13).trans (fin13 m hO c), h.2 c⟩)
    (θ_run_and (run_main m ρ hO) (unchanged m ρ hO))

end Kernel

end Cert.OperandsIdeal.OpVal

end
-- ==== Proof.OperandsRefArr.lean ====
module

public import proofs.«01_k».proof.Proof.OperandsValue

@[expose] public section

set_option maxRecDepth 16384

noncomputable section

namespace Cert.OperandsReferenceIdeal.RefVal

open Cert.OperandsReferenceIdeal Cert.OperandsReferenceIdeal.Gen
open Cert.OperandsIdeal.OpVal (mkOf ref_mask Rln Rs1 Rq Rs Rt)
open Idealize.ShloMosaic Idealize.ShloMosaic.TcCoe Idealize.SL.Sem

variable (m : (ℓ : Loc nD τ sig) → Buf (Elt Ideal) ℓ) (c : Dev nD)

abbrev b0 : Vec Ideal S2x384x384x128 .bf16 := m ((c : Thread nD τ).loc main_arg0)
abbrev b1 : IVec S2x5 32 := m ((c : Thread nD τ).loc main_arg1)
abbrev b2 : Vec Ideal S128 .f32 := m ((c : Thread nD τ).loc main_arg2)
abbrev b3 : Vec Ideal S128 .f32 := m ((c : Thread nD τ).loc main_arg3)
abbrev b4 : Vec Ideal S128x512 .fp8e4m3 := m ((c : Thread nD τ).loc main_arg4)
abbrev b5 : Vec Ideal S512 .f32 := m ((c : Thread nD τ).loc main_arg5)

/-- The reference's call has one grid point, and every window is the whole array. -/
theorem idx : ∀ t : Fin cfg0.N, ((cfg0.win 0).index t = ![0, 0, 0, 0] ∧ (cfg0.win 1).index t = ![0, 0, 0] ∧ (cfg0.win 2).index t = ![0]
    ∧ (cfg0.win 3).index t = ![0] ∧ (cfg0.win 4).index t = ![0, 0] ∧ (cfg0.win 5).index t = ![0])
    ∧ (cfg0.win 6).index t = ![0, 0, 0, 0] ∧ (cfg0.win 7).index t = ![0, 0, 0] ∧ (cfg0.win 8).index t = ![0, 0, 0, 0] ∧ (cfg0.win 9).index t = ![0, 0, 0]
    ∧ (cfg0.win 10).index t = ![0, 0, 0, 0] ∧ (cfg0.win 11).index t = ![0, 0, 0] ∧ (cfg0.win 12).index t = ![0, 0, 0, 0] ∧ (cfg0.win 13).index t = ![0, 0, 0, 0] := by
  decide +kernel

theorem blk0 (t : Fin cfg0.N) : iblk m c 0 t = V m c main_arg0 := by
  blk_ext! [iblk, (idx t).1.1]
theorem blk1 (t : Fin cfg0.N) : iblk m c 1 t = V m c main_v19 := by
  blk_ext! [iblk, (idx t).1.2.1]
theorem blk2 (t : Fin cfg0.N) : iblk m c 2 t = V m c main_arg2 := by
  blk_ext! [iblk, (idx t).1.2.2.1]
theorem blk3 (t : Fin cfg0.N) : iblk m c 3 t = V m c main_arg3 := by
  blk_ext! [iblk, (idx t).1.2.2.2.1]
theorem blk4 (t : Fin cfg0.N) : iblk m c 4 t = V m c main_arg4 := by
  blk_ext! [iblk, (idx t).1.2.2.2.2.1]
theorem blk5 (t : Fin cfg0.N) : iblk m c 5 t = V m c main_arg5 := by
  blk_ext! [iblk, (idx t).1.2.2.2.2.2]

/-- The mask the reference makes of the bounds. -/
theorem mask : V m c main_v19 = mkOf (b1 m c) := by
  funext y
  rw [eq_ix3 y]
  exact ref_mask m c _ rfl _ _ _

theorem pt6 (z : Vec Ideal S2x384x384x128 .bf16) (mk : Vec Ideal S2x384x384 .f32) (g β : Vec Ideal S128 .f32) (w : Vec Ideal S128x512 .fp8e4m3) (s : Vec Ideal S512 .f32)
    (y : S2x384x384x128.Idx) : out0_6 (F := Ideal) z mk g β w s y = Rln z g β y :=
  (congrArg _ (eq_ix4 y)).trans (o6_at z mk g β w s (y 0) (y 1) (y 2) (y 3))

theorem fin6 : (dats m 0 c).arrAt 6 (cfgs 0).N = Rln (b0 m c) (b2 m c) (b3 m c) := by
  refine (dats m 0 c).arrAt_eq_of_covers 6 _ (by decide +kernel) fun t _ y => ?_
  blk_simp
  rw [after0_6, blk0, blk1, blk2, blk3, blk4, blk5, mask]
  refine (pt6 (b0 m c) (mkOf (b1 m c)) (b2 m c) (b3 m c) (b4 m c) (b5 m c) y).trans (congrArg (Rln (b0 m c) (b2 m c) (b3 m c)) ?_)
  funext a
  apply Fin.ext
  match a with
  | ⟨0, _⟩ => blk_simp [(idx t).2.1]
  | ⟨1, _⟩ => blk_simp [(idx t).2.1]
  | ⟨2, _⟩ => blk_simp [(idx t).2.1]
  | ⟨3, _⟩ => blk_simp [(idx t).2.1]

theorem pt7 (z : Vec Ideal S2x384x384x128 .bf16) (mk : Vec Ideal S2x384x384 .f32) (g β : Vec Ideal S128 .f32) (w : Vec Ideal S128x512 .fp8e4m3) (s : Vec Ideal S512 .f32)
    (y : S2x384x384.Idx) : out0_7 (F := Ideal) z mk g β w s y = Rs1 z g β y :=
  (congrArg _ (eq_ix3 y)).trans (o7_at z mk g β w s (y 0) (y 1) (y 2))

theorem fin7 : (dats m 0 c).arrAt 7 (cfgs 0).N = Rs1 (b0 m c) (b2 m c) (b3 m c) := by
  refine (dats m 0 c).arrAt_eq_of_covers 7 _ (by decide +kernel) fun t _ y => ?_
  blk_simp
  rw [after0_7, blk0, blk1, blk2, blk3, blk4, blk5, mask]
  refine (pt7 (b0 m c) (mkOf (b1 m c)) (b2 m c) (b3 m c) (b4 m c) (b5 m c) y).trans (congrArg (Rs1 (b0 m c) (b2 m c) (b3 m c)) ?_)
  funext a
  apply Fin.ext
  match a with
  | ⟨0, _⟩ => blk_simp [(idx t).2.2.1]
  | ⟨1, _⟩ => blk_simp [(idx t).2.2.1]
  | ⟨2, _⟩ => blk_simp [(idx t).2.2.1]

theorem pt8 (z : Vec Ideal S2x384x384x128 .bf16) (mk : Vec Ideal S2x384x384 .f32) (g β : Vec Ideal S128 .f32) (w : Vec Ideal S128x512 .fp8e4m3) (s : Vec Ideal S512 .f32)
    (y : S2x384x384x96.Idx) : out0_8 (F := Ideal) z mk g β w s y = Rq z mk g β w s 0 y :=
  (congrArg _ (eq_ix4 y)).trans (o8_at z mk g β w s (y 0) (y 1) (y 2) (y 3))

theorem fin8 : (dats m 0 c).arrAt 8 (cfgs 0).N = Rq (b0 m c) (mkOf (b1 m c)) (b2 m c) (b3 m c) (b4 m c) (b5 m c) 0 := by
  refine (dats m 0 c).arrAt_eq_of_covers 8 _ (by decide +kernel) fun t _ y => ?_
  blk_simp
  rw [after0_8, blk0, blk1, blk2, blk3, blk4, blk5, mask]
  refine (pt8 (b0 m c) (mkOf (b1 m c)) (b2 m c) (b3 m c) (b4 m c) (b5 m c) y).trans (congrArg (Rq (b0 m c) (mkOf (b1 m c)) (b2 m c) (b3 m c) (b4 m c) (b5 m c) 0) ?_)
  funext a
  apply Fin.ext
  match a with
  | ⟨0, _⟩ => blk_simp [(idx t).2.2.2.1]
  | ⟨1, _⟩ => blk_simp [(idx t).2.2.2.1]
  | ⟨2, _⟩ => blk_simp [(idx t).2.2.2.1]
  | ⟨3, _⟩ => blk_simp [(idx t).2.2.2.1]

theorem pt9 (z : Vec Ideal S2x384x384x128 .bf16) (mk : Vec Ideal S2x384x384 .f32) (g β : Vec Ideal S128 .f32) (w : Vec Ideal S128x512 .fp8e4m3) (s : Vec Ideal S512 .f32)
    (y : S2x384x96.Idx) : out0_9 (F := Ideal) z mk g β w s y = Rs z mk g β w s 0 y :=
  (congrArg _ (eq_ix3 y)).trans (o9_at z mk g β w s (y 0) (y 1) (y 2))

theorem fin9 : (dats m 0 c).arrAt 9 (cfgs 0).N = Rs (b0 m c) (mkOf (b1 m c)) (b2 m c) (b3 m c) (b4 m c) (b5 m c) 0 := by
  refine (dats m 0 c).arrAt_eq_of_covers 9 _ (by decide +kernel) fun t _ y => ?_
  blk_simp
  rw [after0_9, blk0, blk1, blk2, blk3, blk4, blk5, mask]
  refine (pt9 (b0 m c) (mkOf (b1 m c)) (b2 m c) (b3 m c) (b4 m c) (b5 m c) y).trans (congrArg (Rs (b0 m c) (mkOf (b1 m c)) (b2 m c) (b3 m c) (b4 m c) (b5 m c) 0) ?_)
  funext a
  apply Fin.ext
  match a with
  | ⟨0, _⟩ => blk_simp [(idx t).2.2.2.2.1]
  | ⟨1, _⟩ => blk_simp [(idx t).2.2.2.2.1]
  | ⟨2, _⟩ => blk_simp [(idx t).2.2.2.2.1]

theorem pt10 (z : Vec Ideal S2x384x384x128 .bf16) (mk : Vec Ideal S2x384x384 .f32) (g β : Vec Ideal S128 .f32) (w : Vec Ideal S128x512 .fp8e4m3) (s : Vec Ideal S512 .f32)
    (y : S2x384x384x96.Idx) : out0_10 (F := Ideal) z mk g β w s y = Rq z mk g β w s 1 y :=
  (congrArg _ (eq_ix4 y)).trans (o10_at z mk g β w s (y 0) (y 1) (y 2) (y 3))

theorem fin10 : (dats m 0 c).arrAt 10 (cfgs 0).N = Rq (b0 m c) (mkOf (b1 m c)) (b2 m c) (b3 m c) (b4 m c) (b5 m c) 1 := by
  refine (dats m 0 c).arrAt_eq_of_covers 10 _ (by decide +kernel) fun t _ y => ?_
  blk_simp
  rw [after0_10, blk0, blk1, blk2, blk3, blk4, blk5, mask]
  refine (pt10 (b0 m c) (mkOf (b1 m c)) (b2 m c) (b3 m c) (b4 m c) (b5 m c) y).trans (congrArg (Rq (b0 m c) (mkOf (b1 m c)) (b2 m c) (b3 m c) (b4 m c) (b5 m c) 1) ?_)
  funext a
  apply Fin.ext
  match a with
  | ⟨0, _⟩ => blk_simp [(idx t).2.2.2.2.2.1]
  | ⟨1, _⟩ => blk_simp [(idx t).2.2.2.2.2.1]
  | ⟨2, _⟩ => blk_simp [(idx t).2.2.2.2.2.1]
  | ⟨3, _⟩ => blk_simp [(idx t).2.2.2.2.2.1]

theorem pt11 (z : Vec Ideal S2x384x384x128 .bf16) (mk : Vec Ideal S2x384x384 .f32) (g β : Vec Ideal S128 .f32) (w : Vec Ideal S128x512 .fp8e4m3) (s : Vec Ideal S512 .f32)
    (y : S2x384x96.Idx) : out0_11 (F := Ideal) z mk g β w s y = Rs z mk g β w s 1 y :=
  (congrArg _ (eq_ix3 y)).trans (o11_at z mk g β w s (y 0) (y 1) (y 2))

theorem fin11 : (dats m 0 c).arrAt 11 (cfgs 0).N = Rs (b0 m c) (mkOf (b1 m c)) (b2 m c) (b3 m c) (b4 m c) (b5 m c) 1 := by
  refine (dats m 0 c).arrAt_eq_of_covers 11 _ (by decide +kernel) fun t _ y => ?_
  blk_simp
  rw [after0_11, blk0, blk1, blk2, blk3, blk4, blk5, mask]
  refine (pt11 (b0 m c) (mkOf (b1 m c)) (b2 m c) (b3 m c) (b4 m c) (b5 m c) y).trans (congrArg (Rs (b0 m c) (mkOf (b1 m c)) (b2 m c) (b3 m c) (b4 m c) (b5 m c) 1) ?_)
  funext a
  apply Fin.ext
  match a with
  | ⟨0, _⟩ => blk_simp [(idx t).2.2.2.2.2.2.1]
  | ⟨1, _⟩ => blk_simp [(idx t).2.2.2.2.2.2.1]
  | ⟨2, _⟩ => blk_simp [(idx t).2.2.2.2.2.2.1]

theorem pt12 (z : Vec Ideal S2x384x384x128 .bf16) (mk : Vec Ideal S2x384x384 .f32) (g β : Vec Ideal S128 .f32) (w : Vec Ideal S128x512 .fp8e4m3) (s : Vec Ideal S512 .f32)
    (y : S2x96x384x384.Idx) : out0_12 (F := Ideal) z mk g β w s y = Rt z mk g β w s 0 y :=
  (congrArg _ (eq_ix4 y)).trans (o12_at z mk g β w s (y 0) (y 1) (y 2) (y 3))

theorem fin12 : (dats m 0 c).arrAt 12 (cfgs 0).N = Rt (b0 m c) (mkOf (b1 m c)) (b2 m c) (b3 m c) (b4 m c) (b5 m c) 0 := by
  refine (dats m 0 c).arrAt_eq_of_covers 12 _ (by decide +kernel) fun t _ y => ?_
  blk_simp
  rw [after0_12, blk0, blk1, blk2, blk3, blk4, blk5, mask]
  refine (pt12 (b0 m c) (mkOf (b1 m c)) (b2 m c) (b3 m c) (b4 m c) (b5 m c) y).trans (congrArg (Rt (b0 m c) (mkOf (b1 m c)) (b2 m c) (b3 m c) (b4 m c) (b5 m c) 0) ?_)
  funext a
  apply Fin.ext
  match a with
  | ⟨0, _⟩ => blk_simp [(idx t).2.2.2.2.2.2.2.1]
  | ⟨1, _⟩ => blk_simp [(idx t).2.2.2.2.2.2.2.1]
  | ⟨2, _⟩ => blk_simp [(idx t).2.2.2.2.2.2.2.1]
  | ⟨3, _⟩ => blk_simp [(idx t).2.2.2.2.2.2.2.1]

theorem pt13 (z : Vec Ideal S2x384x384x128 .bf16) (mk : Vec Ideal S2x384x384 .f32) (g β : Vec Ideal S128 .f32) (w : Vec Ideal S128x512 .fp8e4m3) (s : Vec Ideal S512 .f32)
    (y : S2x96x384x384.Idx) : out0_13 (F := Ideal) z mk g β w s y = Rt z mk g β w s 1 y :=
  (congrArg _ (eq_ix4 y)).trans (o13_at z mk g β w s (y 0) (y 1) (y 2) (y 3))

theorem fin13 : (dats m 0 c).arrAt 13 (cfgs 0).N = Rt (b0 m c) (mkOf (b1 m c)) (b2 m c) (b3 m c) (b4 m c) (b5 m c) 1 := by
  refine (dats m 0 c).arrAt_eq_of_covers 13 _ (by decide +kernel) fun t _ y => ?_
  blk_simp
  rw [after0_13, blk0, blk1, blk2, blk3, blk4, blk5, mask]
  refine (pt13 (b0 m c) (mkOf (b1 m c)) (b2 m c) (b3 m c) (b4 m c) (b5 m c) y).trans (congrArg (Rt (b0 m c) (mkOf (b1 m c)) (b2 m c) (b3 m c) (b4 m c) (b5 m c) 1) ?_)
  funext a
  apply Fin.ext
  match a with
  | ⟨0, _⟩ => blk_simp [(idx t).2.2.2.2.2.2.2.2]
  | ⟨1, _⟩ => blk_simp [(idx t).2.2.2.2.2.2.2.2]
  | ⟨2, _⟩ => blk_simp [(idx t).2.2.2.2.2.2.2.2]
  | ⟨3, _⟩ => blk_simp [(idx t).2.2.2.2.2.2.2.2]

omit c in
/-- The run: each result array at its function of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v20_0) = Rln (b0 m c) (b2 m c) (b3 m c)
      ∧ r.2.mem ((c.tc : Thread nD τ).loc main_v20_1) = Rs1 (b0 m c) (b2 m c) (b3 m c)
      ∧ r.2.mem ((c.tc : Thread nD τ).loc main_v20_2) = Rq (b0 m c) (mkOf (b1 m c)) (b2 m c) (b3 m c) (b4 m c) (b5 m c) 0
      ∧ r.2.mem ((c.tc : Thread nD τ).loc main_v20_3) = Rs (b0 m c) (mkOf (b1 m c)) (b2 m c) (b3 m c) (b4 m c) (b5 m c) 0
      ∧ r.2.mem ((c.tc : Thread nD τ).loc main_v20_4) = Rq (b0 m c) (mkOf (b1 m c)) (b2 m c) (b3 m c) (b4 m c) (b5 m c) 1
      ∧ r.2.mem ((c.tc : Thread nD τ).loc main_v20_5) = Rs (b0 m c) (mkOf (b1 m c)) (b2 m c) (b3 m c) (b4 m c) (b5 m c) 1
      ∧ r.2.mem ((c.tc : Thread nD τ).loc main_v20_6) = Rt (b0 m c) (mkOf (b1 m c)) (b2 m c) (b3 m c) (b4 m c) (b5 m c) 0
      ∧ r.2.mem ((c.tc : Thread nD τ).loc main_v20_7) = Rt (b0 m c) (mkOf (b1 m c)) (b2 m c) (b3 m c) (b4 m c) (b5 m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (fin6 m c), ((h.1 c).1 7).trans (fin7 m c), ((h.1 c).1 8).trans (fin8 m c), ((h.1 c).1 9).trans (fin9 m c), ((h.1 c).1 10).trans (fin10 m c), ((h.1 c).1 11).trans (fin11 m c), ((h.1 c).1 12).trans (fin12 m c), ((h.1 c).1 13).trans (fin13 m c), h.2 c⟩)
    (θ_run_and (run_main m ρ) (unchanged m ρ))

end Cert.OperandsReferenceIdeal.RefVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Operands
public import proofs.«01_k».proof.Proof.Gen.Operands.Skeleton
public import proofs.«01_k».proof.Proof.Gen.Operands.Loops
public import proofs.«01_k».proof.Proof.Gen.Operands.Launch
public import proofs.«01_k».proof.Proof.Gen.OperandsIdeal
public import proofs.«01_k».proof.Proof.Gen.OperandsIdeal.Skeleton
public import proofs.«01_k».proof.Proof.Gen.OperandsIdeal.Loops
public import proofs.«01_k».proof.Proof.Gen.OperandsIdeal.Launch
public import proofs.«01_k».proof.Proof.Gen.OperandsReferenceIdeal
public import proofs.«01_k».proof.Proof.Gen.OperandsReferenceIdeal.Skeleton
public import proofs.«01_k».proof.Proof.Gen.OperandsReferenceIdeal.Launch
public import proofs.«01_k».proof.Proof.Gen.OperandsReferenceIdeal.Points
public import proofs.«01_k».proof.Proof.Gen.OperandsReferenceIdeal.Frame
public import proofs.«01_k».proof.Proof.OutputValue
public import proofs.«01_k».proof.Proof.OperandsFrame
public import proofs.«01_k».proof.Proof.OperandsResults
public import proofs.«01_k».proof.Proof.OperandsRefArr
public import Idealize.ShloMosaic.Adequacy
public import Idealize.ShloMosaic.Init

@[expose] public section

noncomputable section

namespace Cert.Proof

open Idealize.ShloMosaic Idealize.SL.Sem Cert.Kernel

/-- The kernel and the reference, from one memory of arguments, end with equal result arrays. -/
theorem algebraic : Cert.algebraic_KernelIdeal_ReferenceIdeal := by
  pair_intro
  · run_from Cert.KernelIdeal.Gen.run_main m g
  · run_from Cert.ReferenceIdeal.Value.run m' g'
    exact (Cert.KernelIdeal.OutVal.final m c).symm

/-- The operand call and its reference, from one memory of arguments, end with equal result arrays. -/
theorem algebraic_operands : Cert.algebraic_OperandsIdeal_OperandsReferenceIdeal := by
  intro m g m' g' _ hargs
  refine ⟨_, _, _, _, _, _, _, _, Cert.OperandsIdeal.OpVal.run m trivial g, ?_⟩
  refine (θ_run _ _ _).mono (fun r h c => ?_) (Cert.OperandsReferenceIdeal.RefVal.run m' g')
  obtain ⟨e0, e1, e2, e3, e4, e5⟩ := hargs c
  obtain ⟨h0, h1, h2, h3, h4, h5, h6, h7, hk⟩ := h c
  have E0 : Cert.OperandsReferenceIdeal.RefVal.b0 m' c = Cert.OperandsIdeal.OpVal.a0 m c := e0
  have E1 : Cert.OperandsReferenceIdeal.RefVal.b1 m' c = Cert.OperandsIdeal.OpVal.a1 m c := e1
  have E2 : Cert.OperandsReferenceIdeal.RefVal.b2 m' c = Cert.OperandsIdeal.OpVal.a2 m c := e2
  have E3 : Cert.OperandsReferenceIdeal.RefVal.b3 m' c = Cert.OperandsIdeal.OpVal.a3 m c := e3
  have E4 : Cert.OperandsReferenceIdeal.RefVal.b4 m' c = Cert.OperandsIdeal.OpVal.a4 m c := e4
  have E5 : Cert.OperandsReferenceIdeal.RefVal.b5 m' c = Cert.OperandsIdeal.OpVal.a5 m c := e5
  rw [E0, E2, E3] at h0 h1
  rw [E0, E1, E2, E3, E4, E5] at h2 h3 h4 h5 h6 h7
  exact ⟨h0, h1, h2, h3, h4, h5, h6, h7, hk⟩

theorem claim : Cert.Claim := ⟨Cert.Kernel.Gen.facts, Cert.KernelIdeal.Gen.facts, Cert.ReferenceIdeal.Gen.facts,
  Cert.Operands.Gen.facts, Cert.OperandsIdeal.Gen.facts, Cert.OperandsReferenceIdeal.Gen.facts,
  fun m ρ _ => Cert.Kernel.Gen.frame m ρ, fun m ρ _ => Cert.KernelIdeal.Gen.frame m ρ,
  fun m ρ _ => Cert.ReferenceIdeal.Gen.frame m ρ,
  fun m ρ _ => Cert.Operands.Gen.frame m ρ trivial, fun m ρ _ => Cert.OperandsIdeal.Gen.frame m ρ trivial,
  fun m ρ _ => Cert.OperandsReferenceIdeal.Gen.frame m ρ, trivial, algebraic, trivial, algebraic_operands⟩

end Cert.Proof

end
